-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_range [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tokens_in_range [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tokens_in_range [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)) (v3 : (c : Dev Cert.KernelIdeal.nD) → Buf (Elt Ideal) ((c.tc : Thread Cert.KernelIdeal.nD Cert.KernelIdeal.τ).loc Cert.KernelIdeal.main_v62_3)) (v4 : (c : Dev Cert.KernelIdeal.nD) → Buf (Elt Ideal) ((c.tc : Thread Cert.KernelIdeal.nD Cert.KernelIdeal.τ).loc Cert.KernelIdeal.main_v62_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_v62_3) = v3 c
          ∧ r.2.mem ((c.tc : Thread Cert.KernelIdeal.nD Cert.KernelIdeal.τ).loc Cert.KernelIdeal.main_v62_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel)
    ∧ quiescent_KernelIdeal (hKernelIdeal := hKernelIdeal)
    ∧ quiescent_KernelIdeal_pre_tokens_in_range (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal_pre_tokens_in_range (hKernelIdeal := hKernelIdeal) (hReferenceIdeal := hReferenceIdeal) (hPre_tokens_in_range := hPre_tokens_in_range)
-- ==== Pre_tokens_in_range.lean ====
abbrev S16384x3x50 : Shape := ⟨3, ![16384, 3, 50]⟩
abbrev S16384x2 : Shape := ⟨2, ![16384, 2]⟩
abbrev S11x1024 : Shape := ⟨2, ![11, 1024]⟩
abbrev S3x1x1024 : Shape := ⟨3, ![3, 1, 1024]⟩
abbrev S4x1024 : Shape := ⟨2, ![4, 1024]⟩
abbrev S2x1x1024 : Shape := ⟨3, ![2, 1, 1024]⟩
abbrev S2048x1 : Shape := ⟨2, ![2048, 1]⟩
abbrev S1 : Shape := ⟨1, ![1]⟩
abbrev S_ : Shape := ⟨0, ![]⟩

class Facts : Prop where
  bcast_S_S16384x3x50 : S_.BroadcastsInDim S16384x3x50 (![] : Fin 0 → Fin S16384x3x50.rank)
  reducesTo_S16384x3x50_S_d0_1_2 : S16384x3x50.ReducesTo [0, 1, 2] S_
  h_S_ : 0 < S_.numel
  bcast_S_S16384x2 : S_.BroadcastsInDim S16384x2 (![] : Fin 0 → Fin S16384x2.rank)
  reducesTo_S16384x2_S_d0_1 : S16384x2.ReducesTo [0, 1] S_

variable [Facts]

def fn {F : FTy → Type} [FloatOps F] (main_arg0 : IVec S16384x3x50 32) (main_arg1 : IVec S16384x2 32) (main_arg2 : FVec F S11x1024 .f32) (main_arg3 : FVec F S3x1x1024 .f32) (main_arg4 : FVec F S4x1024 .f32) (main_arg5 : FVec F S2x1x1024 .f32) (main_arg6 : FVec F S2048x1 .f32) (main_arg7 : FVec F S1 .f32) : IVec S_ 1 :=
  let main_c : IVec S_ 32 := constantI S_ 32 0#32
  let main_v0 : IVec S16384x3x50 32 := broadcastInDim S16384x3x50 ![] bcast_S_S16384x3x50 main_c
  let main_v1 : IVec S16384x3x50 1 := cmpi .sge main_arg0 main_v0
  let main_c_0 : IVec S_ 32 := constantI S_ 32 11#32
  let main_v2 : IVec S16384x3x50 32 := broadcastInDim S16384x3x50 ![] bcast_S_S16384x3x50 main_c_0
  let main_v3 : IVec S16384x3x50 1 := cmpi .slt main_arg0 main_v2
  let main_v4 : IVec S16384x3x50 1 := andi main_v1 main_v3
  let main_c_1 : IVec S_ 1 := constantI S_ 1 1#1
  let main_v5 : IVec S_ 1 := (fun x v => Host.reduce IntOp.andi x v reducesTo_S16384x3x50_S_d0_1_2 h_S_) main_v4 main_c_1
  let main_c_2 : IVec S_ 32 := constantI S_ 32 0#32
  let main_v6 : IVec S16384x2 32 := broadcastInDim S16384x2 ![] bcast_S_S16384x2 main_c_2
  let main_v7 : IVec S16384x2 1 := cmpi .sge main_arg1 main_v6
  let main_c_3 : IVec S_ 32 := constantI S_ 32 4#32
  let main_v8 : IVec S16384x2 32 := broadcastInDim S16384x2 ![] bcast_S_S16384x2 main_c_3
  let main_v9 : IVec S16384x2 1 := cmpi .slt main_arg1 main_v8
  let main_v10 : IVec S16384x2 1 := andi main_v7 main_v9
  let main_c_4 : IVec S_ 1 := constantI S_ 1 1#1
  let main_v11 : IVec S_ 1 := (fun x v => Host.reduce IntOp.andi x v reducesTo_S16384x2_S_d0_1 h_S_) main_v10 main_c_4
  let main_v12 : IVec S_ 1 := andi main_v5 main_v11
  main_v12
-- ==== Kernel.lean ====
abbrev S16384x3x50 : Shape := ⟨3, ![16384, 3, 50]⟩
abbrev S16384x2 : Shape := ⟨2, ![16384, 2]⟩
abbrev S11x1024 : Shape := ⟨2, ![11, 1024]⟩
abbrev S3x1x1024 : Shape := ⟨3, ![3, 1, 1024]⟩
abbrev S4x1024 : Shape := ⟨2, ![4, 1024]⟩
abbrev S2x1x1024 : Shape := ⟨3, ![2, 1, 1024]⟩
abbrev S2048x1 : Shape := ⟨2, ![2048, 1]⟩
abbrev S1 : Shape := ⟨1, ![1]⟩
abbrev S3 : Shape := ⟨1, ![3]⟩
abbrev S_ : Shape := ⟨0, ![]⟩
abbrev S1x3x1 : Shape := ⟨3, ![1, 3, 1]⟩
abbrev S2 : Shape := ⟨1, ![2]⟩
abbrev S1x2 : Shape := ⟨2, ![1, 2]⟩
abbrev S16384x150 : Shape := ⟨2, ![16384, 150]⟩
abbrev S16384x152 : Shape := ⟨2, ![16384, 152]⟩
abbrev S3x1024 : Shape := ⟨2, ![3, 1024]⟩
abbrev S2x1024 : Shape := ⟨2, ![2, 1024]⟩
abbrev S1x11x1024 : Shape := ⟨3, ![1, 11, 1024]⟩
abbrev S3x11x1024 : Shape := ⟨3, ![3, 11, 1024]⟩
abbrev S33x1024 : Shape := ⟨2, ![33, 1024]⟩
abbrev S1x4x1024 : Shape := ⟨3, ![1, 4, 1024]⟩
abbrev S2x4x1024 : Shape := ⟨3, ![2, 4, 1024]⟩
abbrev S8x1024 : Shape := ⟨2, ![8, 1024]⟩
abbrev S48x1024 : Shape := ⟨2, ![48, 1024]⟩
abbrev S1x1 : Shape := ⟨2, ![1, 1]⟩
abbrev S16384x1024 : Shape := ⟨2, ![16384, 1024]⟩
abbrev S16384x1 : Shape := ⟨2, ![16384, 1]⟩
abbrev S256x152 : Shape := ⟨2, ![256, 152]⟩
abbrev S256x1024 : Shape := ⟨2, ![256, 1024]⟩
abbrev S256x1 : Shape := ⟨2, ![256, 1]⟩
abbrev S1x48 : Shape := ⟨2, ![1, 48]⟩
abbrev S256x48 : Shape := ⟨2, ![256, 48]⟩
abbrev S1024x1 : Shape := ⟨2, ![1024, 1]⟩

abbrev nBuf : Space → Nat
  | .hbm => 1088
  | .vmem => 20
  | .smem => 0
  | _ => 0

abbrev hbmTy0_0 (i : Nat) : BufTy := match i % 128 with
  | 0 => ⟨S16384x3x50, .i32⟩
  | 1 => ⟨S16384x2, .i32⟩
  | 2 => ⟨S11x1024, .f32⟩
  | 3 => ⟨S3x1x1024, .f32⟩
  | 4 => ⟨S4x1024, .f32⟩
  | 5 => ⟨S2x1x1024, .f32⟩
  | 6 => ⟨S2048x1, .f32⟩
  | 7 => ⟨S1, .f32⟩
  | 8 => ⟨S3, .i32⟩
  | 9 => ⟨S_, .i32⟩
  | 10 => ⟨S3, .i32⟩
  | 11 => ⟨S3, .i32⟩
  | 12 => ⟨S_, .i32⟩
  | 13 => ⟨S3, .i32⟩
  | 14 => ⟨S3, .i32⟩
  | 15 => ⟨S1x3x1, .i32⟩
  | 16 => ⟨S16384x3x50, .i32⟩
  | 17 => ⟨S16384x3x50, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S1x2, .i32⟩
  | 26 => ⟨S16384x2, .i32⟩
  | 27 => ⟨S16384x2, .i32⟩
  | 28 => ⟨S16384x150, .i32⟩
  | 29 => ⟨S16384x152, .i32⟩
  | 30 => ⟨S3x1024, .f32⟩
  | 31 => ⟨S3x1024, .f32⟩
  | 32 => ⟨S3x1024, .f32⟩
  | 33 => ⟨S_, .f32⟩
  | 34 => ⟨S3x1024, .f32⟩
  | 35 => ⟨S3x1024, .f32⟩
  | 36 => ⟨S_, .f32⟩
  | 37 => ⟨S3x1024, .f32⟩
  | 38 => ⟨S3x1024, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S1x11x1024, .f32⟩
  | 49 => ⟨S3x1x1024, .f32⟩
  | 50 => ⟨S3x11x1024, .f32⟩
  | 51 => ⟨S3x11x1024, .f32⟩
  | 52 => ⟨S3x11x1024, .f32⟩
  | 53 => ⟨S33x1024, .f32⟩
  | 54 => ⟨S1x4x1024, .f32⟩
  | 55 => ⟨S2x1x1024, .f32⟩
  | 56 => ⟨S2x4x1024, .f32⟩
  | 57 => ⟨S2x4x1024, .f32⟩
  | 58 => ⟨S2x4x1024, .f32⟩
  | 59 => ⟨S8x1024, .f32⟩
  | 60 => ⟨S_, .f32⟩
  | 61 => ⟨S48x1024, .f32⟩
  | 62 => ⟨S_, .i32⟩
  | 63 => ⟨S1, .i32⟩
  | 64 => ⟨S48x1024, .f32⟩
  | 65 => ⟨S_, .f32⟩
  | 66 => ⟨S48x1024, .f32⟩
  | 67 => ⟨S_, .i32⟩
  | 68 => ⟨S1, .i32⟩
  | 69 => ⟨S48x1024, .f32⟩
  | 70 => ⟨S_, .i32⟩
  | 71 => ⟨S_, .i32⟩
  | 72 => ⟨S_, .i32⟩
  | 73 => ⟨S_, .i32⟩
  | 74 => ⟨S1, .i32⟩
  | 75 => ⟨S_, .i32⟩
  | 76 => ⟨S_, .i32⟩
  | 77 => ⟨S_, .i32⟩
  | 78 => ⟨S1, .i32⟩
  | 79 => ⟨S2, .i32⟩
  | 80 => ⟨S_, .i32⟩
  | 81 => ⟨S_, .i32⟩
  | 82 => ⟨S_, .i32⟩
  | 83 => ⟨S1, .i32⟩
  | 84 => ⟨S_, .i32⟩
  | 85 => ⟨S_, .i32⟩
  | 86 => ⟨S1, .i32⟩
  | 87 => ⟨S2, .i32⟩
  | 88 => ⟨S1, .i32⟩
  | 89 => ⟨S_, .i32⟩
  | 90 => ⟨S1, .i32⟩
  | 91 => ⟨S_, .i32⟩
  | 92 => ⟨S1, .i32⟩
  | 93 => ⟨S1, .i32⟩
  | 94 => ⟨S_, .i32⟩
  | 95 => ⟨S_, .i32⟩
  | 96 => ⟨S_, .i32⟩
  | 97 => ⟨S1, .i32⟩
  | 98 => ⟨S1, .i32⟩
  | 99 => ⟨S1, .i32⟩
  | 100 => ⟨S1, .i32⟩
  | 101 => ⟨S1, .i32⟩
  | 102 => ⟨S_, .i32⟩
  | 103 => ⟨S1, .i32⟩
  | 104 => ⟨S1, .i32⟩
  | 105 => ⟨S_, .i32⟩
  | 106 => ⟨S1, .i32⟩
  | 107 => ⟨S1, .i32⟩
  | 108 => ⟨S1, .i32⟩
  | 109 => ⟨S1, .i32⟩
  | 110 => ⟨S1, .i32⟩
  | 111 => ⟨S_, .i32⟩
  | 112 => ⟨S1, .i32⟩
  | 113 => ⟨S1, .i32⟩
  | 114 => ⟨S_, .i32⟩
  | 115 => ⟨S1, .i32⟩
  | 116 => ⟨S1, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S16384x3x50, .i32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S1, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S_, .i32⟩
  | 18 => ⟨S1, .i32⟩
  | 19 => ⟨S1, .i32⟩
  | 20 => ⟨S_, .i32⟩
  | 21 => ⟨S1, .i32⟩
  | 22 => ⟨S1, .i32⟩
  | 23 => ⟨S1, .i32⟩
  | 24 => ⟨S1, .i32⟩
  | 25 => ⟨S1, .i32⟩
  | 26 => ⟨S_, .i32⟩
  | 27 => ⟨S1, .i32⟩
  | 28 => ⟨S1, .i32⟩
  | 29 => ⟨S_, .i32⟩
  | 30 => ⟨S1, .i32⟩
  | 31 => ⟨S1, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S1, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S_, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S_, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S16384x3x50, .i32⟩

abbrev hbmTy0_2 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S_, .i32⟩
  | 6 => ⟨S1, .i32⟩
  | 7 => ⟨S1, .i32⟩
  | 8 => ⟨S1, .i32⟩
  | 9 => ⟨S1, .i32⟩
  | 10 => ⟨S1, .i32⟩
  | 11 => ⟨S1, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S_, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S1, .i32⟩
  | 55 => ⟨S1, .i32⟩
  | 56 => ⟨S1, .i32⟩
  | 57 => ⟨S_, .i32⟩
  | 58 => ⟨S1, .i32⟩
  | 59 => ⟨S1, .i32⟩
  | 60 => ⟨S2, .i32⟩
  | 61 => ⟨S_, .f32⟩
  | 62 => ⟨S_, .f32⟩
  | 63 => ⟨S_, .f32⟩
  | 64 => ⟨S_, .f32⟩
  | 65 => ⟨S1x1, .f32⟩
  | 66 => ⟨S1x1, .f32⟩
  | 67 => ⟨S1, .i32⟩
  | 68 => ⟨S_, .i32⟩
  | 69 => ⟨S1, .i32⟩
  | 70 => ⟨S_, .i32⟩
  | 71 => ⟨S16384x1024, .i64⟩
  | 72 => ⟨S16384x1024, .i64⟩
  | 73 => ⟨S_, .i64⟩
  | 74 => ⟨S16384x1024, .i64⟩
  | 75 => ⟨S16384x1024, .i64⟩
  | 76 => ⟨S_, .i64⟩
  | 77 => ⟨S16384x1024, .i64⟩
  | 78 => ⟨S16384x1024, .i64⟩
  | 79 => ⟨S16384x1024, .i64⟩
  | 80 => ⟨S_, .i64⟩
  | 81 => ⟨S16384x1024, .i64⟩
  | 82 => ⟨S16384x1024, .i64⟩
  | 83 => ⟨S16384x1024, .i32⟩
  | 84 => ⟨S16384x1024, .i32⟩
  | 85 => ⟨S_, .i32⟩
  | 86 => ⟨S_, .i32⟩
  | 87 => ⟨S_, .i32⟩
  | 88 => ⟨S16384x1024, .i32⟩
  | 89 => ⟨S16384x1024, .i32⟩
  | 90 => ⟨S16384x1024, .i32⟩
  | 91 => ⟨S16384x1024, .i32⟩
  | 92 => ⟨S16384x1024, .i32⟩
  | 93 => ⟨S_, .i32⟩
  | 94 => ⟨S16384x1024, .i32⟩
  | 95 => ⟨S16384x1024, .i32⟩
  | 96 => ⟨S_, .i32⟩
  | 97 => ⟨S16384x1024, .i32⟩
  | 98 => ⟨S16384x1024, .i32⟩
  | 99 => ⟨S16384x1024, .i32⟩
  | 100 => ⟨S16384x1024, .i32⟩
  | 101 => ⟨S16384x1024, .i32⟩
  | 102 => ⟨S_, .i32⟩
  | 103 => ⟨S16384x1024, .i32⟩
  | 104 => ⟨S16384x1024, .i32⟩
  | 105 => ⟨S_, .i32⟩
  | 106 => ⟨S16384x1024, .i32⟩
  | 107 => ⟨S16384x1024, .i32⟩
  | 108 => ⟨S16384x1024, .i32⟩
  | 109 => ⟨S16384x1024, .i32⟩
  | 110 => ⟨S16384x1024, .i32⟩
  | 111 => ⟨S_, .i32⟩
  | 112 => ⟨S16384x1024, .i32⟩
  | 113 => ⟨S16384x1024, .i32⟩
  | 114 => ⟨S_, .i32⟩
  | 115 => ⟨S16384x1024, .i32⟩
  | 116 => ⟨S16384x1024, .i32⟩
  | 117 => ⟨S16384x1024, .i32⟩
  | 118 => ⟨S16384x1024, .i32⟩
  | 119 => ⟨S16384x1024, .i32⟩
  | 120 => ⟨S_, .i32⟩
  | 121 => ⟨S16384x1024, .i32⟩
  | 122 => ⟨S16384x1024, .i32⟩
  | 123 => ⟨S_, .i32⟩
  | 124 => ⟨S16384x1024, .i32⟩
  | 125 => ⟨S16384x1024, .i32⟩
  | 126 => ⟨S16384x1024, .i32⟩
  | 127 => ⟨S16384x1024, .i32⟩
  | _ => ⟨S16384x3x50, .i32⟩

abbrev hbmTy0_3 (i : Nat) : BufTy := match i % 128 with
  | 0 => ⟨S16384x1024, .i32⟩
  | 1 => ⟨S16384x1024, .i32⟩
  | 2 => ⟨S16384x1024, .i32⟩
  | 3 => ⟨S16384x1024, .i32⟩
  | 4 => ⟨S_, .i32⟩
  | 5 => ⟨S16384x1024, .i32⟩
  | 6 => ⟨S16384x1024, .i32⟩
  | 7 => ⟨S16384x1024, .i32⟩
  | 8 => ⟨S_, .i32⟩
  | 9 => ⟨S16384x1024, .i32⟩
  | 10 => ⟨S16384x1024, .i32⟩
  | 11 => ⟨S_, .i32⟩
  | 12 => ⟨S16384x1024, .i32⟩
  | 13 => ⟨S16384x1024, .i32⟩
  | 14 => ⟨S16384x1024, .i32⟩
  | 15 => ⟨S16384x1024, .i32⟩
  | 16 => ⟨S16384x1024, .i32⟩
  | 17 => ⟨S_, .i32⟩
  | 18 => ⟨S16384x1024, .i32⟩
  | 19 => ⟨S16384x1024, .i32⟩
  | 20 => ⟨S_, .i32⟩
  | 21 => ⟨S16384x1024, .i32⟩
  | 22 => ⟨S16384x1024, .i32⟩
  | 23 => ⟨S16384x1024, .i32⟩
  | 24 => ⟨S16384x1024, .i32⟩
  | 25 => ⟨S16384x1024, .i32⟩
  | 26 => ⟨S_, .i32⟩
  | 27 => ⟨S16384x1024, .i32⟩
  | 28 => ⟨S16384x1024, .i32⟩
  | 29 => ⟨S_, .i32⟩
  | 30 => ⟨S16384x1024, .i32⟩
  | 31 => ⟨S16384x1024, .i32⟩
  | 32 => ⟨S16384x1024, .i32⟩
  | 33 => ⟨S16384x1024, .i32⟩
  | 34 => ⟨S16384x1024, .i32⟩
  | 35 => ⟨S_, .i32⟩
  | 36 => ⟨S16384x1024, .i32⟩
  | 37 => ⟨S16384x1024, .i32⟩
  | 38 => ⟨S_, .i32⟩
  | 39 => ⟨S16384x1024, .i32⟩
  | 40 => ⟨S16384x1024, .i32⟩
  | 41 => ⟨S16384x1024, .i32⟩
  | 42 => ⟨S16384x1024, .i32⟩
  | 43 => ⟨S16384x1024, .i32⟩
  | 44 => ⟨S16384x1024, .i32⟩
  | 45 => ⟨S16384x1024, .i32⟩
  | 46 => ⟨S16384x1024, .i32⟩
  | 47 => ⟨S_, .i32⟩
  | 48 => ⟨S16384x1024, .i32⟩
  | 49 => ⟨S16384x1024, .i32⟩
  | 50 => ⟨S16384x1024, .i32⟩
  | 51 => ⟨S_, .i32⟩
  | 52 => ⟨S16384x1024, .i32⟩
  | 53 => ⟨S16384x1024, .i32⟩
  | 54 => ⟨S_, .i32⟩
  | 55 => ⟨S16384x1024, .i32⟩
  | 56 => ⟨S16384x1024, .i32⟩
  | 57 => ⟨S16384x1024, .i32⟩
  | 58 => ⟨S16384x1024, .i32⟩
  | 59 => ⟨S16384x1024, .i32⟩
  | 60 => ⟨S_, .i32⟩
  | 61 => ⟨S16384x1024, .i32⟩
  | 62 => ⟨S16384x1024, .i32⟩
  | 63 => ⟨S_, .i32⟩
  | 64 => ⟨S16384x1024, .i32⟩
  | 65 => ⟨S16384x1024, .i32⟩
  | 66 => ⟨S16384x1024, .i32⟩
  | 67 => ⟨S16384x1024, .i32⟩
  | 68 => ⟨S16384x1024, .i32⟩
  | 69 => ⟨S_, .i32⟩
  | 70 => ⟨S16384x1024, .i32⟩
  | 71 => ⟨S16384x1024, .i32⟩
  | 72 => ⟨S_, .i32⟩
  | 73 => ⟨S16384x1024, .i32⟩
  | 74 => ⟨S16384x1024, .i32⟩
  | 75 => ⟨S16384x1024, .i32⟩
  | 76 => ⟨S16384x1024, .i32⟩
  | 77 => ⟨S16384x1024, .i32⟩
  | 78 => ⟨S_, .i32⟩
  | 79 => ⟨S16384x1024, .i32⟩
  | 80 => ⟨S16384x1024, .i32⟩
  | 81 => ⟨S_, .i32⟩
  | 82 => ⟨S16384x1024, .i32⟩
  | 83 => ⟨S16384x1024, .i32⟩
  | 84 => ⟨S16384x1024, .i32⟩
  | 85 => ⟨S16384x1024, .i32⟩
  | 86 => ⟨S16384x1024, .i32⟩
  | 87 => ⟨S16384x1024, .i32⟩
  | 88 => ⟨S16384x1024, .i32⟩
  | 89 => ⟨S16384x1024, .i32⟩
  | 90 => ⟨S_, .i32⟩
  | 91 => ⟨S16384x1024, .i32⟩
  | 92 => ⟨S16384x1024, .i32⟩
  | 93 => ⟨S16384x1024, .i32⟩
  | 94 => ⟨S_, .i32⟩
  | 95 => ⟨S16384x1024, .i32⟩
  | 96 => ⟨S16384x1024, .i32⟩
  | 97 => ⟨S_, .i32⟩
  | 98 => ⟨S16384x1024, .i32⟩
  | 99 => ⟨S16384x1024, .i32⟩
  | 100 => ⟨S16384x1024, .i32⟩
  | 101 => ⟨S16384x1024, .i32⟩
  | 102 => ⟨S16384x1024, .i32⟩
  | 103 => ⟨S_, .i32⟩
  | 104 => ⟨S16384x1024, .i32⟩
  | 105 => ⟨S16384x1024, .i32⟩
  | 106 => ⟨S_, .i32⟩
  | 107 => ⟨S16384x1024, .i32⟩
  | 108 => ⟨S16384x1024, .i32⟩
  | 109 => ⟨S16384x1024, .i32⟩
  | 110 => ⟨S16384x1024, .i32⟩
  | 111 => ⟨S16384x1024, .i32⟩
  | 112 => ⟨S_, .i32⟩
  | 113 => ⟨S16384x1024, .i32⟩
  | 114 => ⟨S16384x1024, .i32⟩
  | 115 => ⟨S_, .i32⟩
  | 116 => ⟨S16384x1024, .i32⟩
  | 117 => ⟨S16384x1024, .i32⟩
  | 118 => ⟨S16384x1024, .i32⟩
  | 119 => ⟨S16384x1024, .i32⟩
  | 120 => ⟨S16384x1024, .i32⟩
  | 121 => ⟨S_, .i32⟩
  | 122 => ⟨S16384x1024, .i32⟩
  | 123 => ⟨S16384x1024, .i32⟩
  | 124 => ⟨S_, .i32⟩
  | 125 => ⟨S16384x1024, .i32⟩
  | 126 => ⟨S16384x1024, .i32⟩
  | 127 => ⟨S16384x1024, .i32⟩
  | _ => ⟨S16384x3x50, .i32⟩

abbrev hbmTy0_4 (i : Nat) : BufTy := match i % 128 with
  | 0 => ⟨S16384x1024, .i32⟩
  | 1 => ⟨S16384x1024, .i32⟩
  | 2 => ⟨S16384x1024, .i32⟩
  | 3 => ⟨S16384x1024, .i32⟩
  | 4 => ⟨S16384x1024, .i32⟩
  | 5 => ⟨S_, .i32⟩
  | 6 => ⟨S16384x1024, .i32⟩
  | 7 => ⟨S16384x1024, .i32⟩
  | 8 => ⟨S16384x1024, .i32⟩
  | 9 => ⟨S_, .i32⟩
  | 10 => ⟨S16384x1024, .i32⟩
  | 11 => ⟨S16384x1024, .i32⟩
  | 12 => ⟨S_, .i32⟩
  | 13 => ⟨S16384x1024, .i32⟩
  | 14 => ⟨S16384x1024, .i32⟩
  | 15 => ⟨S16384x1024, .i32⟩
  | 16 => ⟨S16384x1024, .i32⟩
  | 17 => ⟨S16384x1024, .i32⟩
  | 18 => ⟨S_, .i32⟩
  | 19 => ⟨S16384x1024, .i32⟩
  | 20 => ⟨S16384x1024, .i32⟩
  | 21 => ⟨S_, .i32⟩
  | 22 => ⟨S16384x1024, .i32⟩
  | 23 => ⟨S16384x1024, .i32⟩
  | 24 => ⟨S16384x1024, .i32⟩
  | 25 => ⟨S16384x1024, .i32⟩
  | 26 => ⟨S16384x1024, .i32⟩
  | 27 => ⟨S_, .i32⟩
  | 28 => ⟨S16384x1024, .i32⟩
  | 29 => ⟨S16384x1024, .i32⟩
  | 30 => ⟨S_, .i32⟩
  | 31 => ⟨S16384x1024, .i32⟩
  | 32 => ⟨S16384x1024, .i32⟩
  | 33 => ⟨S16384x1024, .i32⟩
  | 34 => ⟨S16384x1024, .i32⟩
  | 35 => ⟨S16384x1024, .i32⟩
  | 36 => ⟨S_, .i32⟩
  | 37 => ⟨S16384x1024, .i32⟩
  | 38 => ⟨S16384x1024, .i32⟩
  | 39 => ⟨S_, .i32⟩
  | 40 => ⟨S16384x1024, .i32⟩
  | 41 => ⟨S16384x1024, .i32⟩
  | 42 => ⟨S16384x1024, .i32⟩
  | 43 => ⟨S16384x1024, .i32⟩
  | 44 => ⟨S16384x1024, .i32⟩
  | 45 => ⟨S16384x1024, .i32⟩
  | 46 => ⟨S16384x1024, .i32⟩
  | 47 => ⟨S16384x1024, .i32⟩
  | 48 => ⟨S_, .i32⟩
  | 49 => ⟨S16384x1024, .i32⟩
  | 50 => ⟨S16384x1024, .i32⟩
  | 51 => ⟨S16384x1024, .i32⟩
  | 52 => ⟨S_, .i32⟩
  | 53 => ⟨S16384x1024, .i32⟩
  | 54 => ⟨S16384x1024, .i32⟩
  | 55 => ⟨S_, .i32⟩
  | 56 => ⟨S16384x1024, .i32⟩
  | 57 => ⟨S16384x1024, .i32⟩
  | 58 => ⟨S16384x1024, .f32⟩
  | 59 => ⟨S_, .f32⟩
  | 60 => ⟨S16384x1024, .f32⟩
  | 61 => ⟨S16384x1024, .f32⟩
  | 62 => ⟨S1x1, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | 69 => ⟨S_, .i32⟩
  | 70 => ⟨S_, .i32⟩
  | 71 => ⟨S_, .i32⟩
  | 72 => ⟨S1, .i32⟩
  | 73 => ⟨S_, .i32⟩
  | 74 => ⟨S_, .i32⟩
  | 75 => ⟨S1, .i32⟩
  | 76 => ⟨S2, .i32⟩
  | 77 => ⟨S1, .i32⟩
  | 78 => ⟨S_, .i32⟩
  | 79 => ⟨S1, .i32⟩
  | 80 => ⟨S_, .i32⟩
  | 81 => ⟨S1, .i32⟩
  | 82 => ⟨S1, .i32⟩
  | 83 => ⟨S_, .i32⟩
  | 84 => ⟨S_, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S_, .i32⟩
  | 101 => ⟨S1, .i32⟩
  | 102 => ⟨S1, .i32⟩
  | 103 => ⟨S_, .i32⟩
  | 104 => ⟨S1, .i32⟩
  | 105 => ⟨S1, .i32⟩
  | 106 => ⟨S1, .i32⟩
  | 107 => ⟨S1, .i32⟩
  | 108 => ⟨S1, .i32⟩
  | 109 => ⟨S_, .i32⟩
  | 110 => ⟨S1, .i32⟩
  | 111 => ⟨S1, .i32⟩
  | 112 => ⟨S_, .i32⟩
  | 113 => ⟨S1, .i32⟩
  | 114 => ⟨S1, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S_, .i32⟩
  | 122 => ⟨S1, .i32⟩
  | 123 => ⟨S1, .i32⟩
  | 124 => ⟨S1, .i32⟩
  | 125 => ⟨S1, .i32⟩
  | 126 => ⟨S1, .i32⟩
  | 127 => ⟨S1, .i32⟩
  | _ => ⟨S16384x3x50, .i32⟩

abbrev hbmTy0_5 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S1, .i32⟩
  | 6 => ⟨S_, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S1, .i32⟩
  | 14 => ⟨S1, .i32⟩
  | 15 => ⟨S_, .i32⟩
  | 16 => ⟨S1, .i32⟩
  | 17 => ⟨S1, .i32⟩
  | 18 => ⟨S_, .i32⟩
  | 19 => ⟨S1, .i32⟩
  | 20 => ⟨S1, .i32⟩
  | 21 => ⟨S1, .i32⟩
  | 22 => ⟨S1, .i32⟩
  | 23 => ⟨S1, .i32⟩
  | 24 => ⟨S_, .i32⟩
  | 25 => ⟨S1, .i32⟩
  | 26 => ⟨S1, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S_, .i32⟩
  | 50 => ⟨S1, .i32⟩
  | 51 => ⟨S1, .i32⟩
  | 52 => ⟨S_, .i32⟩
  | 53 => ⟨S1, .i32⟩
  | 54 => ⟨S1, .i32⟩
  | 55 => ⟨S1, .i32⟩
  | 56 => ⟨S1, .i32⟩
  | 57 => ⟨S1, .i32⟩
  | 58 => ⟨S_, .i32⟩
  | 59 => ⟨S1, .i32⟩
  | 60 => ⟨S1, .i32⟩
  | 61 => ⟨S_, .i32⟩
  | 62 => ⟨S1, .i32⟩
  | 63 => ⟨S1, .i32⟩
  | 64 => ⟨S1, .i32⟩
  | 65 => ⟨S1, .i32⟩
  | 66 => ⟨S1, .i32⟩
  | 67 => ⟨S_, .i32⟩
  | 68 => ⟨S1, .i32⟩
  | 69 => ⟨S1, .i32⟩
  | 70 => ⟨S_, .i32⟩
  | 71 => ⟨S1, .i32⟩
  | 72 => ⟨S1, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S1, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S_, .i32⟩
  | 96 => ⟨S1, .i32⟩
  | 97 => ⟨S1, .i32⟩
  | 98 => ⟨S1, .i32⟩
  | 99 => ⟨S1, .i32⟩
  | 100 => ⟨S1, .i32⟩
  | 101 => ⟨S_, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S1, .i32⟩
  | 109 => ⟨S1, .i32⟩
  | 110 => ⟨S_, .i32⟩
  | 111 => ⟨S1, .i32⟩
  | 112 => ⟨S1, .i32⟩
  | 113 => ⟨S_, .i32⟩
  | 114 => ⟨S1, .i32⟩
  | 115 => ⟨S1, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S16384x3x50, .i32⟩

abbrev hbmTy0_6 (i : Nat) : BufTy := match i % 128 with
  | 0 => ⟨S1, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S_, .i32⟩
  | 11 => ⟨S1, .i32⟩
  | 12 => ⟨S1, .i32⟩
  | 13 => ⟨S1, .i32⟩
  | 14 => ⟨S1, .i32⟩
  | 15 => ⟨S1, .i32⟩
  | 16 => ⟨S_, .i32⟩
  | 17 => ⟨S1, .i32⟩
  | 18 => ⟨S1, .i32⟩
  | 19 => ⟨S_, .i32⟩
  | 20 => ⟨S1, .i32⟩
  | 21 => ⟨S1, .i32⟩
  | 22 => ⟨S1, .i32⟩
  | 23 => ⟨S1, .i32⟩
  | 24 => ⟨S1, .i32⟩
  | 25 => ⟨S_, .i32⟩
  | 26 => ⟨S1, .i32⟩
  | 27 => ⟨S1, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S1, .i32⟩
  | 44 => ⟨S1, .i32⟩
  | 45 => ⟨S1, .i32⟩
  | 46 => ⟨S_, .i32⟩
  | 47 => ⟨S1, .i32⟩
  | 48 => ⟨S1, .i32⟩
  | 49 => ⟨S2, .i32⟩
  | 50 => ⟨S_, .f32⟩
  | 51 => ⟨S_, .f32⟩
  | 52 => ⟨S_, .f32⟩
  | 53 => ⟨S_, .f32⟩
  | 54 => ⟨S1x1, .f32⟩
  | 55 => ⟨S1x1, .f32⟩
  | 56 => ⟨S1, .i32⟩
  | 57 => ⟨S_, .i32⟩
  | 58 => ⟨S1, .i32⟩
  | 59 => ⟨S_, .i32⟩
  | 60 => ⟨S16384x1024, .i64⟩
  | 61 => ⟨S16384x1024, .i64⟩
  | 62 => ⟨S_, .i64⟩
  | 63 => ⟨S16384x1024, .i64⟩
  | 64 => ⟨S16384x1024, .i64⟩
  | 65 => ⟨S_, .i64⟩
  | 66 => ⟨S16384x1024, .i64⟩
  | 67 => ⟨S16384x1024, .i64⟩
  | 68 => ⟨S16384x1024, .i64⟩
  | 69 => ⟨S_, .i64⟩
  | 70 => ⟨S16384x1024, .i64⟩
  | 71 => ⟨S16384x1024, .i64⟩
  | 72 => ⟨S16384x1024, .i32⟩
  | 73 => ⟨S16384x1024, .i32⟩
  | 74 => ⟨S_, .i32⟩
  | 75 => ⟨S_, .i32⟩
  | 76 => ⟨S_, .i32⟩
  | 77 => ⟨S16384x1024, .i32⟩
  | 78 => ⟨S16384x1024, .i32⟩
  | 79 => ⟨S16384x1024, .i32⟩
  | 80 => ⟨S16384x1024, .i32⟩
  | 81 => ⟨S16384x1024, .i32⟩
  | 82 => ⟨S_, .i32⟩
  | 83 => ⟨S16384x1024, .i32⟩
  | 84 => ⟨S16384x1024, .i32⟩
  | 85 => ⟨S_, .i32⟩
  | 86 => ⟨S16384x1024, .i32⟩
  | 87 => ⟨S16384x1024, .i32⟩
  | 88 => ⟨S16384x1024, .i32⟩
  | 89 => ⟨S16384x1024, .i32⟩
  | 90 => ⟨S16384x1024, .i32⟩
  | 91 => ⟨S_, .i32⟩
  | 92 => ⟨S16384x1024, .i32⟩
  | 93 => ⟨S16384x1024, .i32⟩
  | 94 => ⟨S_, .i32⟩
  | 95 => ⟨S16384x1024, .i32⟩
  | 96 => ⟨S16384x1024, .i32⟩
  | 97 => ⟨S16384x1024, .i32⟩
  | 98 => ⟨S16384x1024, .i32⟩
  | 99 => ⟨S16384x1024, .i32⟩
  | 100 => ⟨S_, .i32⟩
  | 101 => ⟨S16384x1024, .i32⟩
  | 102 => ⟨S16384x1024, .i32⟩
  | 103 => ⟨S_, .i32⟩
  | 104 => ⟨S16384x1024, .i32⟩
  | 105 => ⟨S16384x1024, .i32⟩
  | 106 => ⟨S16384x1024, .i32⟩
  | 107 => ⟨S16384x1024, .i32⟩
  | 108 => ⟨S16384x1024, .i32⟩
  | 109 => ⟨S_, .i32⟩
  | 110 => ⟨S16384x1024, .i32⟩
  | 111 => ⟨S16384x1024, .i32⟩
  | 112 => ⟨S_, .i32⟩
  | 113 => ⟨S16384x1024, .i32⟩
  | 114 => ⟨S16384x1024, .i32⟩
  | 115 => ⟨S16384x1024, .i32⟩
  | 116 => ⟨S16384x1024, .i32⟩
  | 117 => ⟨S16384x1024, .i32⟩
  | 118 => ⟨S16384x1024, .i32⟩
  | 119 => ⟨S16384x1024, .i32⟩
  | 120 => ⟨S16384x1024, .i32⟩
  | 121 => ⟨S_, .i32⟩
  | 122 => ⟨S16384x1024, .i32⟩
  | 123 => ⟨S16384x1024, .i32⟩
  | 124 => ⟨S16384x1024, .i32⟩
  | 125 => ⟨S_, .i32⟩
  | 126 => ⟨S16384x1024, .i32⟩
  | 127 => ⟨S16384x1024, .i32⟩
  | _ => ⟨S16384x3x50, .i32⟩

abbrev hbmTy0_7 (i : Nat) : BufTy := match i % 128 with
  | 0 => ⟨S_, .i32⟩
  | 1 => ⟨S16384x1024, .i32⟩
  | 2 => ⟨S16384x1024, .i32⟩
  | 3 => ⟨S16384x1024, .i32⟩
  | 4 => ⟨S16384x1024, .i32⟩
  | 5 => ⟨S16384x1024, .i32⟩
  | 6 => ⟨S_, .i32⟩
  | 7 => ⟨S16384x1024, .i32⟩
  | 8 => ⟨S16384x1024, .i32⟩
  | 9 => ⟨S_, .i32⟩
  | 10 => ⟨S16384x1024, .i32⟩
  | 11 => ⟨S16384x1024, .i32⟩
  | 12 => ⟨S16384x1024, .i32⟩
  | 13 => ⟨S16384x1024, .i32⟩
  | 14 => ⟨S16384x1024, .i32⟩
  | 15 => ⟨S_, .i32⟩
  | 16 => ⟨S16384x1024, .i32⟩
  | 17 => ⟨S16384x1024, .i32⟩
  | 18 => ⟨S_, .i32⟩
  | 19 => ⟨S16384x1024, .i32⟩
  | 20 => ⟨S16384x1024, .i32⟩
  | 21 => ⟨S16384x1024, .i32⟩
  | 22 => ⟨S16384x1024, .i32⟩
  | 23 => ⟨S16384x1024, .i32⟩
  | 24 => ⟨S_, .i32⟩
  | 25 => ⟨S16384x1024, .i32⟩
  | 26 => ⟨S16384x1024, .i32⟩
  | 27 => ⟨S_, .i32⟩
  | 28 => ⟨S16384x1024, .i32⟩
  | 29 => ⟨S16384x1024, .i32⟩
  | 30 => ⟨S16384x1024, .i32⟩
  | 31 => ⟨S16384x1024, .i32⟩
  | 32 => ⟨S16384x1024, .i32⟩
  | 33 => ⟨S16384x1024, .i32⟩
  | 34 => ⟨S16384x1024, .i32⟩
  | 35 => ⟨S16384x1024, .i32⟩
  | 36 => ⟨S_, .i32⟩
  | 37 => ⟨S16384x1024, .i32⟩
  | 38 => ⟨S16384x1024, .i32⟩
  | 39 => ⟨S16384x1024, .i32⟩
  | 40 => ⟨S_, .i32⟩
  | 41 => ⟨S16384x1024, .i32⟩
  | 42 => ⟨S16384x1024, .i32⟩
  | 43 => ⟨S_, .i32⟩
  | 44 => ⟨S16384x1024, .i32⟩
  | 45 => ⟨S16384x1024, .i32⟩
  | 46 => ⟨S16384x1024, .i32⟩
  | 47 => ⟨S16384x1024, .i32⟩
  | 48 => ⟨S16384x1024, .i32⟩
  | 49 => ⟨S_, .i32⟩
  | 50 => ⟨S16384x1024, .i32⟩
  | 51 => ⟨S16384x1024, .i32⟩
  | 52 => ⟨S_, .i32⟩
  | 53 => ⟨S16384x1024, .i32⟩
  | 54 => ⟨S16384x1024, .i32⟩
  | 55 => ⟨S16384x1024, .i32⟩
  | 56 => ⟨S16384x1024, .i32⟩
  | 57 => ⟨S16384x1024, .i32⟩
  | 58 => ⟨S_, .i32⟩
  | 59 => ⟨S16384x1024, .i32⟩
  | 60 => ⟨S16384x1024, .i32⟩
  | 61 => ⟨S_, .i32⟩
  | 62 => ⟨S16384x1024, .i32⟩
  | 63 => ⟨S16384x1024, .i32⟩
  | 64 => ⟨S16384x1024, .i32⟩
  | 65 => ⟨S16384x1024, .i32⟩
  | 66 => ⟨S16384x1024, .i32⟩
  | 67 => ⟨S_, .i32⟩
  | 68 => ⟨S16384x1024, .i32⟩
  | 69 => ⟨S16384x1024, .i32⟩
  | 70 => ⟨S_, .i32⟩
  | 71 => ⟨S16384x1024, .i32⟩
  | 72 => ⟨S16384x1024, .i32⟩
  | 73 => ⟨S16384x1024, .i32⟩
  | 74 => ⟨S16384x1024, .i32⟩
  | 75 => ⟨S16384x1024, .i32⟩
  | 76 => ⟨S16384x1024, .i32⟩
  | 77 => ⟨S16384x1024, .i32⟩
  | 78 => ⟨S16384x1024, .i32⟩
  | 79 => ⟨S_, .i32⟩
  | 80 => ⟨S16384x1024, .i32⟩
  | 81 => ⟨S16384x1024, .i32⟩
  | 82 => ⟨S16384x1024, .i32⟩
  | 83 => ⟨S_, .i32⟩
  | 84 => ⟨S16384x1024, .i32⟩
  | 85 => ⟨S16384x1024, .i32⟩
  | 86 => ⟨S_, .i32⟩
  | 87 => ⟨S16384x1024, .i32⟩
  | 88 => ⟨S16384x1024, .i32⟩
  | 89 => ⟨S16384x1024, .i32⟩
  | 90 => ⟨S16384x1024, .i32⟩
  | 91 => ⟨S16384x1024, .i32⟩
  | 92 => ⟨S_, .i32⟩
  | 93 => ⟨S16384x1024, .i32⟩
  | 94 => ⟨S16384x1024, .i32⟩
  | 95 => ⟨S_, .i32⟩
  | 96 => ⟨S16384x1024, .i32⟩
  | 97 => ⟨S16384x1024, .i32⟩
  | 98 => ⟨S16384x1024, .i32⟩
  | 99 => ⟨S16384x1024, .i32⟩
  | 100 => ⟨S16384x1024, .i32⟩
  | 101 => ⟨S_, .i32⟩
  | 102 => ⟨S16384x1024, .i32⟩
  | 103 => ⟨S16384x1024, .i32⟩
  | 104 => ⟨S_, .i32⟩
  | 105 => ⟨S16384x1024, .i32⟩
  | 106 => ⟨S16384x1024, .i32⟩
  | 107 => ⟨S16384x1024, .i32⟩
  | 108 => ⟨S16384x1024, .i32⟩
  | 109 => ⟨S16384x1024, .i32⟩
  | 110 => ⟨S_, .i32⟩
  | 111 => ⟨S16384x1024, .i32⟩
  | 112 => ⟨S16384x1024, .i32⟩
  | 113 => ⟨S_, .i32⟩
  | 114 => ⟨S16384x1024, .i32⟩
  | 115 => ⟨S16384x1024, .i32⟩
  | 116 => ⟨S16384x1024, .i32⟩
  | 117 => ⟨S16384x1024, .i32⟩
  | 118 => ⟨S16384x1024, .i32⟩
  | 119 => ⟨S16384x1024, .i32⟩
  | 120 => ⟨S16384x1024, .i32⟩
  | 121 => ⟨S16384x1024, .i32⟩
  | 122 => ⟨S_, .i32⟩
  | 123 => ⟨S16384x1024, .i32⟩
  | 124 => ⟨S16384x1024, .i32⟩
  | 125 => ⟨S16384x1024, .i32⟩
  | 126 => ⟨S_, .i32⟩
  | 127 => ⟨S16384x1024, .i32⟩
  | _ => ⟨S16384x3x50, .i32⟩

abbrev hbmTy0_8 (i : Nat) : BufTy := match i % 128 with
  | 0 => ⟨S16384x1024, .i32⟩
  | 1 => ⟨S_, .i32⟩
  | 2 => ⟨S16384x1024, .i32⟩
  | 3 => ⟨S16384x1024, .i32⟩
  | 4 => ⟨S16384x1024, .i32⟩
  | 5 => ⟨S16384x1024, .i32⟩
  | 6 => ⟨S16384x1024, .i32⟩
  | 7 => ⟨S_, .i32⟩
  | 8 => ⟨S16384x1024, .i32⟩
  | 9 => ⟨S16384x1024, .i32⟩
  | 10 => ⟨S_, .i32⟩
  | 11 => ⟨S16384x1024, .i32⟩
  | 12 => ⟨S16384x1024, .i32⟩
  | 13 => ⟨S16384x1024, .i32⟩
  | 14 => ⟨S16384x1024, .i32⟩
  | 15 => ⟨S16384x1024, .i32⟩
  | 16 => ⟨S_, .i32⟩
  | 17 => ⟨S16384x1024, .i32⟩
  | 18 => ⟨S16384x1024, .i32⟩
  | 19 => ⟨S_, .i32⟩
  | 20 => ⟨S16384x1024, .i32⟩
  | 21 => ⟨S16384x1024, .i32⟩
  | 22 => ⟨S16384x1024, .i32⟩
  | 23 => ⟨S16384x1024, .i32⟩
  | 24 => ⟨S16384x1024, .i32⟩
  | 25 => ⟨S_, .i32⟩
  | 26 => ⟨S16384x1024, .i32⟩
  | 27 => ⟨S16384x1024, .i32⟩
  | 28 => ⟨S_, .i32⟩
  | 29 => ⟨S16384x1024, .i32⟩
  | 30 => ⟨S16384x1024, .i32⟩
  | 31 => ⟨S16384x1024, .i32⟩
  | 32 => ⟨S16384x1024, .i32⟩
  | 33 => ⟨S16384x1024, .i32⟩
  | 34 => ⟨S16384x1024, .i32⟩
  | 35 => ⟨S16384x1024, .i32⟩
  | 36 => ⟨S16384x1024, .i32⟩
  | 37 => ⟨S_, .i32⟩
  | 38 => ⟨S16384x1024, .i32⟩
  | 39 => ⟨S16384x1024, .i32⟩
  | 40 => ⟨S16384x1024, .i32⟩
  | 41 => ⟨S_, .i32⟩
  | 42 => ⟨S16384x1024, .i32⟩
  | 43 => ⟨S16384x1024, .i32⟩
  | 44 => ⟨S_, .i32⟩
  | 45 => ⟨S16384x1024, .i32⟩
  | 46 => ⟨S16384x1024, .i32⟩
  | 47 => ⟨S16384x1024, .f32⟩
  | 48 => ⟨S_, .f32⟩
  | 49 => ⟨S16384x1024, .f32⟩
  | 50 => ⟨S16384x1024, .f32⟩
  | 51 => ⟨S1x1, .f32⟩
  | 52 => ⟨S16384x1024, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S1x1, .f32⟩
  | 59 => ⟨S16384x1024, .f32⟩
  | 60 => ⟨S16384x1024, .f32⟩
  | 61 => ⟨S16384x1024, .f32⟩
  | 62 => ⟨S16384x1024, .f32⟩
  | 63 => ⟨S16384x1, .f32⟩
  | _ => ⟨S16384x3x50, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16384x3x50, .i32⟩

abbrev bufTy : (tb : Table) → Fin (tcTables nBuf tb) → BufTy
  | .hbm, ⟨i, _⟩ => hbmTy i
  | .local _ .vmem, ⟨0, _⟩ => ⟨S256x152, .i32⟩
  | .local _ .vmem, ⟨1, _⟩ => ⟨S256x152, .i32⟩
  | .local _ .vmem, ⟨2, _⟩ => ⟨S48x1024, .f32⟩
  | .local _ .vmem, ⟨3, _⟩ => ⟨S48x1024, .f32⟩
  | .local _ .vmem, ⟨4, _⟩ => ⟨S2048x1, .f32⟩
  | .local _ .vmem, ⟨5, _⟩ => ⟨S1x1, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1, .f32⟩
  | .local _ .vmem, ⟨19, _⟩ => ⟨S256x1, .f32⟩
  | _, _ => ⟨S16384x3x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_call0_c : Ref sig .tc := ⟨.hbm, 81, rfl⟩
abbrev main_call0_v0 : Ref sig .tc := ⟨.hbm, 82, rfl⟩
abbrev main_call0_v1 : Ref sig .tc := ⟨.hbm, 83, rfl⟩
abbrev main_call0_c_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_v9 : Ref sig .tc := ⟨.hbm, 92, rfl⟩
abbrev main_call0_v10 : Ref sig .tc := ⟨.hbm, 93, rfl⟩
abbrev main_call0_call0_v0 : Ref sig .tc := ⟨.hbm, 94, rfl⟩
abbrev main_call0_call0_c : Ref sig .tc := ⟨.hbm, 95, rfl⟩
abbrev main_call0_call0_v1 : Ref sig .tc := ⟨.hbm, 96, rfl⟩
abbrev main_call0_call0_v2 : Ref sig .tc := ⟨.hbm, 97, rfl⟩
abbrev main_call0_call0_v3 : Ref sig .tc := ⟨.hbm, 98, rfl⟩
abbrev main_call0_call0_v4 : Ref sig .tc := ⟨.hbm, 99, rfl⟩
abbrev main_call0_call0_v5 : Ref sig .tc := ⟨.hbm, 100, rfl⟩
abbrev main_call0_call0_v6 : Ref sig .tc := ⟨.hbm, 101, rfl⟩
abbrev main_call0_call0_c_0 : Ref sig .tc := ⟨.hbm, 102, rfl⟩
abbrev main_call0_call0_v7 : Ref sig .tc := ⟨.hbm, 103, rfl⟩
abbrev main_call0_call0_v8 : Ref sig .tc := ⟨.hbm, 104, rfl⟩
abbrev main_call0_call0_c_1 : Ref sig .tc := ⟨.hbm, 105, rfl⟩
abbrev main_call0_call0_v9 : Ref sig .tc := ⟨.hbm, 106, rfl⟩
abbrev main_call0_call0_v10 : Ref sig .tc := ⟨.hbm, 107, rfl⟩
abbrev main_call0_call0_v11 : Ref sig .tc := ⟨.hbm, 108, rfl⟩
abbrev main_call0_call0_v12 : Ref sig .tc := ⟨.hbm, 109, rfl⟩
abbrev main_call0_call0_v13 : Ref sig .tc := ⟨.hbm, 110, rfl⟩
abbrev main_call0_call0_c_2 : Ref sig .tc := ⟨.hbm, 111, rfl⟩
abbrev main_call0_call0_v14 : Ref sig .tc := ⟨.hbm, 112, rfl⟩
abbrev main_call0_call0_v15 : Ref sig .tc := ⟨.hbm, 113, rfl⟩
abbrev main_call0_call0_c_3 : Ref sig .tc := ⟨.hbm, 114, rfl⟩
abbrev main_call0_call0_v16 : Ref sig .tc := ⟨.hbm, 115, rfl⟩
abbrev main_call0_call0_v17 : Ref sig .tc := ⟨.hbm, 116, rfl⟩
abbrev main_call0_call0_v18 : Ref sig .tc := ⟨.hbm, 117, rfl⟩
abbrev main_call0_call0_v19 : Ref sig .tc := ⟨.hbm, 118, rfl⟩
abbrev main_call0_call0_v20 : Ref sig .tc := ⟨.hbm, 119, rfl⟩
abbrev main_call0_call0_c_4 : Ref sig .tc := ⟨.hbm, 120, rfl⟩
abbrev main_call0_call0_v21 : Ref sig .tc := ⟨.hbm, 121, rfl⟩
abbrev main_call0_call0_v22 : Ref sig .tc := ⟨.hbm, 122, rfl⟩
abbrev main_call0_call0_c_5 : Ref sig .tc := ⟨.hbm, 123, rfl⟩
abbrev main_call0_call0_v23 : Ref sig .tc := ⟨.hbm, 124, rfl⟩
abbrev main_call0_call0_v24 : Ref sig .tc := ⟨.hbm, 125, rfl⟩
abbrev main_call0_call0_v25 : Ref sig .tc := ⟨.hbm, 126, rfl⟩
abbrev main_call0_call0_v26 : Ref sig .tc := ⟨.hbm, 127, rfl⟩
abbrev main_call0_call0_v27 : Ref sig .tc := ⟨.hbm, 128, rfl⟩
abbrev main_call0_call0_c_6 : Ref sig .tc := ⟨.hbm, 129, rfl⟩
abbrev main_call0_call0_v28 : Ref sig .tc := ⟨.hbm, 130, rfl⟩
abbrev main_call0_call0_v29 : Ref sig .tc := ⟨.hbm, 131, rfl⟩
abbrev main_call0_call0_c_7 : Ref sig .tc := ⟨.hbm, 132, rfl⟩
abbrev main_call0_call0_v30 : Ref sig .tc := ⟨.hbm, 133, rfl⟩
abbrev main_call0_call0_v31 : Ref sig .tc := ⟨.hbm, 134, rfl⟩
abbrev main_call0_call0_v32 : Ref sig .tc := ⟨.hbm, 135, rfl⟩
abbrev main_call0_call0_v33 : Ref sig .tc := ⟨.hbm, 136, rfl⟩
abbrev main_call0_call0_v34 : Ref sig .tc := ⟨.hbm, 137, rfl⟩
abbrev main_call0_call0_v35 : Ref sig .tc := ⟨.hbm, 138, rfl⟩
abbrev main_call0_call0_v36 : Ref sig .tc := ⟨.hbm, 139, rfl⟩
abbrev main_call0_call0_v37 : Ref sig .tc := ⟨.hbm, 140, rfl⟩
abbrev main_call0_call0_c_8 : Ref sig .tc := ⟨.hbm, 141, rfl⟩
abbrev main_call0_call0_v38 : Ref sig .tc := ⟨.hbm, 142, rfl⟩
abbrev main_call0_call0_v39 : Ref sig .tc := ⟨.hbm, 143, rfl⟩
abbrev main_call0_call0_v40 : Ref sig .tc := ⟨.hbm, 144, rfl⟩
abbrev main_call0_call0_c_9 : Ref sig .tc := ⟨.hbm, 145, rfl⟩
abbrev main_call0_call0_v41 : Ref sig .tc := ⟨.hbm, 146, rfl⟩
abbrev main_call0_call0_v42 : Ref sig .tc := ⟨.hbm, 147, rfl⟩
abbrev main_call0_call0_c_10 : Ref sig .tc := ⟨.hbm, 148, rfl⟩
abbrev main_call0_call0_v43 : Ref sig .tc := ⟨.hbm, 149, rfl⟩
abbrev main_call0_call0_v44 : Ref sig .tc := ⟨.hbm, 150, rfl⟩
abbrev main_call0_call0_v45 : Ref sig .tc := ⟨.hbm, 151, rfl⟩
abbrev main_call0_call0_v46 : Ref sig .tc := ⟨.hbm, 152, rfl⟩
abbrev main_call0_call0_v47 : Ref sig .tc := ⟨.hbm, 153, rfl⟩
abbrev main_call0_call0_c_11 : Ref sig .tc := ⟨.hbm, 154, rfl⟩
abbrev main_call0_call0_v48 : Ref sig .tc := ⟨.hbm, 155, rfl⟩
abbrev main_call0_call0_v49 : Ref sig .tc := ⟨.hbm, 156, rfl⟩
abbrev main_call0_call0_c_12 : Ref sig .tc := ⟨.hbm, 157, rfl⟩
abbrev main_call0_call0_v50 : Ref sig .tc := ⟨.hbm, 158, rfl⟩
abbrev main_call0_call0_v51 : Ref sig .tc := ⟨.hbm, 159, rfl⟩
abbrev main_call0_call0_v52 : Ref sig .tc := ⟨.hbm, 160, rfl⟩
abbrev main_call0_call0_v53 : Ref sig .tc := ⟨.hbm, 161, rfl⟩
abbrev main_call0_call0_v54 : Ref sig .tc := ⟨.hbm, 162, rfl⟩
abbrev main_call0_call0_c_13 : Ref sig .tc := ⟨.hbm, 163, rfl⟩
abbrev main_call0_call0_v55 : Ref sig .tc := ⟨.hbm, 164, rfl⟩
abbrev main_call0_call0_v56 : Ref sig .tc := ⟨.hbm, 165, rfl⟩
abbrev main_call0_call0_c_14 : Ref sig .tc := ⟨.hbm, 166, rfl⟩
abbrev main_call0_call0_v57 : Ref sig .tc := ⟨.hbm, 167, rfl⟩
abbrev main_call0_call0_v58 : Ref sig .tc := ⟨.hbm, 168, rfl⟩
abbrev main_call0_call0_v59 : Ref sig .tc := ⟨.hbm, 169, rfl⟩
abbrev main_call0_call0_v60 : Ref sig .tc := ⟨.hbm, 170, rfl⟩
abbrev main_call0_call0_v61 : Ref sig .tc := ⟨.hbm, 171, rfl⟩
abbrev main_call0_call0_c_15 : Ref sig .tc := ⟨.hbm, 172, rfl⟩
abbrev main_call0_call0_v62 : Ref sig .tc := ⟨.hbm, 173, rfl⟩
abbrev main_call0_call0_v63 : Ref sig .tc := ⟨.hbm, 174, rfl⟩
abbrev main_call0_call0_c_16 : Ref sig .tc := ⟨.hbm, 175, rfl⟩
abbrev main_call0_call0_v64 : Ref sig .tc := ⟨.hbm, 176, rfl⟩
abbrev main_call0_call0_v65 : Ref sig .tc := ⟨.hbm, 177, rfl⟩
abbrev main_call0_call0_v66 : Ref sig .tc := ⟨.hbm, 178, rfl⟩
abbrev main_call0_call0_v67 : Ref sig .tc := ⟨.hbm, 179, rfl⟩
abbrev main_call0_call0_v68 : Ref sig .tc := ⟨.hbm, 180, rfl⟩
abbrev main_call0_call0_v69 : Ref sig .tc := ⟨.hbm, 181, rfl⟩
abbrev main_call0_call0_v70 : Ref sig .tc := ⟨.hbm, 182, rfl⟩
abbrev main_call0_call0_v71 : Ref sig .tc := ⟨.hbm, 183, rfl⟩
abbrev main_call0_call0_c_17 : Ref sig .tc := ⟨.hbm, 184, rfl⟩
abbrev main_call0_call0_v72 : Ref sig .tc := ⟨.hbm, 185, rfl⟩
abbrev main_call0_call0_v73 : Ref sig .tc := ⟨.hbm, 186, rfl⟩
abbrev main_call0_call0_v74 : Ref sig .tc := ⟨.hbm, 187, rfl⟩
abbrev main_call0_call0_c_18 : Ref sig .tc := ⟨.hbm, 188, rfl⟩
abbrev main_call0_call0_v75 : Ref sig .tc := ⟨.hbm, 189, rfl⟩
abbrev main_call0_call0_v76 : Ref sig .tc := ⟨.hbm, 190, rfl⟩
abbrev main_call0_call0_c_19 : Ref sig .tc := ⟨.hbm, 191, rfl⟩
abbrev main_call0_call0_v77 : Ref sig .tc := ⟨.hbm, 192, rfl⟩
abbrev main_call0_call0_v78 : Ref sig .tc := ⟨.hbm, 193, rfl⟩
abbrev main_call0_call0_v79 : Ref sig .tc := ⟨.hbm, 194, rfl⟩
abbrev main_call0_call0_v80 : Ref sig .tc := ⟨.hbm, 195, rfl⟩
abbrev main_call0_call0_v81 : Ref sig .tc := ⟨.hbm, 196, rfl⟩
abbrev main_call0_call0_c_20 : Ref sig .tc := ⟨.hbm, 197, rfl⟩
abbrev main_call0_call0_v82 : Ref sig .tc := ⟨.hbm, 198, rfl⟩
abbrev main_call0_call0_v83 : Ref sig .tc := ⟨.hbm, 199, rfl⟩
abbrev main_call0_call0_c_21 : Ref sig .tc := ⟨.hbm, 200, rfl⟩
abbrev main_call0_call0_v84 : Ref sig .tc := ⟨.hbm, 201, rfl⟩
abbrev main_call0_call0_v85 : Ref sig .tc := ⟨.hbm, 202, rfl⟩
abbrev main_call0_call0_v86 : Ref sig .tc := ⟨.hbm, 203, rfl⟩
abbrev main_call0_call0_v87 : Ref sig .tc := ⟨.hbm, 204, rfl⟩
abbrev main_call0_call0_v88 : Ref sig .tc := ⟨.hbm, 205, rfl⟩
abbrev main_call0_call0_c_22 : Ref sig .tc := ⟨.hbm, 206, rfl⟩
abbrev main_call0_call0_v89 : Ref sig .tc := ⟨.hbm, 207, rfl⟩
abbrev main_call0_call0_v90 : Ref sig .tc := ⟨.hbm, 208, rfl⟩
abbrev main_call0_call0_c_23 : Ref sig .tc := ⟨.hbm, 209, rfl⟩
abbrev main_call0_call0_v91 : Ref sig .tc := ⟨.hbm, 210, rfl⟩
abbrev main_call0_call0_v92 : Ref sig .tc := ⟨.hbm, 211, rfl⟩
abbrev main_call0_call0_v93 : Ref sig .tc := ⟨.hbm, 212, rfl⟩
abbrev main_call0_call0_v94 : Ref sig .tc := ⟨.hbm, 213, rfl⟩
abbrev main_call0_call0_v95 : Ref sig .tc := ⟨.hbm, 214, rfl⟩
abbrev main_call0_call0_c_24 : Ref sig .tc := ⟨.hbm, 215, rfl⟩
abbrev main_call0_call0_v96 : Ref sig .tc := ⟨.hbm, 216, rfl⟩
abbrev main_call0_call0_v97 : Ref sig .tc := ⟨.hbm, 217, rfl⟩
abbrev main_call0_call0_c_25 : Ref sig .tc := ⟨.hbm, 218, rfl⟩
abbrev main_call0_call0_v98 : Ref sig .tc := ⟨.hbm, 219, rfl⟩
abbrev main_call0_call0_v99 : Ref sig .tc := ⟨.hbm, 220, rfl⟩
abbrev main_call0_call0_v100 : Ref sig .tc := ⟨.hbm, 221, rfl⟩
abbrev main_call0_call0_v101 : Ref sig .tc := ⟨.hbm, 222, rfl⟩
abbrev main_call0_call0_v102 : Ref sig .tc := ⟨.hbm, 223, rfl⟩
abbrev main_call0_call0_v103 : Ref sig .tc := ⟨.hbm, 224, rfl⟩
abbrev main_call0_call0_v104 : Ref sig .tc := ⟨.hbm, 225, rfl⟩
abbrev main_call0_call0_v105 : Ref sig .tc := ⟨.hbm, 226, rfl⟩
abbrev main_call0_call0_c_26 : Ref sig .tc := ⟨.hbm, 227, rfl⟩
abbrev main_call0_call0_v106 : Ref sig .tc := ⟨.hbm, 228, rfl⟩
abbrev main_call0_call0_v107 : Ref sig .tc := ⟨.hbm, 229, rfl⟩
abbrev main_call0_call0_v108 : Ref sig .tc := ⟨.hbm, 230, rfl⟩
abbrev main_call0_call0_c_27 : Ref sig .tc := ⟨.hbm, 231, rfl⟩
abbrev main_call0_call0_v109 : Ref sig .tc := ⟨.hbm, 232, rfl⟩
abbrev main_call0_call0_v110 : Ref sig .tc := ⟨.hbm, 233, rfl⟩
abbrev main_call0_call0_c_28 : Ref sig .tc := ⟨.hbm, 234, rfl⟩
abbrev main_call0_call0_v111 : Ref sig .tc := ⟨.hbm, 235, rfl⟩
abbrev main_call0_call0_v112 : Ref sig .tc := ⟨.hbm, 236, rfl⟩
abbrev main_call0_call0_v113 : Ref sig .tc := ⟨.hbm, 237, rfl⟩
abbrev main_call0_call0_v114 : Ref sig .tc := ⟨.hbm, 238, rfl⟩
abbrev main_call0_call0_v115 : Ref sig .tc := ⟨.hbm, 239, rfl⟩
abbrev main_call0_call0_c_29 : Ref sig .tc := ⟨.hbm, 240, rfl⟩
abbrev main_call0_call0_v116 : Ref sig .tc := ⟨.hbm, 241, rfl⟩
abbrev main_call0_call0_v117 : Ref sig .tc := ⟨.hbm, 242, rfl⟩
abbrev main_call0_call0_c_30 : Ref sig .tc := ⟨.hbm, 243, rfl⟩
abbrev main_call0_call0_v118 : Ref sig .tc := ⟨.hbm, 244, rfl⟩
abbrev main_call0_call0_v119 : Ref sig .tc := ⟨.hbm, 245, rfl⟩
abbrev main_call0_call0_v120 : Ref sig .tc := ⟨.hbm, 246, rfl⟩
abbrev main_call0_call0_v121 : Ref sig .tc := ⟨.hbm, 247, rfl⟩
abbrev main_call0_call0_v122 : Ref sig .tc := ⟨.hbm, 248, rfl⟩
abbrev main_call0_call0_c_31 : Ref sig .tc := ⟨.hbm, 249, rfl⟩
abbrev main_call0_call0_v123 : Ref sig .tc := ⟨.hbm, 250, rfl⟩
abbrev main_call0_call0_v124 : Ref sig .tc := ⟨.hbm, 251, rfl⟩
abbrev main_call0_call0_c_32 : Ref sig .tc := ⟨.hbm, 252, rfl⟩
abbrev main_call0_call0_v125 : Ref sig .tc := ⟨.hbm, 253, rfl⟩
abbrev main_call0_call0_v126 : Ref sig .tc := ⟨.hbm, 254, rfl⟩
abbrev main_call0_call0_v127 : Ref sig .tc := ⟨.hbm, 255, rfl⟩
abbrev main_call0_call0_v128 : Ref sig .tc := ⟨.hbm, 256, rfl⟩
abbrev main_call0_call0_v129 : Ref sig .tc := ⟨.hbm, 257, rfl⟩
abbrev main_call0_call0_c_33 : Ref sig .tc := ⟨.hbm, 258, rfl⟩
abbrev main_call0_call0_v130 : Ref sig .tc := ⟨.hbm, 259, rfl⟩
abbrev main_call0_call0_v131 : Ref sig .tc := ⟨.hbm, 260, rfl⟩
abbrev main_call0_call0_c_34 : Ref sig .tc := ⟨.hbm, 261, rfl⟩
abbrev main_call0_call0_v132 : Ref sig .tc := ⟨.hbm, 262, rfl⟩
abbrev main_call0_call0_v133 : Ref sig .tc := ⟨.hbm, 263, rfl⟩
abbrev main_call0_call0_v134 : Ref sig .tc := ⟨.hbm, 264, rfl⟩
abbrev main_call0_call0_v135 : Ref sig .tc := ⟨.hbm, 265, rfl⟩
abbrev main_call0_call0_v136 : Ref sig .tc := ⟨.hbm, 266, rfl⟩
abbrev main_call0_call0_v137 : Ref sig .tc := ⟨.hbm, 267, rfl⟩
abbrev main_call0_call0_v138 : Ref sig .tc := ⟨.hbm, 268, rfl⟩
abbrev main_call0_call0_v139 : Ref sig .tc := ⟨.hbm, 269, rfl⟩
abbrev main_call0_call0_c_35 : Ref sig .tc := ⟨.hbm, 270, rfl⟩
abbrev main_call0_call0_v140 : Ref sig .tc := ⟨.hbm, 271, rfl⟩
abbrev main_call0_call0_v141 : Ref sig .tc := ⟨.hbm, 272, rfl⟩
abbrev main_call0_call0_v142 : Ref sig .tc := ⟨.hbm, 273, rfl⟩
abbrev main_call0_call0_c_36 : Ref sig .tc := ⟨.hbm, 274, rfl⟩
abbrev main_call0_call0_v143 : Ref sig .tc := ⟨.hbm, 275, rfl⟩
abbrev main_call0_call0_v144 : Ref sig .tc := ⟨.hbm, 276, rfl⟩
abbrev main_call0_call0_c_37 : Ref sig .tc := ⟨.hbm, 277, rfl⟩
abbrev main_call0_call0_v145 : Ref sig .tc := ⟨.hbm, 278, rfl⟩
abbrev main_call0_call0_v146 : Ref sig .tc := ⟨.hbm, 279, rfl⟩
abbrev main_call0_call0_v147 : Ref sig .tc := ⟨.hbm, 280, rfl⟩
abbrev main_call0_call0_v148 : Ref sig .tc := ⟨.hbm, 281, rfl⟩
abbrev main_call0_call0_v149 : Ref sig .tc := ⟨.hbm, 282, rfl⟩
abbrev main_call0_call0_c_38 : Ref sig .tc := ⟨.hbm, 283, rfl⟩
abbrev main_call0_call0_v150 : Ref sig .tc := ⟨.hbm, 284, rfl⟩
abbrev main_call0_call0_v151 : Ref sig .tc := ⟨.hbm, 285, rfl⟩
abbrev main_call0_call0_c_39 : Ref sig .tc := ⟨.hbm, 286, rfl⟩
abbrev main_call0_call0_v152 : Ref sig .tc := ⟨.hbm, 287, rfl⟩
abbrev main_call0_call0_v153 : Ref sig .tc := ⟨.hbm, 288, rfl⟩
abbrev main_call0_call0_v154 : Ref sig .tc := ⟨.hbm, 289, rfl⟩
abbrev main_call0_call0_v155 : Ref sig .tc := ⟨.hbm, 290, rfl⟩
abbrev main_call0_call0_v156 : Ref sig .tc := ⟨.hbm, 291, rfl⟩
abbrev main_call0_call0_c_40 : Ref sig .tc := ⟨.hbm, 292, rfl⟩
abbrev main_call0_call0_v157 : Ref sig .tc := ⟨.hbm, 293, rfl⟩
abbrev main_call0_call0_v158 : Ref sig .tc := ⟨.hbm, 294, rfl⟩
abbrev main_call0_call0_c_41 : Ref sig .tc := ⟨.hbm, 295, rfl⟩
abbrev main_call0_call0_v159 : Ref sig .tc := ⟨.hbm, 296, rfl⟩
abbrev main_call0_call0_v160 : Ref sig .tc := ⟨.hbm, 297, rfl⟩
abbrev main_call0_call0_v161 : Ref sig .tc := ⟨.hbm, 298, rfl⟩
abbrev main_call0_call0_v162 : Ref sig .tc := ⟨.hbm, 299, rfl⟩
abbrev main_call0_call0_v163 : Ref sig .tc := ⟨.hbm, 300, rfl⟩
abbrev main_call0_call0_c_42 : Ref sig .tc := ⟨.hbm, 301, rfl⟩
abbrev main_call0_call0_v164 : Ref sig .tc := ⟨.hbm, 302, rfl⟩
abbrev main_call0_call0_v165 : Ref sig .tc := ⟨.hbm, 303, rfl⟩
abbrev main_call0_call0_c_43 : Ref sig .tc := ⟨.hbm, 304, rfl⟩
abbrev main_call0_call0_v166 : Ref sig .tc := ⟨.hbm, 305, rfl⟩
abbrev main_call0_call0_v167 : Ref sig .tc := ⟨.hbm, 306, rfl⟩
abbrev main_call0_call0_v168 : Ref sig .tc := ⟨.hbm, 307, rfl⟩
abbrev main_call0_call0_v169 : Ref sig .tc := ⟨.hbm, 308, rfl⟩
abbrev main_call0_call0_v170 : Ref sig .tc := ⟨.hbm, 309, rfl⟩
abbrev main_call0_v11_0 : Ref sig .tc := ⟨.hbm, 310, rfl⟩
abbrev main_call0_call0_v172 : Ref sig .tc := ⟨.hbm, 311, rfl⟩
abbrev main_call0_call0_v173 : Ref sig .tc := ⟨.hbm, 312, rfl⟩
abbrev main_call0_call0_c_44 : Ref sig .tc := ⟨.hbm, 313, rfl⟩
abbrev main_call0_call0_v174 : Ref sig .tc := ⟨.hbm, 314, rfl⟩
abbrev main_call0_v11_1 : Ref sig .tc := ⟨.hbm, 315, rfl⟩
abbrev main_v57 : Ref sig .tc := ⟨.hbm, 316, rfl⟩
abbrev main_cst_14 : Ref sig .tc := ⟨.hbm, 317, rfl⟩
abbrev main_cst_15 : Ref sig .tc := ⟨.hbm, 318, rfl⟩
abbrev main_call1_v0 : Ref sig .tc := ⟨.hbm, 319, rfl⟩
abbrev main_call1_v1 : Ref sig .tc := ⟨.hbm, 320, rfl⟩
abbrev main_call1_v2 : Ref sig .tc := ⟨.hbm, 321, rfl⟩
abbrev main_call1_v3 : Ref sig .tc := ⟨.hbm, 322, rfl⟩
abbrev main_call1_v4 : Ref sig .tc := ⟨.hbm, 323, rfl⟩
abbrev main_call1_v5 : Ref sig .tc := ⟨.hbm, 324, rfl⟩
abbrev main_call1_v6 : Ref sig .tc := ⟨.hbm, 325, rfl⟩
abbrev main_call1_v7 : Ref sig .tc := ⟨.hbm, 326, rfl⟩
abbrev main_call1_v8 : Ref sig .tc := ⟨.hbm, 327, rfl⟩
abbrev main_call1_v9 : Ref sig .tc := ⟨.hbm, 328, rfl⟩
abbrev main_call1_c : Ref sig .tc := ⟨.hbm, 329, rfl⟩
abbrev main_call1_v10 : Ref sig .tc := ⟨.hbm, 330, rfl⟩
abbrev main_call1_v11 : Ref sig .tc := ⟨.hbm, 331, rfl⟩
abbrev main_call1_c_0 : Ref sig .tc := ⟨.hbm, 332, rfl⟩
abbrev main_call1_v12 : Ref sig .tc := ⟨.hbm, 333, rfl⟩
abbrev main_call1_v13 : Ref sig .tc := ⟨.hbm, 334, rfl⟩
abbrev main_call1_v14 : Ref sig .tc := ⟨.hbm, 335, rfl⟩
abbrev main_call1_c_1 : Ref sig .tc := ⟨.hbm, 336, rfl⟩
abbrev main_call1_v15 : Ref sig .tc := ⟨.hbm, 337, rfl⟩
abbrev main_call1_v16 : Ref sig .tc := ⟨.hbm, 338, rfl⟩
abbrev main_call1_v17 : Ref sig .tc := ⟨.hbm, 339, rfl⟩
abbrev main_call1_v18 : Ref sig .tc := ⟨.hbm, 340, rfl⟩
abbrev main_call1_call0_v0 : Ref sig .tc := ⟨.hbm, 341, rfl⟩
abbrev main_call1_call0_c : Ref sig .tc := ⟨.hbm, 342, rfl⟩
abbrev main_call1_call0_v1 : Ref sig .tc := ⟨.hbm, 343, rfl⟩
abbrev main_call1_call0_v2 : Ref sig .tc := ⟨.hbm, 344, rfl⟩
abbrev main_call1_call0_v3 : Ref sig .tc := ⟨.hbm, 345, rfl⟩
abbrev main_call1_call0_v4 : Ref sig .tc := ⟨.hbm, 346, rfl⟩
abbrev main_call1_call0_v5 : Ref sig .tc := ⟨.hbm, 347, rfl⟩
abbrev main_call1_call0_v6 : Ref sig .tc := ⟨.hbm, 348, rfl⟩
abbrev main_call1_call0_c_0 : Ref sig .tc := ⟨.hbm, 349, rfl⟩
abbrev main_call1_call0_v7 : Ref sig .tc := ⟨.hbm, 350, rfl⟩
abbrev main_call1_call0_v8 : Ref sig .tc := ⟨.hbm, 351, rfl⟩
abbrev main_call1_call0_c_1 : Ref sig .tc := ⟨.hbm, 352, rfl⟩
abbrev main_call1_call0_v9 : Ref sig .tc := ⟨.hbm, 353, rfl⟩
abbrev main_call1_call0_v10 : Ref sig .tc := ⟨.hbm, 354, rfl⟩
abbrev main_call1_call0_v11 : Ref sig .tc := ⟨.hbm, 355, rfl⟩
abbrev main_call1_call0_v12 : Ref sig .tc := ⟨.hbm, 356, rfl⟩
abbrev main_call1_call0_v13 : Ref sig .tc := ⟨.hbm, 357, rfl⟩
abbrev main_call1_call0_c_2 : Ref sig .tc := ⟨.hbm, 358, rfl⟩
abbrev main_call1_call0_v14 : Ref sig .tc := ⟨.hbm, 359, rfl⟩
abbrev main_call1_call0_v15 : Ref sig .tc := ⟨.hbm, 360, rfl⟩
abbrev main_call1_call0_c_3 : Ref sig .tc := ⟨.hbm, 361, rfl⟩
abbrev main_call1_call0_v16 : Ref sig .tc := ⟨.hbm, 362, rfl⟩
abbrev main_call1_call0_v17 : Ref sig .tc := ⟨.hbm, 363, rfl⟩
abbrev main_call1_call0_v18 : Ref sig .tc := ⟨.hbm, 364, rfl⟩
abbrev main_call1_call0_v19 : Ref sig .tc := ⟨.hbm, 365, rfl⟩
abbrev main_call1_call0_v20 : Ref sig .tc := ⟨.hbm, 366, rfl⟩
abbrev main_call1_call0_c_4 : Ref sig .tc := ⟨.hbm, 367, rfl⟩
abbrev main_call1_call0_v21 : Ref sig .tc := ⟨.hbm, 368, rfl⟩
abbrev main_call1_call0_v22 : Ref sig .tc := ⟨.hbm, 369, rfl⟩
abbrev main_call1_call0_c_5 : Ref sig .tc := ⟨.hbm, 370, rfl⟩
abbrev main_call1_call0_v23 : Ref sig .tc := ⟨.hbm, 371, rfl⟩
abbrev main_call1_call0_v24 : Ref sig .tc := ⟨.hbm, 372, rfl⟩
abbrev main_call1_call0_v25 : Ref sig .tc := ⟨.hbm, 373, rfl⟩
abbrev main_call1_call0_v26 : Ref sig .tc := ⟨.hbm, 374, rfl⟩
abbrev main_call1_call0_v27 : Ref sig .tc := ⟨.hbm, 375, rfl⟩
abbrev main_call1_call0_c_6 : Ref sig .tc := ⟨.hbm, 376, rfl⟩
abbrev main_call1_call0_v28 : Ref sig .tc := ⟨.hbm, 377, rfl⟩
abbrev main_call1_call0_v29 : Ref sig .tc := ⟨.hbm, 378, rfl⟩
abbrev main_call1_call0_c_7 : Ref sig .tc := ⟨.hbm, 379, rfl⟩
abbrev main_call1_call0_v30 : Ref sig .tc := ⟨.hbm, 380, rfl⟩
abbrev main_call1_call0_v31 : Ref sig .tc := ⟨.hbm, 381, rfl⟩
abbrev main_call1_call0_v32 : Ref sig .tc := ⟨.hbm, 382, rfl⟩
abbrev main_call1_call0_v33 : Ref sig .tc := ⟨.hbm, 383, rfl⟩
abbrev main_call1_call0_v34 : Ref sig .tc := ⟨.hbm, 384, rfl⟩
abbrev main_call1_call0_v35 : Ref sig .tc := ⟨.hbm, 385, rfl⟩
abbrev main_call1_call0_v36 : Ref sig .tc := ⟨.hbm, 386, rfl⟩
abbrev main_call1_call0_v37 : Ref sig .tc := ⟨.hbm, 387, rfl⟩
abbrev main_call1_call0_c_8 : Ref sig .tc := ⟨.hbm, 388, rfl⟩
abbrev main_call1_call0_v38 : Ref sig .tc := ⟨.hbm, 389, rfl⟩
abbrev main_call1_call0_v39 : Ref sig .tc := ⟨.hbm, 390, rfl⟩
abbrev main_call1_call0_v40 : Ref sig .tc := ⟨.hbm, 391, rfl⟩
abbrev main_call1_call0_c_9 : Ref sig .tc := ⟨.hbm, 392, rfl⟩
abbrev main_call1_call0_v41 : Ref sig .tc := ⟨.hbm, 393, rfl⟩
abbrev main_call1_call0_v42 : Ref sig .tc := ⟨.hbm, 394, rfl⟩
abbrev main_call1_call0_c_10 : Ref sig .tc := ⟨.hbm, 395, rfl⟩
abbrev main_call1_call0_v43 : Ref sig .tc := ⟨.hbm, 396, rfl⟩
abbrev main_call1_call0_v44 : Ref sig .tc := ⟨.hbm, 397, rfl⟩
abbrev main_call1_call0_v45 : Ref sig .tc := ⟨.hbm, 398, rfl⟩
abbrev main_call1_call0_v46 : Ref sig .tc := ⟨.hbm, 399, rfl⟩
abbrev main_call1_call0_v47 : Ref sig .tc := ⟨.hbm, 400, rfl⟩
abbrev main_call1_call0_c_11 : Ref sig .tc := ⟨.hbm, 401, rfl⟩
abbrev main_call1_call0_v48 : Ref sig .tc := ⟨.hbm, 402, rfl⟩
abbrev main_call1_call0_v49 : Ref sig .tc := ⟨.hbm, 403, rfl⟩
abbrev main_call1_call0_c_12 : Ref sig .tc := ⟨.hbm, 404, rfl⟩
abbrev main_call1_call0_v50 : Ref sig .tc := ⟨.hbm, 405, rfl⟩
abbrev main_call1_call0_v51 : Ref sig .tc := ⟨.hbm, 406, rfl⟩
abbrev main_call1_call0_v52 : Ref sig .tc := ⟨.hbm, 407, rfl⟩
abbrev main_call1_call0_v53 : Ref sig .tc := ⟨.hbm, 408, rfl⟩
abbrev main_call1_call0_v54 : Ref sig .tc := ⟨.hbm, 409, rfl⟩
abbrev main_call1_call0_c_13 : Ref sig .tc := ⟨.hbm, 410, rfl⟩
abbrev main_call1_call0_v55 : Ref sig .tc := ⟨.hbm, 411, rfl⟩
abbrev main_call1_call0_v56 : Ref sig .tc := ⟨.hbm, 412, rfl⟩
abbrev main_call1_call0_c_14 : Ref sig .tc := ⟨.hbm, 413, rfl⟩
abbrev main_call1_call0_v57 : Ref sig .tc := ⟨.hbm, 414, rfl⟩
abbrev main_call1_call0_v58 : Ref sig .tc := ⟨.hbm, 415, rfl⟩
abbrev main_call1_call0_v59 : Ref sig .tc := ⟨.hbm, 416, rfl⟩
abbrev main_call1_call0_v60 : Ref sig .tc := ⟨.hbm, 417, rfl⟩
abbrev main_call1_call0_v61 : Ref sig .tc := ⟨.hbm, 418, rfl⟩
abbrev main_call1_call0_c_15 : Ref sig .tc := ⟨.hbm, 419, rfl⟩
abbrev main_call1_call0_v62 : Ref sig .tc := ⟨.hbm, 420, rfl⟩
abbrev main_call1_call0_v63 : Ref sig .tc := ⟨.hbm, 421, rfl⟩
abbrev main_call1_call0_c_16 : Ref sig .tc := ⟨.hbm, 422, rfl⟩
abbrev main_call1_call0_v64 : Ref sig .tc := ⟨.hbm, 423, rfl⟩
abbrev main_call1_call0_v65 : Ref sig .tc := ⟨.hbm, 424, rfl⟩
abbrev main_call1_call0_v66 : Ref sig .tc := ⟨.hbm, 425, rfl⟩
abbrev main_call1_call0_v67 : Ref sig .tc := ⟨.hbm, 426, rfl⟩
abbrev main_call1_call0_v68 : Ref sig .tc := ⟨.hbm, 427, rfl⟩
abbrev main_call1_call0_v69 : Ref sig .tc := ⟨.hbm, 428, rfl⟩
abbrev main_call1_call0_v70 : Ref sig .tc := ⟨.hbm, 429, rfl⟩
abbrev main_call1_call0_v71 : Ref sig .tc := ⟨.hbm, 430, rfl⟩
abbrev main_call1_call0_c_17 : Ref sig .tc := ⟨.hbm, 431, rfl⟩
abbrev main_call1_call0_v72 : Ref sig .tc := ⟨.hbm, 432, rfl⟩
abbrev main_call1_call0_v73 : Ref sig .tc := ⟨.hbm, 433, rfl⟩
abbrev main_call1_call0_v74 : Ref sig .tc := ⟨.hbm, 434, rfl⟩
abbrev main_call1_call0_c_18 : Ref sig .tc := ⟨.hbm, 435, rfl⟩
abbrev main_call1_call0_v75 : Ref sig .tc := ⟨.hbm, 436, rfl⟩
abbrev main_call1_call0_v76 : Ref sig .tc := ⟨.hbm, 437, rfl⟩
abbrev main_call1_call0_c_19 : Ref sig .tc := ⟨.hbm, 438, rfl⟩
abbrev main_call1_call0_v77 : Ref sig .tc := ⟨.hbm, 439, rfl⟩
abbrev main_call1_call0_v78 : Ref sig .tc := ⟨.hbm, 440, rfl⟩
abbrev main_call1_call0_v79 : Ref sig .tc := ⟨.hbm, 441, rfl⟩
abbrev main_call1_call0_v80 : Ref sig .tc := ⟨.hbm, 442, rfl⟩
abbrev main_call1_call0_v81 : Ref sig .tc := ⟨.hbm, 443, rfl⟩
abbrev main_call1_call0_c_20 : Ref sig .tc := ⟨.hbm, 444, rfl⟩
abbrev main_call1_call0_v82 : Ref sig .tc := ⟨.hbm, 445, rfl⟩
abbrev main_call1_call0_v83 : Ref sig .tc := ⟨.hbm, 446, rfl⟩
abbrev main_call1_call0_c_21 : Ref sig .tc := ⟨.hbm, 447, rfl⟩
abbrev main_call1_call0_v84 : Ref sig .tc := ⟨.hbm, 448, rfl⟩
abbrev main_call1_call0_v85 : Ref sig .tc := ⟨.hbm, 449, rfl⟩
abbrev main_call1_call0_v86 : Ref sig .tc := ⟨.hbm, 450, rfl⟩
abbrev main_call1_call0_v87 : Ref sig .tc := ⟨.hbm, 451, rfl⟩
abbrev main_call1_call0_v88 : Ref sig .tc := ⟨.hbm, 452, rfl⟩
abbrev main_call1_call0_c_22 : Ref sig .tc := ⟨.hbm, 453, rfl⟩
abbrev main_call1_call0_v89 : Ref sig .tc := ⟨.hbm, 454, rfl⟩
abbrev main_call1_call0_v90 : Ref sig .tc := ⟨.hbm, 455, rfl⟩
abbrev main_call1_call0_c_23 : Ref sig .tc := ⟨.hbm, 456, rfl⟩
abbrev main_call1_call0_v91 : Ref sig .tc := ⟨.hbm, 457, rfl⟩
abbrev main_call1_call0_v92 : Ref sig .tc := ⟨.hbm, 458, rfl⟩
abbrev main_call1_call0_v93 : Ref sig .tc := ⟨.hbm, 459, rfl⟩
abbrev main_call1_call0_v94 : Ref sig .tc := ⟨.hbm, 460, rfl⟩
abbrev main_call1_call0_v95 : Ref sig .tc := ⟨.hbm, 461, rfl⟩
abbrev main_call1_call0_c_24 : Ref sig .tc := ⟨.hbm, 462, rfl⟩
abbrev main_call1_call0_v96 : Ref sig .tc := ⟨.hbm, 463, rfl⟩
abbrev main_call1_call0_v97 : Ref sig .tc := ⟨.hbm, 464, rfl⟩
abbrev main_call1_call0_c_25 : Ref sig .tc := ⟨.hbm, 465, rfl⟩
abbrev main_call1_call0_v98 : Ref sig .tc := ⟨.hbm, 466, rfl⟩
abbrev main_call1_call0_v99 : Ref sig .tc := ⟨.hbm, 467, rfl⟩
abbrev main_call1_call0_v100 : Ref sig .tc := ⟨.hbm, 468, rfl⟩
abbrev main_call1_call0_v101 : Ref sig .tc := ⟨.hbm, 469, rfl⟩
abbrev main_call1_call0_v102 : Ref sig .tc := ⟨.hbm, 470, rfl⟩
abbrev main_call1_call0_v103 : Ref sig .tc := ⟨.hbm, 471, rfl⟩
abbrev main_call1_call0_v104 : Ref sig .tc := ⟨.hbm, 472, rfl⟩
abbrev main_call1_call0_v105 : Ref sig .tc := ⟨.hbm, 473, rfl⟩
abbrev main_call1_call0_c_26 : Ref sig .tc := ⟨.hbm, 474, rfl⟩
abbrev main_call1_call0_v106 : Ref sig .tc := ⟨.hbm, 475, rfl⟩
abbrev main_call1_call0_v107 : Ref sig .tc := ⟨.hbm, 476, rfl⟩
abbrev main_call1_call0_v108 : Ref sig .tc := ⟨.hbm, 477, rfl⟩
abbrev main_call1_call0_c_27 : Ref sig .tc := ⟨.hbm, 478, rfl⟩
abbrev main_call1_call0_v109 : Ref sig .tc := ⟨.hbm, 479, rfl⟩
abbrev main_call1_call0_v110 : Ref sig .tc := ⟨.hbm, 480, rfl⟩
abbrev main_call1_call0_c_28 : Ref sig .tc := ⟨.hbm, 481, rfl⟩
abbrev main_call1_call0_v111 : Ref sig .tc := ⟨.hbm, 482, rfl⟩
abbrev main_call1_call0_v112 : Ref sig .tc := ⟨.hbm, 483, rfl⟩
abbrev main_call1_call0_v113 : Ref sig .tc := ⟨.hbm, 484, rfl⟩
abbrev main_call1_call0_v114 : Ref sig .tc := ⟨.hbm, 485, rfl⟩
abbrev main_call1_call0_v115 : Ref sig .tc := ⟨.hbm, 486, rfl⟩
abbrev main_call1_call0_c_29 : Ref sig .tc := ⟨.hbm, 487, rfl⟩
abbrev main_call1_call0_v116 : Ref sig .tc := ⟨.hbm, 488, rfl⟩
abbrev main_call1_call0_v117 : Ref sig .tc := ⟨.hbm, 489, rfl⟩
abbrev main_call1_call0_c_30 : Ref sig .tc := ⟨.hbm, 490, rfl⟩
abbrev main_call1_call0_v118 : Ref sig .tc := ⟨.hbm, 491, rfl⟩
abbrev main_call1_call0_v119 : Ref sig .tc := ⟨.hbm, 492, rfl⟩
abbrev main_call1_call0_v120 : Ref sig .tc := ⟨.hbm, 493, rfl⟩
abbrev main_call1_call0_v121 : Ref sig .tc := ⟨.hbm, 494, rfl⟩
abbrev main_call1_call0_v122 : Ref sig .tc := ⟨.hbm, 495, rfl⟩
abbrev main_call1_call0_c_31 : Ref sig .tc := ⟨.hbm, 496, rfl⟩
abbrev main_call1_call0_v123 : Ref sig .tc := ⟨.hbm, 497, rfl⟩
abbrev main_call1_call0_v124 : Ref sig .tc := ⟨.hbm, 498, rfl⟩
abbrev main_call1_call0_c_32 : Ref sig .tc := ⟨.hbm, 499, rfl⟩
abbrev main_call1_call0_v125 : Ref sig .tc := ⟨.hbm, 500, rfl⟩
abbrev main_call1_call0_v126 : Ref sig .tc := ⟨.hbm, 501, rfl⟩
abbrev main_call1_call0_v127 : Ref sig .tc := ⟨.hbm, 502, rfl⟩
abbrev main_call1_call0_v128 : Ref sig .tc := ⟨.hbm, 503, rfl⟩
abbrev main_call1_call0_v129 : Ref sig .tc := ⟨.hbm, 504, rfl⟩
abbrev main_call1_call0_c_33 : Ref sig .tc := ⟨.hbm, 505, rfl⟩
abbrev main_call1_call0_v130 : Ref sig .tc := ⟨.hbm, 506, rfl⟩
abbrev main_call1_call0_v131 : Ref sig .tc := ⟨.hbm, 507, rfl⟩
abbrev main_call1_call0_c_34 : Ref sig .tc := ⟨.hbm, 508, rfl⟩
abbrev main_call1_call0_v132 : Ref sig .tc := ⟨.hbm, 509, rfl⟩
abbrev main_call1_call0_v133 : Ref sig .tc := ⟨.hbm, 510, rfl⟩
abbrev main_call1_call0_v134 : Ref sig .tc := ⟨.hbm, 511, rfl⟩
abbrev main_call1_call0_v135 : Ref sig .tc := ⟨.hbm, 512, rfl⟩
abbrev main_call1_call0_v136 : Ref sig .tc := ⟨.hbm, 513, rfl⟩
abbrev main_call1_call0_v137 : Ref sig .tc := ⟨.hbm, 514, rfl⟩
abbrev main_call1_call0_v138 : Ref sig .tc := ⟨.hbm, 515, rfl⟩
abbrev main_call1_call0_v139 : Ref sig .tc := ⟨.hbm, 516, rfl⟩
abbrev main_call1_call0_c_35 : Ref sig .tc := ⟨.hbm, 517, rfl⟩
abbrev main_call1_call0_v140 : Ref sig .tc := ⟨.hbm, 518, rfl⟩
abbrev main_call1_call0_v141 : Ref sig .tc := ⟨.hbm, 519, rfl⟩
abbrev main_call1_call0_v142 : Ref sig .tc := ⟨.hbm, 520, rfl⟩
abbrev main_call1_call0_c_36 : Ref sig .tc := ⟨.hbm, 521, rfl⟩
abbrev main_call1_call0_v143 : Ref sig .tc := ⟨.hbm, 522, rfl⟩
abbrev main_call1_call0_v144 : Ref sig .tc := ⟨.hbm, 523, rfl⟩
abbrev main_call1_call0_c_37 : Ref sig .tc := ⟨.hbm, 524, rfl⟩
abbrev main_call1_call0_v145 : Ref sig .tc := ⟨.hbm, 525, rfl⟩
abbrev main_call1_call0_v146 : Ref sig .tc := ⟨.hbm, 526, rfl⟩
abbrev main_call1_call0_v147 : Ref sig .tc := ⟨.hbm, 527, rfl⟩
abbrev main_call1_call0_v148 : Ref sig .tc := ⟨.hbm, 528, rfl⟩
abbrev main_call1_call0_v149 : Ref sig .tc := ⟨.hbm, 529, rfl⟩
abbrev main_call1_call0_c_38 : Ref sig .tc := ⟨.hbm, 530, rfl⟩
abbrev main_call1_call0_v150 : Ref sig .tc := ⟨.hbm, 531, rfl⟩
abbrev main_call1_call0_v151 : Ref sig .tc := ⟨.hbm, 532, rfl⟩
abbrev main_call1_call0_c_39 : Ref sig .tc := ⟨.hbm, 533, rfl⟩
abbrev main_call1_call0_v152 : Ref sig .tc := ⟨.hbm, 534, rfl⟩
abbrev main_call1_call0_v153 : Ref sig .tc := ⟨.hbm, 535, rfl⟩
abbrev main_call1_call0_v154 : Ref sig .tc := ⟨.hbm, 536, rfl⟩
abbrev main_call1_call0_v155 : Ref sig .tc := ⟨.hbm, 537, rfl⟩
abbrev main_call1_call0_v156 : Ref sig .tc := ⟨.hbm, 538, rfl⟩
abbrev main_call1_call0_c_40 : Ref sig .tc := ⟨.hbm, 539, rfl⟩
abbrev main_call1_call0_v157 : Ref sig .tc := ⟨.hbm, 540, rfl⟩
abbrev main_call1_call0_v158 : Ref sig .tc := ⟨.hbm, 541, rfl⟩
abbrev main_call1_call0_c_41 : Ref sig .tc := ⟨.hbm, 542, rfl⟩
abbrev main_call1_call0_v159 : Ref sig .tc := ⟨.hbm, 543, rfl⟩
abbrev main_call1_call0_v160 : Ref sig .tc := ⟨.hbm, 544, rfl⟩
abbrev main_call1_call0_v161 : Ref sig .tc := ⟨.hbm, 545, rfl⟩
abbrev main_call1_call0_v162 : Ref sig .tc := ⟨.hbm, 546, rfl⟩
abbrev main_call1_call0_v163 : Ref sig .tc := ⟨.hbm, 547, rfl⟩
abbrev main_call1_call0_c_42 : Ref sig .tc := ⟨.hbm, 548, rfl⟩
abbrev main_call1_call0_v164 : Ref sig .tc := ⟨.hbm, 549, rfl⟩
abbrev main_call1_call0_v165 : Ref sig .tc := ⟨.hbm, 550, rfl⟩
abbrev main_call1_call0_c_43 : Ref sig .tc := ⟨.hbm, 551, rfl⟩
abbrev main_call1_call0_v166 : Ref sig .tc := ⟨.hbm, 552, rfl⟩
abbrev main_call1_call0_v167 : Ref sig .tc := ⟨.hbm, 553, rfl⟩
abbrev main_call1_call0_v168 : Ref sig .tc := ⟨.hbm, 554, rfl⟩
abbrev main_call1_call0_v169 : Ref sig .tc := ⟨.hbm, 555, rfl⟩
abbrev main_call1_call0_v170 : Ref sig .tc := ⟨.hbm, 556, rfl⟩
abbrev main_call1_v19_0 : Ref sig .tc := ⟨.hbm, 557, rfl⟩
abbrev main_call1_call0_v172 : Ref sig .tc := ⟨.hbm, 558, rfl⟩
abbrev main_call1_call0_v173 : Ref sig .tc := ⟨.hbm, 559, rfl⟩
abbrev main_call1_call0_c_44 : Ref sig .tc := ⟨.hbm, 560, rfl⟩
abbrev main_call1_call0_v174 : Ref sig .tc := ⟨.hbm, 561, rfl⟩
abbrev main_call1_v19_1 : Ref sig .tc := ⟨.hbm, 562, rfl⟩
abbrev main_call1_v20 : Ref sig .tc := ⟨.hbm, 563, rfl⟩
abbrev main_call1_c_2 : Ref sig .tc := ⟨.hbm, 564, rfl⟩
abbrev main_call1_v21 : Ref sig .tc := ⟨.hbm, 565, rfl⟩
abbrev main_call1_v22 : Ref sig .tc := ⟨.hbm, 566, rfl⟩
abbrev main_call1_c_3 : Ref sig .tc := ⟨.hbm, 567, rfl⟩
abbrev main_call1_v23 : Ref sig .tc := ⟨.hbm, 568, rfl⟩
abbrev main_call1_v24 : Ref sig .tc := ⟨.hbm, 569, rfl⟩
abbrev main_call1_v25 : Ref sig .tc := ⟨.hbm, 570, rfl⟩
abbrev main_call1_cst : Ref sig .tc := ⟨.hbm, 571, rfl⟩
abbrev main_call1_v26 : Ref sig .tc := ⟨.hbm, 572, rfl⟩
abbrev main_call1_v27 : Ref sig .tc := ⟨.hbm, 573, rfl⟩
abbrev main_call1_v28 : Ref sig .tc := ⟨.hbm, 574, rfl⟩
abbrev main_call1_v29 : Ref sig .tc := ⟨.hbm, 575, rfl⟩
abbrev main_call1_v30 : Ref sig .tc := ⟨.hbm, 576, rfl⟩
abbrev main_call1_v31 : Ref sig .tc := ⟨.hbm, 577, rfl⟩
abbrev main_call1_v32 : Ref sig .tc := ⟨.hbm, 578, rfl⟩
abbrev main_call1_v33 : Ref sig .tc := ⟨.hbm, 579, rfl⟩
abbrev main_v58 : Ref sig .tc := ⟨.hbm, 580, rfl⟩
abbrev main_c_16 : Ref sig .tc := ⟨.hbm, 581, rfl⟩
abbrev main_call2_c : Ref sig .tc := ⟨.hbm, 582, rfl⟩
abbrev main_call2_v0 : Ref sig .tc := ⟨.hbm, 583, rfl⟩
abbrev main_call2_v1 : Ref sig .tc := ⟨.hbm, 584, rfl⟩
abbrev main_call2_c_0 : Ref sig .tc := ⟨.hbm, 585, rfl⟩
abbrev main_call2_v2 : Ref sig .tc := ⟨.hbm, 586, rfl⟩
abbrev main_call2_v3 : Ref sig .tc := ⟨.hbm, 587, rfl⟩
abbrev main_call2_v4 : Ref sig .tc := ⟨.hbm, 588, rfl⟩
abbrev main_call2_v5 : Ref sig .tc := ⟨.hbm, 589, rfl⟩
abbrev main_call2_v6 : Ref sig .tc := ⟨.hbm, 590, rfl⟩
abbrev main_call2_v7 : Ref sig .tc := ⟨.hbm, 591, rfl⟩
abbrev main_call2_v8 : Ref sig .tc := ⟨.hbm, 592, rfl⟩
abbrev main_call2_v9 : Ref sig .tc := ⟨.hbm, 593, rfl⟩
abbrev main_call2_v10 : Ref sig .tc := ⟨.hbm, 594, rfl⟩
abbrev main_call2_call0_v0 : Ref sig .tc := ⟨.hbm, 595, rfl⟩
abbrev main_call2_call0_c : Ref sig .tc := ⟨.hbm, 596, rfl⟩
abbrev main_call2_call0_v1 : Ref sig .tc := ⟨.hbm, 597, rfl⟩
abbrev main_call2_call0_v2 : Ref sig .tc := ⟨.hbm, 598, rfl⟩
abbrev main_call2_call0_v3 : Ref sig .tc := ⟨.hbm, 599, rfl⟩
abbrev main_call2_call0_v4 : Ref sig .tc := ⟨.hbm, 600, rfl⟩
abbrev main_call2_call0_v5 : Ref sig .tc := ⟨.hbm, 601, rfl⟩
abbrev main_call2_call0_v6 : Ref sig .tc := ⟨.hbm, 602, rfl⟩
abbrev main_call2_call0_c_0 : Ref sig .tc := ⟨.hbm, 603, rfl⟩
abbrev main_call2_call0_v7 : Ref sig .tc := ⟨.hbm, 604, rfl⟩
abbrev main_call2_call0_v8 : Ref sig .tc := ⟨.hbm, 605, rfl⟩
abbrev main_call2_call0_c_1 : Ref sig .tc := ⟨.hbm, 606, rfl⟩
abbrev main_call2_call0_v9 : Ref sig .tc := ⟨.hbm, 607, rfl⟩
abbrev main_call2_call0_v10 : Ref sig .tc := ⟨.hbm, 608, rfl⟩
abbrev main_call2_call0_v11 : Ref sig .tc := ⟨.hbm, 609, rfl⟩
abbrev main_call2_call0_v12 : Ref sig .tc := ⟨.hbm, 610, rfl⟩
abbrev main_call2_call0_v13 : Ref sig .tc := ⟨.hbm, 611, rfl⟩
abbrev main_call2_call0_c_2 : Ref sig .tc := ⟨.hbm, 612, rfl⟩
abbrev main_call2_call0_v14 : Ref sig .tc := ⟨.hbm, 613, rfl⟩
abbrev main_call2_call0_v15 : Ref sig .tc := ⟨.hbm, 614, rfl⟩
abbrev main_call2_call0_c_3 : Ref sig .tc := ⟨.hbm, 615, rfl⟩
abbrev main_call2_call0_v16 : Ref sig .tc := ⟨.hbm, 616, rfl⟩
abbrev main_call2_call0_v17 : Ref sig .tc := ⟨.hbm, 617, rfl⟩
abbrev main_call2_call0_v18 : Ref sig .tc := ⟨.hbm, 618, rfl⟩
abbrev main_call2_call0_v19 : Ref sig .tc := ⟨.hbm, 619, rfl⟩
abbrev main_call2_call0_v20 : Ref sig .tc := ⟨.hbm, 620, rfl⟩
abbrev main_call2_call0_c_4 : Ref sig .tc := ⟨.hbm, 621, rfl⟩
abbrev main_call2_call0_v21 : Ref sig .tc := ⟨.hbm, 622, rfl⟩
abbrev main_call2_call0_v22 : Ref sig .tc := ⟨.hbm, 623, rfl⟩
abbrev main_call2_call0_c_5 : Ref sig .tc := ⟨.hbm, 624, rfl⟩
abbrev main_call2_call0_v23 : Ref sig .tc := ⟨.hbm, 625, rfl⟩
abbrev main_call2_call0_v24 : Ref sig .tc := ⟨.hbm, 626, rfl⟩
abbrev main_call2_call0_v25 : Ref sig .tc := ⟨.hbm, 627, rfl⟩
abbrev main_call2_call0_v26 : Ref sig .tc := ⟨.hbm, 628, rfl⟩
abbrev main_call2_call0_v27 : Ref sig .tc := ⟨.hbm, 629, rfl⟩
abbrev main_call2_call0_c_6 : Ref sig .tc := ⟨.hbm, 630, rfl⟩
abbrev main_call2_call0_v28 : Ref sig .tc := ⟨.hbm, 631, rfl⟩
abbrev main_call2_call0_v29 : Ref sig .tc := ⟨.hbm, 632, rfl⟩
abbrev main_call2_call0_c_7 : Ref sig .tc := ⟨.hbm, 633, rfl⟩
abbrev main_call2_call0_v30 : Ref sig .tc := ⟨.hbm, 634, rfl⟩
abbrev main_call2_call0_v31 : Ref sig .tc := ⟨.hbm, 635, rfl⟩
abbrev main_call2_call0_v32 : Ref sig .tc := ⟨.hbm, 636, rfl⟩
abbrev main_call2_call0_v33 : Ref sig .tc := ⟨.hbm, 637, rfl⟩
abbrev main_call2_call0_v34 : Ref sig .tc := ⟨.hbm, 638, rfl⟩
abbrev main_call2_call0_v35 : Ref sig .tc := ⟨.hbm, 639, rfl⟩
abbrev main_call2_call0_v36 : Ref sig .tc := ⟨.hbm, 640, rfl⟩
abbrev main_call2_call0_v37 : Ref sig .tc := ⟨.hbm, 641, rfl⟩
abbrev main_call2_call0_c_8 : Ref sig .tc := ⟨.hbm, 642, rfl⟩
abbrev main_call2_call0_v38 : Ref sig .tc := ⟨.hbm, 643, rfl⟩
abbrev main_call2_call0_v39 : Ref sig .tc := ⟨.hbm, 644, rfl⟩
abbrev main_call2_call0_v40 : Ref sig .tc := ⟨.hbm, 645, rfl⟩
abbrev main_call2_call0_c_9 : Ref sig .tc := ⟨.hbm, 646, rfl⟩
abbrev main_call2_call0_v41 : Ref sig .tc := ⟨.hbm, 647, rfl⟩
abbrev main_call2_call0_v42 : Ref sig .tc := ⟨.hbm, 648, rfl⟩
abbrev main_call2_call0_c_10 : Ref sig .tc := ⟨.hbm, 649, rfl⟩
abbrev main_call2_call0_v43 : Ref sig .tc := ⟨.hbm, 650, rfl⟩
abbrev main_call2_call0_v44 : Ref sig .tc := ⟨.hbm, 651, rfl⟩
abbrev main_call2_call0_v45 : Ref sig .tc := ⟨.hbm, 652, rfl⟩
abbrev main_call2_call0_v46 : Ref sig .tc := ⟨.hbm, 653, rfl⟩
abbrev main_call2_call0_v47 : Ref sig .tc := ⟨.hbm, 654, rfl⟩
abbrev main_call2_call0_c_11 : Ref sig .tc := ⟨.hbm, 655, rfl⟩
abbrev main_call2_call0_v48 : Ref sig .tc := ⟨.hbm, 656, rfl⟩
abbrev main_call2_call0_v49 : Ref sig .tc := ⟨.hbm, 657, rfl⟩
abbrev main_call2_call0_c_12 : Ref sig .tc := ⟨.hbm, 658, rfl⟩
abbrev main_call2_call0_v50 : Ref sig .tc := ⟨.hbm, 659, rfl⟩
abbrev main_call2_call0_v51 : Ref sig .tc := ⟨.hbm, 660, rfl⟩
abbrev main_call2_call0_v52 : Ref sig .tc := ⟨.hbm, 661, rfl⟩
abbrev main_call2_call0_v53 : Ref sig .tc := ⟨.hbm, 662, rfl⟩
abbrev main_call2_call0_v54 : Ref sig .tc := ⟨.hbm, 663, rfl⟩
abbrev main_call2_call0_c_13 : Ref sig .tc := ⟨.hbm, 664, rfl⟩
abbrev main_call2_call0_v55 : Ref sig .tc := ⟨.hbm, 665, rfl⟩
abbrev main_call2_call0_v56 : Ref sig .tc := ⟨.hbm, 666, rfl⟩
abbrev main_call2_call0_c_14 : Ref sig .tc := ⟨.hbm, 667, rfl⟩
abbrev main_call2_call0_v57 : Ref sig .tc := ⟨.hbm, 668, rfl⟩
abbrev main_call2_call0_v58 : Ref sig .tc := ⟨.hbm, 669, rfl⟩
abbrev main_call2_call0_v59 : Ref sig .tc := ⟨.hbm, 670, rfl⟩
abbrev main_call2_call0_v60 : Ref sig .tc := ⟨.hbm, 671, rfl⟩
abbrev main_call2_call0_v61 : Ref sig .tc := ⟨.hbm, 672, rfl⟩
abbrev main_call2_call0_c_15 : Ref sig .tc := ⟨.hbm, 673, rfl⟩
abbrev main_call2_call0_v62 : Ref sig .tc := ⟨.hbm, 674, rfl⟩
abbrev main_call2_call0_v63 : Ref sig .tc := ⟨.hbm, 675, rfl⟩
abbrev main_call2_call0_c_16 : Ref sig .tc := ⟨.hbm, 676, rfl⟩
abbrev main_call2_call0_v64 : Ref sig .tc := ⟨.hbm, 677, rfl⟩
abbrev main_call2_call0_v65 : Ref sig .tc := ⟨.hbm, 678, rfl⟩
abbrev main_call2_call0_v66 : Ref sig .tc := ⟨.hbm, 679, rfl⟩
abbrev main_call2_call0_v67 : Ref sig .tc := ⟨.hbm, 680, rfl⟩
abbrev main_call2_call0_v68 : Ref sig .tc := ⟨.hbm, 681, rfl⟩
abbrev main_call2_call0_v69 : Ref sig .tc := ⟨.hbm, 682, rfl⟩
abbrev main_call2_call0_v70 : Ref sig .tc := ⟨.hbm, 683, rfl⟩
abbrev main_call2_call0_v71 : Ref sig .tc := ⟨.hbm, 684, rfl⟩
abbrev main_call2_call0_c_17 : Ref sig .tc := ⟨.hbm, 685, rfl⟩
abbrev main_call2_call0_v72 : Ref sig .tc := ⟨.hbm, 686, rfl⟩
abbrev main_call2_call0_v73 : Ref sig .tc := ⟨.hbm, 687, rfl⟩
abbrev main_call2_call0_v74 : Ref sig .tc := ⟨.hbm, 688, rfl⟩
abbrev main_call2_call0_c_18 : Ref sig .tc := ⟨.hbm, 689, rfl⟩
abbrev main_call2_call0_v75 : Ref sig .tc := ⟨.hbm, 690, rfl⟩
abbrev main_call2_call0_v76 : Ref sig .tc := ⟨.hbm, 691, rfl⟩
abbrev main_call2_call0_c_19 : Ref sig .tc := ⟨.hbm, 692, rfl⟩
abbrev main_call2_call0_v77 : Ref sig .tc := ⟨.hbm, 693, rfl⟩
abbrev main_call2_call0_v78 : Ref sig .tc := ⟨.hbm, 694, rfl⟩
abbrev main_call2_call0_v79 : Ref sig .tc := ⟨.hbm, 695, rfl⟩
abbrev main_call2_call0_v80 : Ref sig .tc := ⟨.hbm, 696, rfl⟩
abbrev main_call2_call0_v81 : Ref sig .tc := ⟨.hbm, 697, rfl⟩
abbrev main_call2_call0_c_20 : Ref sig .tc := ⟨.hbm, 698, rfl⟩
abbrev main_call2_call0_v82 : Ref sig .tc := ⟨.hbm, 699, rfl⟩
abbrev main_call2_call0_v83 : Ref sig .tc := ⟨.hbm, 700, rfl⟩
abbrev main_call2_call0_c_21 : Ref sig .tc := ⟨.hbm, 701, rfl⟩
abbrev main_call2_call0_v84 : Ref sig .tc := ⟨.hbm, 702, rfl⟩
abbrev main_call2_call0_v85 : Ref sig .tc := ⟨.hbm, 703, rfl⟩
abbrev main_call2_call0_v86 : Ref sig .tc := ⟨.hbm, 704, rfl⟩
abbrev main_call2_call0_v87 : Ref sig .tc := ⟨.hbm, 705, rfl⟩
abbrev main_call2_call0_v88 : Ref sig .tc := ⟨.hbm, 706, rfl⟩
abbrev main_call2_call0_c_22 : Ref sig .tc := ⟨.hbm, 707, rfl⟩
abbrev main_call2_call0_v89 : Ref sig .tc := ⟨.hbm, 708, rfl⟩
abbrev main_call2_call0_v90 : Ref sig .tc := ⟨.hbm, 709, rfl⟩
abbrev main_call2_call0_c_23 : Ref sig .tc := ⟨.hbm, 710, rfl⟩
abbrev main_call2_call0_v91 : Ref sig .tc := ⟨.hbm, 711, rfl⟩
abbrev main_call2_call0_v92 : Ref sig .tc := ⟨.hbm, 712, rfl⟩
abbrev main_call2_call0_v93 : Ref sig .tc := ⟨.hbm, 713, rfl⟩
abbrev main_call2_call0_v94 : Ref sig .tc := ⟨.hbm, 714, rfl⟩
abbrev main_call2_call0_v95 : Ref sig .tc := ⟨.hbm, 715, rfl⟩
abbrev main_call2_call0_c_24 : Ref sig .tc := ⟨.hbm, 716, rfl⟩
abbrev main_call2_call0_v96 : Ref sig .tc := ⟨.hbm, 717, rfl⟩
abbrev main_call2_call0_v97 : Ref sig .tc := ⟨.hbm, 718, rfl⟩
abbrev main_call2_call0_c_25 : Ref sig .tc := ⟨.hbm, 719, rfl⟩
abbrev main_call2_call0_v98 : Ref sig .tc := ⟨.hbm, 720, rfl⟩
abbrev main_call2_call0_v99 : Ref sig .tc := ⟨.hbm, 721, rfl⟩
abbrev main_call2_call0_v100 : Ref sig .tc := ⟨.hbm, 722, rfl⟩
abbrev main_call2_call0_v101 : Ref sig .tc := ⟨.hbm, 723, rfl⟩
abbrev main_call2_call0_v102 : Ref sig .tc := ⟨.hbm, 724, rfl⟩
abbrev main_call2_call0_v103 : Ref sig .tc := ⟨.hbm, 725, rfl⟩
abbrev main_call2_call0_v104 : Ref sig .tc := ⟨.hbm, 726, rfl⟩
abbrev main_call2_call0_v105 : Ref sig .tc := ⟨.hbm, 727, rfl⟩
abbrev main_call2_call0_c_26 : Ref sig .tc := ⟨.hbm, 728, rfl⟩
abbrev main_call2_call0_v106 : Ref sig .tc := ⟨.hbm, 729, rfl⟩
abbrev main_call2_call0_v107 : Ref sig .tc := ⟨.hbm, 730, rfl⟩
abbrev main_call2_call0_v108 : Ref sig .tc := ⟨.hbm, 731, rfl⟩
abbrev main_call2_call0_c_27 : Ref sig .tc := ⟨.hbm, 732, rfl⟩
abbrev main_call2_call0_v109 : Ref sig .tc := ⟨.hbm, 733, rfl⟩
abbrev main_call2_call0_v110 : Ref sig .tc := ⟨.hbm, 734, rfl⟩
abbrev main_call2_call0_c_28 : Ref sig .tc := ⟨.hbm, 735, rfl⟩
abbrev main_call2_call0_v111 : Ref sig .tc := ⟨.hbm, 736, rfl⟩
abbrev main_call2_call0_v112 : Ref sig .tc := ⟨.hbm, 737, rfl⟩
abbrev main_call2_call0_v113 : Ref sig .tc := ⟨.hbm, 738, rfl⟩
abbrev main_call2_call0_v114 : Ref sig .tc := ⟨.hbm, 739, rfl⟩
abbrev main_call2_call0_v115 : Ref sig .tc := ⟨.hbm, 740, rfl⟩
abbrev main_call2_call0_c_29 : Ref sig .tc := ⟨.hbm, 741, rfl⟩
abbrev main_call2_call0_v116 : Ref sig .tc := ⟨.hbm, 742, rfl⟩
abbrev main_call2_call0_v117 : Ref sig .tc := ⟨.hbm, 743, rfl⟩
abbrev main_call2_call0_c_30 : Ref sig .tc := ⟨.hbm, 744, rfl⟩
abbrev main_call2_call0_v118 : Ref sig .tc := ⟨.hbm, 745, rfl⟩
abbrev main_call2_call0_v119 : Ref sig .tc := ⟨.hbm, 746, rfl⟩
abbrev main_call2_call0_v120 : Ref sig .tc := ⟨.hbm, 747, rfl⟩
abbrev main_call2_call0_v121 : Ref sig .tc := ⟨.hbm, 748, rfl⟩
abbrev main_call2_call0_v122 : Ref sig .tc := ⟨.hbm, 749, rfl⟩
abbrev main_call2_call0_c_31 : Ref sig .tc := ⟨.hbm, 750, rfl⟩
abbrev main_call2_call0_v123 : Ref sig .tc := ⟨.hbm, 751, rfl⟩
abbrev main_call2_call0_v124 : Ref sig .tc := ⟨.hbm, 752, rfl⟩
abbrev main_call2_call0_c_32 : Ref sig .tc := ⟨.hbm, 753, rfl⟩
abbrev main_call2_call0_v125 : Ref sig .tc := ⟨.hbm, 754, rfl⟩
abbrev main_call2_call0_v126 : Ref sig .tc := ⟨.hbm, 755, rfl⟩
abbrev main_call2_call0_v127 : Ref sig .tc := ⟨.hbm, 756, rfl⟩
abbrev main_call2_call0_v128 : Ref sig .tc := ⟨.hbm, 757, rfl⟩
abbrev main_call2_call0_v129 : Ref sig .tc := ⟨.hbm, 758, rfl⟩
abbrev main_call2_call0_c_33 : Ref sig .tc := ⟨.hbm, 759, rfl⟩
abbrev main_call2_call0_v130 : Ref sig .tc := ⟨.hbm, 760, rfl⟩
abbrev main_call2_call0_v131 : Ref sig .tc := ⟨.hbm, 761, rfl⟩
abbrev main_call2_call0_c_34 : Ref sig .tc := ⟨.hbm, 762, rfl⟩
abbrev main_call2_call0_v132 : Ref sig .tc := ⟨.hbm, 763, rfl⟩
abbrev main_call2_call0_v133 : Ref sig .tc := ⟨.hbm, 764, rfl⟩
abbrev main_call2_call0_v134 : Ref sig .tc := ⟨.hbm, 765, rfl⟩
abbrev main_call2_call0_v135 : Ref sig .tc := ⟨.hbm, 766, rfl⟩
abbrev main_call2_call0_v136 : Ref sig .tc := ⟨.hbm, 767, rfl⟩
abbrev main_call2_call0_v137 : Ref sig .tc := ⟨.hbm, 768, rfl⟩
abbrev main_call2_call0_v138 : Ref sig .tc := ⟨.hbm, 769, rfl⟩
abbrev main_call2_call0_v139 : Ref sig .tc := ⟨.hbm, 770, rfl⟩
abbrev main_call2_call0_c_35 : Ref sig .tc := ⟨.hbm, 771, rfl⟩
abbrev main_call2_call0_v140 : Ref sig .tc := ⟨.hbm, 772, rfl⟩
abbrev main_call2_call0_v141 : Ref sig .tc := ⟨.hbm, 773, rfl⟩
abbrev main_call2_call0_v142 : Ref sig .tc := ⟨.hbm, 774, rfl⟩
abbrev main_call2_call0_c_36 : Ref sig .tc := ⟨.hbm, 775, rfl⟩
abbrev main_call2_call0_v143 : Ref sig .tc := ⟨.hbm, 776, rfl⟩
abbrev main_call2_call0_v144 : Ref sig .tc := ⟨.hbm, 777, rfl⟩
abbrev main_call2_call0_c_37 : Ref sig .tc := ⟨.hbm, 778, rfl⟩
abbrev main_call2_call0_v145 : Ref sig .tc := ⟨.hbm, 779, rfl⟩
abbrev main_call2_call0_v146 : Ref sig .tc := ⟨.hbm, 780, rfl⟩
abbrev main_call2_call0_v147 : Ref sig .tc := ⟨.hbm, 781, rfl⟩
abbrev main_call2_call0_v148 : Ref sig .tc := ⟨.hbm, 782, rfl⟩
abbrev main_call2_call0_v149 : Ref sig .tc := ⟨.hbm, 783, rfl⟩
abbrev main_call2_call0_c_38 : Ref sig .tc := ⟨.hbm, 784, rfl⟩
abbrev main_call2_call0_v150 : Ref sig .tc := ⟨.hbm, 785, rfl⟩
abbrev main_call2_call0_v151 : Ref sig .tc := ⟨.hbm, 786, rfl⟩
abbrev main_call2_call0_c_39 : Ref sig .tc := ⟨.hbm, 787, rfl⟩
abbrev main_call2_call0_v152 : Ref sig .tc := ⟨.hbm, 788, rfl⟩
abbrev main_call2_call0_v153 : Ref sig .tc := ⟨.hbm, 789, rfl⟩
abbrev main_call2_call0_v154 : Ref sig .tc := ⟨.hbm, 790, rfl⟩
abbrev main_call2_call0_v155 : Ref sig .tc := ⟨.hbm, 791, rfl⟩
abbrev main_call2_call0_v156 : Ref sig .tc := ⟨.hbm, 792, rfl⟩
abbrev main_call2_call0_c_40 : Ref sig .tc := ⟨.hbm, 793, rfl⟩
abbrev main_call2_call0_v157 : Ref sig .tc := ⟨.hbm, 794, rfl⟩
abbrev main_call2_call0_v158 : Ref sig .tc := ⟨.hbm, 795, rfl⟩
abbrev main_call2_call0_c_41 : Ref sig .tc := ⟨.hbm, 796, rfl⟩
abbrev main_call2_call0_v159 : Ref sig .tc := ⟨.hbm, 797, rfl⟩
abbrev main_call2_call0_v160 : Ref sig .tc := ⟨.hbm, 798, rfl⟩
abbrev main_call2_call0_v161 : Ref sig .tc := ⟨.hbm, 799, rfl⟩
abbrev main_call2_call0_v162 : Ref sig .tc := ⟨.hbm, 800, rfl⟩
abbrev main_call2_call0_v163 : Ref sig .tc := ⟨.hbm, 801, rfl⟩
abbrev main_call2_call0_c_42 : Ref sig .tc := ⟨.hbm, 802, rfl⟩
abbrev main_call2_call0_v164 : Ref sig .tc := ⟨.hbm, 803, rfl⟩
abbrev main_call2_call0_v165 : Ref sig .tc := ⟨.hbm, 804, rfl⟩
abbrev main_call2_call0_c_43 : Ref sig .tc := ⟨.hbm, 805, rfl⟩
abbrev main_call2_call0_v166 : Ref sig .tc := ⟨.hbm, 806, rfl⟩
abbrev main_call2_call0_v167 : Ref sig .tc := ⟨.hbm, 807, rfl⟩
abbrev main_call2_call0_v168 : Ref sig .tc := ⟨.hbm, 808, rfl⟩
abbrev main_call2_call0_v169 : Ref sig .tc := ⟨.hbm, 809, rfl⟩
abbrev main_call2_call0_v170 : Ref sig .tc := ⟨.hbm, 810, rfl⟩
abbrev main_call2_v11_0 : Ref sig .tc := ⟨.hbm, 811, rfl⟩
abbrev main_call2_call0_v172 : Ref sig .tc := ⟨.hbm, 812, rfl⟩
abbrev main_call2_call0_v173 : Ref sig .tc := ⟨.hbm, 813, rfl⟩
abbrev main_call2_call0_c_44 : Ref sig .tc := ⟨.hbm, 814, rfl⟩
abbrev main_call2_call0_v174 : Ref sig .tc := ⟨.hbm, 815, rfl⟩
abbrev main_call2_v11_1 : Ref sig .tc := ⟨.hbm, 816, rfl⟩
abbrev main_v59 : Ref sig .tc := ⟨.hbm, 817, rfl⟩
abbrev main_cst_17 : Ref sig .tc := ⟨.hbm, 818, rfl⟩
abbrev main_cst_18 : Ref sig .tc := ⟨.hbm, 819, rfl⟩
abbrev main_call3_v0 : Ref sig .tc := ⟨.hbm, 820, rfl⟩
abbrev main_call3_v1 : Ref sig .tc := ⟨.hbm, 821, rfl⟩
abbrev main_call3_v2 : Ref sig .tc := ⟨.hbm, 822, rfl⟩
abbrev main_call3_v3 : Ref sig .tc := ⟨.hbm, 823, rfl⟩
abbrev main_call3_v4 : Ref sig .tc := ⟨.hbm, 824, rfl⟩
abbrev main_call3_v5 : Ref sig .tc := ⟨.hbm, 825, rfl⟩
abbrev main_call3_v6 : Ref sig .tc := ⟨.hbm, 826, rfl⟩
abbrev main_call3_v7 : Ref sig .tc := ⟨.hbm, 827, rfl⟩
abbrev main_call3_v8 : Ref sig .tc := ⟨.hbm, 828, rfl⟩
abbrev main_call3_v9 : Ref sig .tc := ⟨.hbm, 829, rfl⟩
abbrev main_call3_c : Ref sig .tc := ⟨.hbm, 830, rfl⟩
abbrev main_call3_v10 : Ref sig .tc := ⟨.hbm, 831, rfl⟩
abbrev main_call3_v11 : Ref sig .tc := ⟨.hbm, 832, rfl⟩
abbrev main_call3_c_0 : Ref sig .tc := ⟨.hbm, 833, rfl⟩
abbrev main_call3_v12 : Ref sig .tc := ⟨.hbm, 834, rfl⟩
abbrev main_call3_v13 : Ref sig .tc := ⟨.hbm, 835, rfl⟩
abbrev main_call3_v14 : Ref sig .tc := ⟨.hbm, 836, rfl⟩
abbrev main_call3_c_1 : Ref sig .tc := ⟨.hbm, 837, rfl⟩
abbrev main_call3_v15 : Ref sig .tc := ⟨.hbm, 838, rfl⟩
abbrev main_call3_v16 : Ref sig .tc := ⟨.hbm, 839, rfl⟩
abbrev main_call3_v17 : Ref sig .tc := ⟨.hbm, 840, rfl⟩
abbrev main_call3_v18 : Ref sig .tc := ⟨.hbm, 841, rfl⟩
abbrev main_call3_call0_v0 : Ref sig .tc := ⟨.hbm, 842, rfl⟩
abbrev main_call3_call0_c : Ref sig .tc := ⟨.hbm, 843, rfl⟩
abbrev main_call3_call0_v1 : Ref sig .tc := ⟨.hbm, 844, rfl⟩
abbrev main_call3_call0_v2 : Ref sig .tc := ⟨.hbm, 845, rfl⟩
abbrev main_call3_call0_v3 : Ref sig .tc := ⟨.hbm, 846, rfl⟩
abbrev main_call3_call0_v4 : Ref sig .tc := ⟨.hbm, 847, rfl⟩
abbrev main_call3_call0_v5 : Ref sig .tc := ⟨.hbm, 848, rfl⟩
abbrev main_call3_call0_v6 : Ref sig .tc := ⟨.hbm, 849, rfl⟩
abbrev main_call3_call0_c_0 : Ref sig .tc := ⟨.hbm, 850, rfl⟩
abbrev main_call3_call0_v7 : Ref sig .tc := ⟨.hbm, 851, rfl⟩
abbrev main_call3_call0_v8 : Ref sig .tc := ⟨.hbm, 852, rfl⟩
abbrev main_call3_call0_c_1 : Ref sig .tc := ⟨.hbm, 853, rfl⟩
abbrev main_call3_call0_v9 : Ref sig .tc := ⟨.hbm, 854, rfl⟩
abbrev main_call3_call0_v10 : Ref sig .tc := ⟨.hbm, 855, rfl⟩
abbrev main_call3_call0_v11 : Ref sig .tc := ⟨.hbm, 856, rfl⟩
abbrev main_call3_call0_v12 : Ref sig .tc := ⟨.hbm, 857, rfl⟩
abbrev main_call3_call0_v13 : Ref sig .tc := ⟨.hbm, 858, rfl⟩
abbrev main_call3_call0_c_2 : Ref sig .tc := ⟨.hbm, 859, rfl⟩
abbrev main_call3_call0_v14 : Ref sig .tc := ⟨.hbm, 860, rfl⟩
abbrev main_call3_call0_v15 : Ref sig .tc := ⟨.hbm, 861, rfl⟩
abbrev main_call3_call0_c_3 : Ref sig .tc := ⟨.hbm, 862, rfl⟩
abbrev main_call3_call0_v16 : Ref sig .tc := ⟨.hbm, 863, rfl⟩
abbrev main_call3_call0_v17 : Ref sig .tc := ⟨.hbm, 864, rfl⟩
abbrev main_call3_call0_v18 : Ref sig .tc := ⟨.hbm, 865, rfl⟩
abbrev main_call3_call0_v19 : Ref sig .tc := ⟨.hbm, 866, rfl⟩
abbrev main_call3_call0_v20 : Ref sig .tc := ⟨.hbm, 867, rfl⟩
abbrev main_call3_call0_c_4 : Ref sig .tc := ⟨.hbm, 868, rfl⟩
abbrev main_call3_call0_v21 : Ref sig .tc := ⟨.hbm, 869, rfl⟩
abbrev main_call3_call0_v22 : Ref sig .tc := ⟨.hbm, 870, rfl⟩
abbrev main_call3_call0_c_5 : Ref sig .tc := ⟨.hbm, 871, rfl⟩
abbrev main_call3_call0_v23 : Ref sig .tc := ⟨.hbm, 872, rfl⟩
abbrev main_call3_call0_v24 : Ref sig .tc := ⟨.hbm, 873, rfl⟩
abbrev main_call3_call0_v25 : Ref sig .tc := ⟨.hbm, 874, rfl⟩
abbrev main_call3_call0_v26 : Ref sig .tc := ⟨.hbm, 875, rfl⟩
abbrev main_call3_call0_v27 : Ref sig .tc := ⟨.hbm, 876, rfl⟩
abbrev main_call3_call0_c_6 : Ref sig .tc := ⟨.hbm, 877, rfl⟩
abbrev main_call3_call0_v28 : Ref sig .tc := ⟨.hbm, 878, rfl⟩
abbrev main_call3_call0_v29 : Ref sig .tc := ⟨.hbm, 879, rfl⟩
abbrev main_call3_call0_c_7 : Ref sig .tc := ⟨.hbm, 880, rfl⟩
abbrev main_call3_call0_v30 : Ref sig .tc := ⟨.hbm, 881, rfl⟩
abbrev main_call3_call0_v31 : Ref sig .tc := ⟨.hbm, 882, rfl⟩
abbrev main_call3_call0_v32 : Ref sig .tc := ⟨.hbm, 883, rfl⟩
abbrev main_call3_call0_v33 : Ref sig .tc := ⟨.hbm, 884, rfl⟩
abbrev main_call3_call0_v34 : Ref sig .tc := ⟨.hbm, 885, rfl⟩
abbrev main_call3_call0_v35 : Ref sig .tc := ⟨.hbm, 886, rfl⟩
abbrev main_call3_call0_v36 : Ref sig .tc := ⟨.hbm, 887, rfl⟩
abbrev main_call3_call0_v37 : Ref sig .tc := ⟨.hbm, 888, rfl⟩
abbrev main_call3_call0_c_8 : Ref sig .tc := ⟨.hbm, 889, rfl⟩
abbrev main_call3_call0_v38 : Ref sig .tc := ⟨.hbm, 890, rfl⟩
abbrev main_call3_call0_v39 : Ref sig .tc := ⟨.hbm, 891, rfl⟩
abbrev main_call3_call0_v40 : Ref sig .tc := ⟨.hbm, 892, rfl⟩
abbrev main_call3_call0_c_9 : Ref sig .tc := ⟨.hbm, 893, rfl⟩
abbrev main_call3_call0_v41 : Ref sig .tc := ⟨.hbm, 894, rfl⟩
abbrev main_call3_call0_v42 : Ref sig .tc := ⟨.hbm, 895, rfl⟩
abbrev main_call3_call0_c_10 : Ref sig .tc := ⟨.hbm, 896, rfl⟩
abbrev main_call3_call0_v43 : Ref sig .tc := ⟨.hbm, 897, rfl⟩
abbrev main_call3_call0_v44 : Ref sig .tc := ⟨.hbm, 898, rfl⟩
abbrev main_call3_call0_v45 : Ref sig .tc := ⟨.hbm, 899, rfl⟩
abbrev main_call3_call0_v46 : Ref sig .tc := ⟨.hbm, 900, rfl⟩
abbrev main_call3_call0_v47 : Ref sig .tc := ⟨.hbm, 901, rfl⟩
abbrev main_call3_call0_c_11 : Ref sig .tc := ⟨.hbm, 902, rfl⟩
abbrev main_call3_call0_v48 : Ref sig .tc := ⟨.hbm, 903, rfl⟩
abbrev main_call3_call0_v49 : Ref sig .tc := ⟨.hbm, 904, rfl⟩
abbrev main_call3_call0_c_12 : Ref sig .tc := ⟨.hbm, 905, rfl⟩
abbrev main_call3_call0_v50 : Ref sig .tc := ⟨.hbm, 906, rfl⟩
abbrev main_call3_call0_v51 : Ref sig .tc := ⟨.hbm, 907, rfl⟩
abbrev main_call3_call0_v52 : Ref sig .tc := ⟨.hbm, 908, rfl⟩
abbrev main_call3_call0_v53 : Ref sig .tc := ⟨.hbm, 909, rfl⟩
abbrev main_call3_call0_v54 : Ref sig .tc := ⟨.hbm, 910, rfl⟩
abbrev main_call3_call0_c_13 : Ref sig .tc := ⟨.hbm, 911, rfl⟩
abbrev main_call3_call0_v55 : Ref sig .tc := ⟨.hbm, 912, rfl⟩
abbrev main_call3_call0_v56 : Ref sig .tc := ⟨.hbm, 913, rfl⟩
abbrev main_call3_call0_c_14 : Ref sig .tc := ⟨.hbm, 914, rfl⟩
abbrev main_call3_call0_v57 : Ref sig .tc := ⟨.hbm, 915, rfl⟩
abbrev main_call3_call0_v58 : Ref sig .tc := ⟨.hbm, 916, rfl⟩
abbrev main_call3_call0_v59 : Ref sig .tc := ⟨.hbm, 917, rfl⟩
abbrev main_call3_call0_v60 : Ref sig .tc := ⟨.hbm, 918, rfl⟩
abbrev main_call3_call0_v61 : Ref sig .tc := ⟨.hbm, 919, rfl⟩
abbrev main_call3_call0_c_15 : Ref sig .tc := ⟨.hbm, 920, rfl⟩
abbrev main_call3_call0_v62 : Ref sig .tc := ⟨.hbm, 921, rfl⟩
abbrev main_call3_call0_v63 : Ref sig .tc := ⟨.hbm, 922, rfl⟩
abbrev main_call3_call0_c_16 : Ref sig .tc := ⟨.hbm, 923, rfl⟩
abbrev main_call3_call0_v64 : Ref sig .tc := ⟨.hbm, 924, rfl⟩
abbrev main_call3_call0_v65 : Ref sig .tc := ⟨.hbm, 925, rfl⟩
abbrev main_call3_call0_v66 : Ref sig .tc := ⟨.hbm, 926, rfl⟩
abbrev main_call3_call0_v67 : Ref sig .tc := ⟨.hbm, 927, rfl⟩
abbrev main_call3_call0_v68 : Ref sig .tc := ⟨.hbm, 928, rfl⟩
abbrev main_call3_call0_v69 : Ref sig .tc := ⟨.hbm, 929, rfl⟩
abbrev main_call3_call0_v70 : Ref sig .tc := ⟨.hbm, 930, rfl⟩
abbrev main_call3_call0_v71 : Ref sig .tc := ⟨.hbm, 931, rfl⟩
abbrev main_call3_call0_c_17 : Ref sig .tc := ⟨.hbm, 932, rfl⟩
abbrev main_call3_call0_v72 : Ref sig .tc := ⟨.hbm, 933, rfl⟩
abbrev main_call3_call0_v73 : Ref sig .tc := ⟨.hbm, 934, rfl⟩
abbrev main_call3_call0_v74 : Ref sig .tc := ⟨.hbm, 935, rfl⟩
abbrev main_call3_call0_c_18 : Ref sig .tc := ⟨.hbm, 936, rfl⟩
abbrev main_call3_call0_v75 : Ref sig .tc := ⟨.hbm, 937, rfl⟩
abbrev main_call3_call0_v76 : Ref sig .tc := ⟨.hbm, 938, rfl⟩
abbrev main_call3_call0_c_19 : Ref sig .tc := ⟨.hbm, 939, rfl⟩
abbrev main_call3_call0_v77 : Ref sig .tc := ⟨.hbm, 940, rfl⟩
abbrev main_call3_call0_v78 : Ref sig .tc := ⟨.hbm, 941, rfl⟩
abbrev main_call3_call0_v79 : Ref sig .tc := ⟨.hbm, 942, rfl⟩
abbrev main_call3_call0_v80 : Ref sig .tc := ⟨.hbm, 943, rfl⟩
abbrev main_call3_call0_v81 : Ref sig .tc := ⟨.hbm, 944, rfl⟩
abbrev main_call3_call0_c_20 : Ref sig .tc := ⟨.hbm, 945, rfl⟩
abbrev main_call3_call0_v82 : Ref sig .tc := ⟨.hbm, 946, rfl⟩
abbrev main_call3_call0_v83 : Ref sig .tc := ⟨.hbm, 947, rfl⟩
abbrev main_call3_call0_c_21 : Ref sig .tc := ⟨.hbm, 948, rfl⟩
abbrev main_call3_call0_v84 : Ref sig .tc := ⟨.hbm, 949, rfl⟩
abbrev main_call3_call0_v85 : Ref sig .tc := ⟨.hbm, 950, rfl⟩
abbrev main_call3_call0_v86 : Ref sig .tc := ⟨.hbm, 951, rfl⟩
abbrev main_call3_call0_v87 : Ref sig .tc := ⟨.hbm, 952, rfl⟩
abbrev main_call3_call0_v88 : Ref sig .tc := ⟨.hbm, 953, rfl⟩
abbrev main_call3_call0_c_22 : Ref sig .tc := ⟨.hbm, 954, rfl⟩
abbrev main_call3_call0_v89 : Ref sig .tc := ⟨.hbm, 955, rfl⟩
abbrev main_call3_call0_v90 : Ref sig .tc := ⟨.hbm, 956, rfl⟩
abbrev main_call3_call0_c_23 : Ref sig .tc := ⟨.hbm, 957, rfl⟩
abbrev main_call3_call0_v91 : Ref sig .tc := ⟨.hbm, 958, rfl⟩
abbrev main_call3_call0_v92 : Ref sig .tc := ⟨.hbm, 959, rfl⟩
abbrev main_call3_call0_v93 : Ref sig .tc := ⟨.hbm, 960, rfl⟩
abbrev main_call3_call0_v94 : Ref sig .tc := ⟨.hbm, 961, rfl⟩
abbrev main_call3_call0_v95 : Ref sig .tc := ⟨.hbm, 962, rfl⟩
abbrev main_call3_call0_c_24 : Ref sig .tc := ⟨.hbm, 963, rfl⟩
abbrev main_call3_call0_v96 : Ref sig .tc := ⟨.hbm, 964, rfl⟩
abbrev main_call3_call0_v97 : Ref sig .tc := ⟨.hbm, 965, rfl⟩
abbrev main_call3_call0_c_25 : Ref sig .tc := ⟨.hbm, 966, rfl⟩
abbrev main_call3_call0_v98 : Ref sig .tc := ⟨.hbm, 967, rfl⟩
abbrev main_call3_call0_v99 : Ref sig .tc := ⟨.hbm, 968, rfl⟩
abbrev main_call3_call0_v100 : Ref sig .tc := ⟨.hbm, 969, rfl⟩
abbrev main_call3_call0_v101 : Ref sig .tc := ⟨.hbm, 970, rfl⟩
abbrev main_call3_call0_v102 : Ref sig .tc := ⟨.hbm, 971, rfl⟩
abbrev main_call3_call0_v103 : Ref sig .tc := ⟨.hbm, 972, rfl⟩
abbrev main_call3_call0_v104 : Ref sig .tc := ⟨.hbm, 973, rfl⟩
abbrev main_call3_call0_v105 : Ref sig .tc := ⟨.hbm, 974, rfl⟩
abbrev main_call3_call0_c_26 : Ref sig .tc := ⟨.hbm, 975, rfl⟩
abbrev main_call3_call0_v106 : Ref sig .tc := ⟨.hbm, 976, rfl⟩
abbrev main_call3_call0_v107 : Ref sig .tc := ⟨.hbm, 977, rfl⟩
abbrev main_call3_call0_v108 : Ref sig .tc := ⟨.hbm, 978, rfl⟩
abbrev main_call3_call0_c_27 : Ref sig .tc := ⟨.hbm, 979, rfl⟩
abbrev main_call3_call0_v109 : Ref sig .tc := ⟨.hbm, 980, rfl⟩
abbrev main_call3_call0_v110 : Ref sig .tc := ⟨.hbm, 981, rfl⟩
abbrev main_call3_call0_c_28 : Ref sig .tc := ⟨.hbm, 982, rfl⟩
abbrev main_call3_call0_v111 : Ref sig .tc := ⟨.hbm, 983, rfl⟩
abbrev main_call3_call0_v112 : Ref sig .tc := ⟨.hbm, 984, rfl⟩
abbrev main_call3_call0_v113 : Ref sig .tc := ⟨.hbm, 985, rfl⟩
abbrev main_call3_call0_v114 : Ref sig .tc := ⟨.hbm, 986, rfl⟩
abbrev main_call3_call0_v115 : Ref sig .tc := ⟨.hbm, 987, rfl⟩
abbrev main_call3_call0_c_29 : Ref sig .tc := ⟨.hbm, 988, rfl⟩
abbrev main_call3_call0_v116 : Ref sig .tc := ⟨.hbm, 989, rfl⟩
abbrev main_call3_call0_v117 : Ref sig .tc := ⟨.hbm, 990, rfl⟩
abbrev main_call3_call0_c_30 : Ref sig .tc := ⟨.hbm, 991, rfl⟩
abbrev main_call3_call0_v118 : Ref sig .tc := ⟨.hbm, 992, rfl⟩
abbrev main_call3_call0_v119 : Ref sig .tc := ⟨.hbm, 993, rfl⟩
abbrev main_call3_call0_v120 : Ref sig .tc := ⟨.hbm, 994, rfl⟩
abbrev main_call3_call0_v121 : Ref sig .tc := ⟨.hbm, 995, rfl⟩
abbrev main_call3_call0_v122 : Ref sig .tc := ⟨.hbm, 996, rfl⟩
abbrev main_call3_call0_c_31 : Ref sig .tc := ⟨.hbm, 997, rfl⟩
abbrev main_call3_call0_v123 : Ref sig .tc := ⟨.hbm, 998, rfl⟩
abbrev main_call3_call0_v124 : Ref sig .tc := ⟨.hbm, 999, rfl⟩
abbrev main_call3_call0_c_32 : Ref sig .tc := ⟨.hbm, 1000, rfl⟩
abbrev main_call3_call0_v125 : Ref sig .tc := ⟨.hbm, 1001, rfl⟩
abbrev main_call3_call0_v126 : Ref sig .tc := ⟨.hbm, 1002, rfl⟩
abbrev main_call3_call0_v127 : Ref sig .tc := ⟨.hbm, 1003, rfl⟩
abbrev main_call3_call0_v128 : Ref sig .tc := ⟨.hbm, 1004, rfl⟩
abbrev main_call3_call0_v129 : Ref sig .tc := ⟨.hbm, 1005, rfl⟩
abbrev main_call3_call0_c_33 : Ref sig .tc := ⟨.hbm, 1006, rfl⟩
abbrev main_call3_call0_v130 : Ref sig .tc := ⟨.hbm, 1007, rfl⟩
abbrev main_call3_call0_v131 : Ref sig .tc := ⟨.hbm, 1008, rfl⟩
abbrev main_call3_call0_c_34 : Ref sig .tc := ⟨.hbm, 1009, rfl⟩
abbrev main_call3_call0_v132 : Ref sig .tc := ⟨.hbm, 1010, rfl⟩
abbrev main_call3_call0_v133 : Ref sig .tc := ⟨.hbm, 1011, rfl⟩
abbrev main_call3_call0_v134 : Ref sig .tc := ⟨.hbm, 1012, rfl⟩
abbrev main_call3_call0_v135 : Ref sig .tc := ⟨.hbm, 1013, rfl⟩
abbrev main_call3_call0_v136 : Ref sig .tc := ⟨.hbm, 1014, rfl⟩
abbrev main_call3_call0_v137 : Ref sig .tc := ⟨.hbm, 1015, rfl⟩
abbrev main_call3_call0_v138 : Ref sig .tc := ⟨.hbm, 1016, rfl⟩
abbrev main_call3_call0_v139 : Ref sig .tc := ⟨.hbm, 1017, rfl⟩
abbrev main_call3_call0_c_35 : Ref sig .tc := ⟨.hbm, 1018, rfl⟩
abbrev main_call3_call0_v140 : Ref sig .tc := ⟨.hbm, 1019, rfl⟩
abbrev main_call3_call0_v141 : Ref sig .tc := ⟨.hbm, 1020, rfl⟩
abbrev main_call3_call0_v142 : Ref sig .tc := ⟨.hbm, 1021, rfl⟩
abbrev main_call3_call0_c_36 : Ref sig .tc := ⟨.hbm, 1022, rfl⟩
abbrev main_call3_call0_v143 : Ref sig .tc := ⟨.hbm, 1023, rfl⟩
abbrev main_call3_call0_v144 : Ref sig .tc := ⟨.hbm, 1024, rfl⟩
abbrev main_call3_call0_c_37 : Ref sig .tc := ⟨.hbm, 1025, rfl⟩
abbrev main_call3_call0_v145 : Ref sig .tc := ⟨.hbm, 1026, rfl⟩
abbrev main_call3_call0_v146 : Ref sig .tc := ⟨.hbm, 1027, rfl⟩
abbrev main_call3_call0_v147 : Ref sig .tc := ⟨.hbm, 1028, rfl⟩
abbrev main_call3_call0_v148 : Ref sig .tc := ⟨.hbm, 1029, rfl⟩
abbrev main_call3_call0_v149 : Ref sig .tc := ⟨.hbm, 1030, rfl⟩
abbrev main_call3_call0_c_38 : Ref sig .tc := ⟨.hbm, 1031, rfl⟩
abbrev main_call3_call0_v150 : Ref sig .tc := ⟨.hbm, 1032, rfl⟩
abbrev main_call3_call0_v151 : Ref sig .tc := ⟨.hbm, 1033, rfl⟩
abbrev main_call3_call0_c_39 : Ref sig .tc := ⟨.hbm, 1034, rfl⟩
abbrev main_call3_call0_v152 : Ref sig .tc := ⟨.hbm, 1035, rfl⟩
abbrev main_call3_call0_v153 : Ref sig .tc := ⟨.hbm, 1036, rfl⟩
abbrev main_call3_call0_v154 : Ref sig .tc := ⟨.hbm, 1037, rfl⟩
abbrev main_call3_call0_v155 : Ref sig .tc := ⟨.hbm, 1038, rfl⟩
abbrev main_call3_call0_v156 : Ref sig .tc := ⟨.hbm, 1039, rfl⟩
abbrev main_call3_call0_c_40 : Ref sig .tc := ⟨.hbm, 1040, rfl⟩
abbrev main_call3_call0_v157 : Ref sig .tc := ⟨.hbm, 1041, rfl⟩
abbrev main_call3_call0_v158 : Ref sig .tc := ⟨.hbm, 1042, rfl⟩
abbrev main_call3_call0_c_41 : Ref sig .tc := ⟨.hbm, 1043, rfl⟩
abbrev main_call3_call0_v159 : Ref sig .tc := ⟨.hbm, 1044, rfl⟩
abbrev main_call3_call0_v160 : Ref sig .tc := ⟨.hbm, 1045, rfl⟩
abbrev main_call3_call0_v161 : Ref sig .tc := ⟨.hbm, 1046, rfl⟩
abbrev main_call3_call0_v162 : Ref sig .tc := ⟨.hbm, 1047, rfl⟩
abbrev main_call3_call0_v163 : Ref sig .tc := ⟨.hbm, 1048, rfl⟩
abbrev main_call3_call0_c_42 : Ref sig .tc := ⟨.hbm, 1049, rfl⟩
abbrev main_call3_call0_v164 : Ref sig .tc := ⟨.hbm, 1050, rfl⟩
abbrev main_call3_call0_v165 : Ref sig .tc := ⟨.hbm, 1051, rfl⟩
abbrev main_call3_call0_c_43 : Ref sig .tc := ⟨.hbm, 1052, rfl⟩
abbrev main_call3_call0_v166 : Ref sig .tc := ⟨.hbm, 1053, rfl⟩
abbrev main_call3_call0_v167 : Ref sig .tc := ⟨.hbm, 1054, rfl⟩
abbrev main_call3_call0_v168 : Ref sig .tc := ⟨.hbm, 1055, rfl⟩
abbrev main_call3_call0_v169 : Ref sig .tc := ⟨.hbm, 1056, rfl⟩
abbrev main_call3_call0_v170 : Ref sig .tc := ⟨.hbm, 1057, rfl⟩
abbrev main_call3_v19_0 : Ref sig .tc := ⟨.hbm, 1058, rfl⟩
abbrev main_call3_call0_v172 : Ref sig .tc := ⟨.hbm, 1059, rfl⟩
abbrev main_call3_call0_v173 : Ref sig .tc := ⟨.hbm, 1060, rfl⟩
abbrev main_call3_call0_c_44 : Ref sig .tc := ⟨.hbm, 1061, rfl⟩
abbrev main_call3_call0_v174 : Ref sig .tc := ⟨.hbm, 1062, rfl⟩
abbrev main_call3_v19_1 : Ref sig .tc := ⟨.hbm, 1063, rfl⟩
abbrev main_call3_v20 : Ref sig .tc := ⟨.hbm, 1064, rfl⟩
abbrev main_call3_c_2 : Ref sig .tc := ⟨.hbm, 1065, rfl⟩
abbrev main_call3_v21 : Ref sig .tc := ⟨.hbm, 1066, rfl⟩
abbrev main_call3_v22 : Ref sig .tc := ⟨.hbm, 1067, rfl⟩
abbrev main_call3_c_3 : Ref sig .tc := ⟨.hbm, 1068, rfl⟩
abbrev main_call3_v23 : Ref sig .tc := ⟨.hbm, 1069, rfl⟩
abbrev main_call3_v24 : Ref sig .tc := ⟨.hbm, 1070, rfl⟩
abbrev main_call3_v25 : Ref sig .tc := ⟨.hbm, 1071, rfl⟩
abbrev main_call3_cst : Ref sig .tc := ⟨.hbm, 1072, rfl⟩
abbrev main_call3_v26 : Ref sig .tc := ⟨.hbm, 1073, rfl⟩
abbrev main_call3_v27 : Ref sig .tc := ⟨.hbm, 1074, rfl⟩
abbrev main_call3_v28 : Ref sig .tc := ⟨.hbm, 1075, rfl⟩
abbrev main_call3_v29 : Ref sig .tc := ⟨.hbm, 1076, rfl⟩
abbrev main_call3_v30 : Ref sig .tc := ⟨.hbm, 1077, rfl⟩
abbrev main_call3_v31 : Ref sig .tc := ⟨.hbm, 1078, rfl⟩
abbrev main_call3_v32 : Ref sig .tc := ⟨.hbm, 1079, rfl⟩
abbrev main_call3_v33 : Ref sig .tc := ⟨.hbm, 1080, rfl⟩
abbrev main_v60 : Ref sig .tc := ⟨.hbm, 1081, rfl⟩
abbrev main_v61 : Ref sig .tc := ⟨.hbm, 1082, rfl⟩
abbrev main_v62_0 : Ref sig .tc := ⟨.hbm, 1083, rfl⟩
abbrev main_v62_1 : Ref sig .tc := ⟨.hbm, 1084, rfl⟩
abbrev main_v62_2 : Ref sig .tc := ⟨.hbm, 1085, rfl⟩
abbrev main_v62_3 : Ref sig .tc := ⟨.hbm, 1086, rfl⟩
abbrev main_v62_4 : Ref sig .tc := ⟨.hbm, 1087, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x152 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16384x3x50 : Shape := ⟨3, ![16384, 3, 50]⟩
abbrev S16384x2 : Shape := ⟨2, ![16384, 2]⟩
abbrev S11x1024 : Shape := ⟨2, ![11, 1024]⟩
abbrev S3x1x1024 : Shape := ⟨3, ![3, 1, 1024]⟩
abbrev S4x1024 : Shape := ⟨2, ![4, 1024]⟩
abbrev S2x1x1024 : Shape := ⟨3, ![2, 1, 1024]⟩
abbrev S2048x1 : Shape := ⟨2, ![2048, 1]⟩
abbrev S1 : Shape := ⟨1, ![1]⟩
abbrev S_ : Shape := ⟨0, ![]⟩
abbrev S16384x1024 : Shape := ⟨2, ![16384, 1024]⟩
abbrev S16384x1x50 : Shape := ⟨3, ![16384, 1, 50]⟩
abbrev S16384x50 : Shape := ⟨2, ![16384, 50]⟩
abbrev S16384x50x1 : Shape := ⟨3, ![16384, 50, 1]⟩
abbrev S1x1x1 : Shape := ⟨3, ![1, 1, 1]⟩
abbrev S16384x50x1024 : Shape := ⟨3, ![16384, 50, 1024]⟩
abbrev S1x1x1024 : Shape := ⟨3, ![1, 1, 1024]⟩
abbrev S1x1024 : Shape := ⟨2, ![1, 1024]⟩
abbrev S16384x1 : Shape := ⟨2, ![16384, 1]⟩
abbrev S16384 : Shape := ⟨1, ![16384]⟩
abbrev S1x1 : Shape := ⟨2, ![1, 1]⟩
abbrev S2 : Shape := ⟨1, ![2]⟩
abbrev S16384x2048 : Shape := ⟨2, ![16384, 2048]⟩

abbrev nBuf : Space → Nat
  | .hbm => 1245
  | .vmem => 0
  | .smem => 0
  | _ => 0

abbrev hbmTy0_0 (i : Nat) : BufTy := match i % 128 with
  | 0 => ⟨S16384x3x50, .i32⟩
  | 1 => ⟨S16384x2, .i32⟩
  | 2 => ⟨S11x1024, .f32⟩
  | 3 => ⟨S3x1x1024, .f32⟩
  | 4 => ⟨S4x1024, .f32⟩
  | 5 => ⟨S2x1x1024, .f32⟩
  | 6 => ⟨S2048x1, .f32⟩
  | 7 => ⟨S1, .f32⟩
  | 8 => ⟨S_, .f32⟩
  | 9 => ⟨S16384x1024, .f32⟩
  | 10 => ⟨S16384x1x50, .i32⟩
  | 11 => ⟨S16384x50, .i32⟩
  | 12 => ⟨S_, .i32⟩
  | 13 => ⟨S16384x50, .i32⟩
  | 14 => ⟨S16384x50, .i1⟩
  | 15 => ⟨S_, .i32⟩
  | 16 => ⟨S16384x50, .i32⟩
  | 17 => ⟨S16384x50, .i32⟩
  | 18 => ⟨S16384x50, .i32⟩
  | 19 => ⟨S16384x50x1, .i32⟩
  | 20 => ⟨S1, .i32⟩
  | 21 => ⟨S_, .i32⟩
  | 22 => ⟨S16384x50x1, .i32⟩
  | 23 => ⟨S16384x50x1, .i1⟩
  | 24 => ⟨S1x1x1, .i32⟩
  | 25 => ⟨S16384x50x1, .i32⟩
  | 26 => ⟨S16384x50x1, .i1⟩
  | 27 => ⟨S16384x50x1, .i1⟩
  | 28 => ⟨S_, .i1⟩
  | 29 => ⟨S16384x50, .i1⟩
  | 30 => ⟨S16384x50x1024, .f32⟩
  | 31 => ⟨S16384x50x1024, .i1⟩
  | 32 => ⟨S_, .f32⟩
  | 33 => ⟨S16384x50x1024, .f32⟩
  | 34 => ⟨S16384x50x1024, .f32⟩
  | 35 => ⟨S_, .f32⟩
  | 36 => ⟨S16384x1024, .f32⟩
  | 37 => ⟨S1x1x1024, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S16384x1024, .f32⟩
  | 48 => ⟨S16384x1024, .f32⟩
  | 49 => ⟨S16384x1024, .f32⟩
  | 50 => ⟨S16384x1x50, .i32⟩
  | 51 => ⟨S16384x50, .i32⟩
  | 52 => ⟨S_, .i32⟩
  | 53 => ⟨S16384x50, .i32⟩
  | 54 => ⟨S16384x50, .i1⟩
  | 55 => ⟨S_, .i32⟩
  | 56 => ⟨S16384x50, .i32⟩
  | 57 => ⟨S16384x50, .i32⟩
  | 58 => ⟨S16384x50, .i32⟩
  | 59 => ⟨S16384x50x1, .i32⟩
  | 60 => ⟨S1, .i32⟩
  | 61 => ⟨S_, .i32⟩
  | 62 => ⟨S16384x50x1, .i32⟩
  | 63 => ⟨S16384x50x1, .i1⟩
  | 64 => ⟨S1x1x1, .i32⟩
  | 65 => ⟨S16384x50x1, .i32⟩
  | 66 => ⟨S16384x50x1, .i1⟩
  | 67 => ⟨S16384x50x1, .i1⟩
  | 68 => ⟨S_, .i1⟩
  | 69 => ⟨S16384x50, .i1⟩
  | 70 => ⟨S16384x50x1024, .f32⟩
  | 71 => ⟨S16384x50x1024, .i1⟩
  | 72 => ⟨S_, .f32⟩
  | 73 => ⟨S16384x50x1024, .f32⟩
  | 74 => ⟨S16384x50x1024, .f32⟩
  | 75 => ⟨S_, .f32⟩
  | 76 => ⟨S16384x1024, .f32⟩
  | 77 => ⟨S1x1x1024, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S16384x1024, .f32⟩
  | 88 => ⟨S16384x1024, .f32⟩
  | 89 => ⟨S16384x1024, .f32⟩
  | 90 => ⟨S16384x1x50, .i32⟩
  | 91 => ⟨S16384x50, .i32⟩
  | 92 => ⟨S_, .i32⟩
  | 93 => ⟨S16384x50, .i32⟩
  | 94 => ⟨S16384x50, .i1⟩
  | 95 => ⟨S_, .i32⟩
  | 96 => ⟨S16384x50, .i32⟩
  | 97 => ⟨S16384x50, .i32⟩
  | 98 => ⟨S16384x50, .i32⟩
  | 99 => ⟨S16384x50x1, .i32⟩
  | 100 => ⟨S1, .i32⟩
  | 101 => ⟨S_, .i32⟩
  | 102 => ⟨S16384x50x1, .i32⟩
  | 103 => ⟨S16384x50x1, .i1⟩
  | 104 => ⟨S1x1x1, .i32⟩
  | 105 => ⟨S16384x50x1, .i32⟩
  | 106 => ⟨S16384x50x1, .i1⟩
  | 107 => ⟨S16384x50x1, .i1⟩
  | 108 => ⟨S_, .i1⟩
  | 109 => ⟨S16384x50, .i1⟩
  | 110 => ⟨S16384x50x1024, .f32⟩
  | 111 => ⟨S16384x50x1024, .i1⟩
  | 112 => ⟨S_, .f32⟩
  | 113 => ⟨S16384x50x1024, .f32⟩
  | 114 => ⟨S16384x50x1024, .f32⟩
  | 115 => ⟨S_, .f32⟩
  | 116 => ⟨S16384x1024, .f32⟩
  | 117 => ⟨S1x1x1024, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S16384x1024, .f32⟩
  | _ => ⟨S16384x3x50, .i32⟩

abbrev hbmTy0_1 (i : Nat) : BufTy := match i % 128 with
  | 0 => ⟨S16384x1024, .f32⟩
  | 1 => ⟨S16384x1024, .f32⟩
  | 2 => ⟨S_, .f32⟩
  | 3 => ⟨S16384x1024, .f32⟩
  | 4 => ⟨S16384x1, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S1, .i32⟩
  | 15 => ⟨S_, .i32⟩
  | 16 => ⟨S16384x1, .i32⟩
  | 17 => ⟨S16384x1, .i1⟩
  | 18 => ⟨S1x1, .i32⟩
  | 19 => ⟨S16384x1, .i32⟩
  | 20 => ⟨S16384x1, .i1⟩
  | 21 => ⟨S16384x1, .i1⟩
  | 22 => ⟨S_, .i1⟩
  | 23 => ⟨S16384, .i1⟩
  | 24 => ⟨S16384x1024, .f32⟩
  | 25 => ⟨S16384x1024, .i1⟩
  | 26 => ⟨S_, .f32⟩
  | 27 => ⟨S16384x1024, .f32⟩
  | 28 => ⟨S16384x1024, .f32⟩
  | 29 => ⟨S1x1x1024, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S16384x1024, .f32⟩
  | 40 => ⟨S16384x1024, .f32⟩
  | 41 => ⟨S16384x1024, .f32⟩
  | 42 => ⟨S16384x1, .i32⟩
  | 43 => ⟨S16384, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S1, .i32⟩
  | 53 => ⟨S_, .i32⟩
  | 54 => ⟨S16384x1, .i32⟩
  | 55 => ⟨S16384x1, .i1⟩
  | 56 => ⟨S1x1, .i32⟩
  | 57 => ⟨S16384x1, .i32⟩
  | 58 => ⟨S16384x1, .i1⟩
  | 59 => ⟨S16384x1, .i1⟩
  | 60 => ⟨S_, .i1⟩
  | 61 => ⟨S16384, .i1⟩
  | 62 => ⟨S16384x1024, .f32⟩
  | 63 => ⟨S16384x1024, .i1⟩
  | 64 => ⟨S_, .f32⟩
  | 65 => ⟨S16384x1024, .f32⟩
  | 66 => ⟨S16384x1024, .f32⟩
  | 67 => ⟨S1x1x1024, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S_, .f32⟩
  | 83 => ⟨S16384x1024, .f32⟩
  | 84 => ⟨S16384x1024, .f32⟩
  | 85 => ⟨S_, .f32⟩
  | 86 => ⟨S16384x1024, .f32⟩
  | 87 => ⟨S16384x1024, .f32⟩
  | 88 => ⟨S16384x1024, .f32⟩
  | 89 => ⟨S16384x1024, .f32⟩
  | 90 => ⟨S_, .f32⟩
  | 91 => ⟨S16384x1024, .f32⟩
  | 92 => ⟨S16384x1024, .f32⟩
  | 93 => ⟨S_, .f32⟩
  | 94 => ⟨S16384x1024, .f32⟩
  | 95 => ⟨S16384x1024, .f32⟩
  | 96 => ⟨S_, .i32⟩
  | 97 => ⟨S_, .i32⟩
  | 98 => ⟨S_, .i32⟩
  | 99 => ⟨S_, .i32⟩
  | 100 => ⟨S1, .i32⟩
  | 101 => ⟨S_, .i32⟩
  | 102 => ⟨S_, .i32⟩
  | 103 => ⟨S_, .i32⟩
  | 104 => ⟨S1, .i32⟩
  | 105 => ⟨S2, .i32⟩
  | 106 => ⟨S_, .i32⟩
  | 107 => ⟨S_, .i32⟩
  | 108 => ⟨S_, .i32⟩
  | 109 => ⟨S1, .i32⟩
  | 110 => ⟨S_, .i32⟩
  | 111 => ⟨S_, .i32⟩
  | 112 => ⟨S1, .i32⟩
  | 113 => ⟨S2, .i32⟩
  | 114 => ⟨S1, .i32⟩
  | 115 => ⟨S_, .i32⟩
  | 116 => ⟨S1, .i32⟩
  | 117 => ⟨S_, .i32⟩
  | 118 => ⟨S1, .i32⟩
  | 119 => ⟨S1, .i32⟩
  | 120 => ⟨S_, .i32⟩
  | 121 => ⟨S_, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S16384x3x50, .i32⟩

abbrev hbmTy0_2 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S_, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S1, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S_, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S_, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S16384x3x50, .i32⟩

abbrev hbmTy0_3 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S_, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S1, .i32⟩
  | 36 => ⟨S1, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S_, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S1, .i32⟩
  | 79 => ⟨S1, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S2, .i32⟩
  | 87 => ⟨S_, .f32⟩
  | 88 => ⟨S_, .f32⟩
  | 89 => ⟨S_, .f32⟩
  | 90 => ⟨S_, .f32⟩
  | 91 => ⟨S1x1, .f32⟩
  | 92 => ⟨S1x1, .f32⟩
  | 93 => ⟨S1, .i32⟩
  | 94 => ⟨S_, .i32⟩
  | 95 => ⟨S1, .i32⟩
  | 96 => ⟨S_, .i32⟩
  | 97 => ⟨S16384x1024, .i64⟩
  | 98 => ⟨S16384x1024, .i64⟩
  | 99 => ⟨S_, .i64⟩
  | 100 => ⟨S16384x1024, .i64⟩
  | 101 => ⟨S16384x1024, .i64⟩
  | 102 => ⟨S_, .i64⟩
  | 103 => ⟨S16384x1024, .i64⟩
  | 104 => ⟨S16384x1024, .i64⟩
  | 105 => ⟨S16384x1024, .i64⟩
  | 106 => ⟨S_, .i64⟩
  | 107 => ⟨S16384x1024, .i64⟩
  | 108 => ⟨S16384x1024, .i64⟩
  | 109 => ⟨S16384x1024, .i32⟩
  | 110 => ⟨S16384x1024, .i32⟩
  | 111 => ⟨S_, .i32⟩
  | 112 => ⟨S_, .i32⟩
  | 113 => ⟨S_, .i32⟩
  | 114 => ⟨S16384x1024, .i32⟩
  | 115 => ⟨S16384x1024, .i32⟩
  | 116 => ⟨S16384x1024, .i32⟩
  | 117 => ⟨S16384x1024, .i32⟩
  | 118 => ⟨S16384x1024, .i32⟩
  | 119 => ⟨S_, .i32⟩
  | 120 => ⟨S16384x1024, .i32⟩
  | 121 => ⟨S16384x1024, .i32⟩
  | 122 => ⟨S_, .i32⟩
  | 123 => ⟨S16384x1024, .i32⟩
  | 124 => ⟨S16384x1024, .i32⟩
  | 125 => ⟨S16384x1024, .i32⟩
  | 126 => ⟨S16384x1024, .i32⟩
  | 127 => ⟨S16384x1024, .i32⟩
  | _ => ⟨S16384x3x50, .i32⟩

abbrev hbmTy0_4 (i : Nat) : BufTy := match i % 128 with
  | 0 => ⟨S_, .i32⟩
  | 1 => ⟨S16384x1024, .i32⟩
  | 2 => ⟨S16384x1024, .i32⟩
  | 3 => ⟨S_, .i32⟩
  | 4 => ⟨S16384x1024, .i32⟩
  | 5 => ⟨S16384x1024, .i32⟩
  | 6 => ⟨S16384x1024, .i32⟩
  | 7 => ⟨S16384x1024, .i32⟩
  | 8 => ⟨S16384x1024, .i32⟩
  | 9 => ⟨S_, .i32⟩
  | 10 => ⟨S16384x1024, .i32⟩
  | 11 => ⟨S16384x1024, .i32⟩
  | 12 => ⟨S_, .i32⟩
  | 13 => ⟨S16384x1024, .i32⟩
  | 14 => ⟨S16384x1024, .i32⟩
  | 15 => ⟨S16384x1024, .i32⟩
  | 16 => ⟨S16384x1024, .i32⟩
  | 17 => ⟨S16384x1024, .i32⟩
  | 18 => ⟨S_, .i32⟩
  | 19 => ⟨S16384x1024, .i32⟩
  | 20 => ⟨S16384x1024, .i32⟩
  | 21 => ⟨S_, .i32⟩
  | 22 => ⟨S16384x1024, .i32⟩
  | 23 => ⟨S16384x1024, .i32⟩
  | 24 => ⟨S16384x1024, .i32⟩
  | 25 => ⟨S16384x1024, .i32⟩
  | 26 => ⟨S16384x1024, .i32⟩
  | 27 => ⟨S16384x1024, .i32⟩
  | 28 => ⟨S16384x1024, .i32⟩
  | 29 => ⟨S16384x1024, .i32⟩
  | 30 => ⟨S_, .i32⟩
  | 31 => ⟨S16384x1024, .i32⟩
  | 32 => ⟨S16384x1024, .i32⟩
  | 33 => ⟨S16384x1024, .i32⟩
  | 34 => ⟨S_, .i32⟩
  | 35 => ⟨S16384x1024, .i32⟩
  | 36 => ⟨S16384x1024, .i32⟩
  | 37 => ⟨S_, .i32⟩
  | 38 => ⟨S16384x1024, .i32⟩
  | 39 => ⟨S16384x1024, .i32⟩
  | 40 => ⟨S16384x1024, .i32⟩
  | 41 => ⟨S16384x1024, .i32⟩
  | 42 => ⟨S16384x1024, .i32⟩
  | 43 => ⟨S_, .i32⟩
  | 44 => ⟨S16384x1024, .i32⟩
  | 45 => ⟨S16384x1024, .i32⟩
  | 46 => ⟨S_, .i32⟩
  | 47 => ⟨S16384x1024, .i32⟩
  | 48 => ⟨S16384x1024, .i32⟩
  | 49 => ⟨S16384x1024, .i32⟩
  | 50 => ⟨S16384x1024, .i32⟩
  | 51 => ⟨S16384x1024, .i32⟩
  | 52 => ⟨S_, .i32⟩
  | 53 => ⟨S16384x1024, .i32⟩
  | 54 => ⟨S16384x1024, .i32⟩
  | 55 => ⟨S_, .i32⟩
  | 56 => ⟨S16384x1024, .i32⟩
  | 57 => ⟨S16384x1024, .i32⟩
  | 58 => ⟨S16384x1024, .i32⟩
  | 59 => ⟨S16384x1024, .i32⟩
  | 60 => ⟨S16384x1024, .i32⟩
  | 61 => ⟨S_, .i32⟩
  | 62 => ⟨S16384x1024, .i32⟩
  | 63 => ⟨S16384x1024, .i32⟩
  | 64 => ⟨S_, .i32⟩
  | 65 => ⟨S16384x1024, .i32⟩
  | 66 => ⟨S16384x1024, .i32⟩
  | 67 => ⟨S16384x1024, .i32⟩
  | 68 => ⟨S16384x1024, .i32⟩
  | 69 => ⟨S16384x1024, .i32⟩
  | 70 => ⟨S16384x1024, .i32⟩
  | 71 => ⟨S16384x1024, .i32⟩
  | 72 => ⟨S16384x1024, .i32⟩
  | 73 => ⟨S_, .i32⟩
  | 74 => ⟨S16384x1024, .i32⟩
  | 75 => ⟨S16384x1024, .i32⟩
  | 76 => ⟨S16384x1024, .i32⟩
  | 77 => ⟨S_, .i32⟩
  | 78 => ⟨S16384x1024, .i32⟩
  | 79 => ⟨S16384x1024, .i32⟩
  | 80 => ⟨S_, .i32⟩
  | 81 => ⟨S16384x1024, .i32⟩
  | 82 => ⟨S16384x1024, .i32⟩
  | 83 => ⟨S16384x1024, .i32⟩
  | 84 => ⟨S16384x1024, .i32⟩
  | 85 => ⟨S16384x1024, .i32⟩
  | 86 => ⟨S_, .i32⟩
  | 87 => ⟨S16384x1024, .i32⟩
  | 88 => ⟨S16384x1024, .i32⟩
  | 89 => ⟨S_, .i32⟩
  | 90 => ⟨S16384x1024, .i32⟩
  | 91 => ⟨S16384x1024, .i32⟩
  | 92 => ⟨S16384x1024, .i32⟩
  | 93 => ⟨S16384x1024, .i32⟩
  | 94 => ⟨S16384x1024, .i32⟩
  | 95 => ⟨S_, .i32⟩
  | 96 => ⟨S16384x1024, .i32⟩
  | 97 => ⟨S16384x1024, .i32⟩
  | 98 => ⟨S_, .i32⟩
  | 99 => ⟨S16384x1024, .i32⟩
  | 100 => ⟨S16384x1024, .i32⟩
  | 101 => ⟨S16384x1024, .i32⟩
  | 102 => ⟨S16384x1024, .i32⟩
  | 103 => ⟨S16384x1024, .i32⟩
  | 104 => ⟨S_, .i32⟩
  | 105 => ⟨S16384x1024, .i32⟩
  | 106 => ⟨S16384x1024, .i32⟩
  | 107 => ⟨S_, .i32⟩
  | 108 => ⟨S16384x1024, .i32⟩
  | 109 => ⟨S16384x1024, .i32⟩
  | 110 => ⟨S16384x1024, .i32⟩
  | 111 => ⟨S16384x1024, .i32⟩
  | 112 => ⟨S16384x1024, .i32⟩
  | 113 => ⟨S16384x1024, .i32⟩
  | 114 => ⟨S16384x1024, .i32⟩
  | 115 => ⟨S16384x1024, .i32⟩
  | 116 => ⟨S_, .i32⟩
  | 117 => ⟨S16384x1024, .i32⟩
  | 118 => ⟨S16384x1024, .i32⟩
  | 119 => ⟨S16384x1024, .i32⟩
  | 120 => ⟨S_, .i32⟩
  | 121 => ⟨S16384x1024, .i32⟩
  | 122 => ⟨S16384x1024, .i32⟩
  | 123 => ⟨S_, .i32⟩
  | 124 => ⟨S16384x1024, .i32⟩
  | 125 => ⟨S16384x1024, .i32⟩
  | 126 => ⟨S16384x1024, .i32⟩
  | 127 => ⟨S16384x1024, .i32⟩
  | _ => ⟨S16384x3x50, .i32⟩

abbrev hbmTy0_5 (i : Nat) : BufTy := match i % 128 with
  | 0 => ⟨S16384x1024, .i32⟩
  | 1 => ⟨S_, .i32⟩
  | 2 => ⟨S16384x1024, .i32⟩
  | 3 => ⟨S16384x1024, .i32⟩
  | 4 => ⟨S_, .i32⟩
  | 5 => ⟨S16384x1024, .i32⟩
  | 6 => ⟨S16384x1024, .i32⟩
  | 7 => ⟨S16384x1024, .i32⟩
  | 8 => ⟨S16384x1024, .i32⟩
  | 9 => ⟨S16384x1024, .i32⟩
  | 10 => ⟨S_, .i32⟩
  | 11 => ⟨S16384x1024, .i32⟩
  | 12 => ⟨S16384x1024, .i32⟩
  | 13 => ⟨S_, .i32⟩
  | 14 => ⟨S16384x1024, .i32⟩
  | 15 => ⟨S16384x1024, .i32⟩
  | 16 => ⟨S16384x1024, .i32⟩
  | 17 => ⟨S16384x1024, .i32⟩
  | 18 => ⟨S16384x1024, .i32⟩
  | 19 => ⟨S_, .i32⟩
  | 20 => ⟨S16384x1024, .i32⟩
  | 21 => ⟨S16384x1024, .i32⟩
  | 22 => ⟨S_, .i32⟩
  | 23 => ⟨S16384x1024, .i32⟩
  | 24 => ⟨S16384x1024, .i32⟩
  | 25 => ⟨S16384x1024, .i32⟩
  | 26 => ⟨S16384x1024, .i32⟩
  | 27 => ⟨S16384x1024, .i32⟩
  | 28 => ⟨S16384x1024, .i32⟩
  | 29 => ⟨S16384x1024, .i32⟩
  | 30 => ⟨S16384x1024, .i32⟩
  | 31 => ⟨S_, .i32⟩
  | 32 => ⟨S16384x1024, .i32⟩
  | 33 => ⟨S16384x1024, .i32⟩
  | 34 => ⟨S16384x1024, .i32⟩
  | 35 => ⟨S_, .i32⟩
  | 36 => ⟨S16384x1024, .i32⟩
  | 37 => ⟨S16384x1024, .i32⟩
  | 38 => ⟨S_, .i32⟩
  | 39 => ⟨S16384x1024, .i32⟩
  | 40 => ⟨S16384x1024, .i32⟩
  | 41 => ⟨S16384x1024, .i32⟩
  | 42 => ⟨S16384x1024, .i32⟩
  | 43 => ⟨S16384x1024, .i32⟩
  | 44 => ⟨S_, .i32⟩
  | 45 => ⟨S16384x1024, .i32⟩
  | 46 => ⟨S16384x1024, .i32⟩
  | 47 => ⟨S_, .i32⟩
  | 48 => ⟨S16384x1024, .i32⟩
  | 49 => ⟨S16384x1024, .i32⟩
  | 50 => ⟨S16384x1024, .i32⟩
  | 51 => ⟨S16384x1024, .i32⟩
  | 52 => ⟨S16384x1024, .i32⟩
  | 53 => ⟨S_, .i32⟩
  | 54 => ⟨S16384x1024, .i32⟩
  | 55 => ⟨S16384x1024, .i32⟩
  | 56 => ⟨S_, .i32⟩
  | 57 => ⟨S16384x1024, .i32⟩
  | 58 => ⟨S16384x1024, .i32⟩
  | 59 => ⟨S16384x1024, .i32⟩
  | 60 => ⟨S16384x1024, .i32⟩
  | 61 => ⟨S16384x1024, .i32⟩
  | 62 => ⟨S_, .i32⟩
  | 63 => ⟨S16384x1024, .i32⟩
  | 64 => ⟨S16384x1024, .i32⟩
  | 65 => ⟨S_, .i32⟩
  | 66 => ⟨S16384x1024, .i32⟩
  | 67 => ⟨S16384x1024, .i32⟩
  | 68 => ⟨S16384x1024, .i32⟩
  | 69 => ⟨S16384x1024, .i32⟩
  | 70 => ⟨S16384x1024, .i32⟩
  | 71 => ⟨S16384x1024, .i32⟩
  | 72 => ⟨S16384x1024, .i32⟩
  | 73 => ⟨S16384x1024, .i32⟩
  | 74 => ⟨S_, .i32⟩
  | 75 => ⟨S16384x1024, .i32⟩
  | 76 => ⟨S16384x1024, .i32⟩
  | 77 => ⟨S16384x1024, .i32⟩
  | 78 => ⟨S_, .i32⟩
  | 79 => ⟨S16384x1024, .i32⟩
  | 80 => ⟨S16384x1024, .i32⟩
  | 81 => ⟨S_, .i32⟩
  | 82 => ⟨S16384x1024, .i32⟩
  | 83 => ⟨S16384x1024, .i32⟩
  | 84 => ⟨S16384x1024, .f32⟩
  | 85 => ⟨S_, .f32⟩
  | 86 => ⟨S16384x1024, .f32⟩
  | 87 => ⟨S16384x1024, .f32⟩
  | 88 => ⟨S1x1, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S16384x1024, .i1⟩
  | 96 => ⟨S16384x1024, .f32⟩
  | 97 => ⟨S_, .i32⟩
  | 98 => ⟨S_, .i32⟩
  | 99 => ⟨S_, .i32⟩
  | 100 => ⟨S1, .i32⟩
  | 101 => ⟨S_, .i32⟩
  | 102 => ⟨S_, .i32⟩
  | 103 => ⟨S1, .i32⟩
  | 104 => ⟨S2, .i32⟩
  | 105 => ⟨S1, .i32⟩
  | 106 => ⟨S_, .i32⟩
  | 107 => ⟨S1, .i32⟩
  | 108 => ⟨S_, .i32⟩
  | 109 => ⟨S1, .i32⟩
  | 110 => ⟨S1, .i32⟩
  | 111 => ⟨S_, .i32⟩
  | 112 => ⟨S_, .i32⟩
  | 113 => ⟨S_, .i32⟩
  | 114 => ⟨S1, .i32⟩
  | 115 => ⟨S1, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S16384x3x50, .i32⟩

abbrev hbmTy0_6 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S16384x3x50, .i32⟩

abbrev hbmTy0_7 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S2, .i32⟩
  | 78 => ⟨S_, .f32⟩
  | 79 => ⟨S_, .f32⟩
  | 80 => ⟨S_, .f32⟩
  | 81 => ⟨S_, .f32⟩
  | 82 => ⟨S1x1, .f32⟩
  | 83 => ⟨S1x1, .f32⟩
  | 84 => ⟨S1, .i32⟩
  | 85 => ⟨S_, .i32⟩
  | 86 => ⟨S1, .i32⟩
  | 87 => ⟨S_, .i32⟩
  | 88 => ⟨S16384x1024, .i64⟩
  | 89 => ⟨S16384x1024, .i64⟩
  | 90 => ⟨S_, .i64⟩
  | 91 => ⟨S16384x1024, .i64⟩
  | 92 => ⟨S16384x1024, .i64⟩
  | 93 => ⟨S_, .i64⟩
  | 94 => ⟨S16384x1024, .i64⟩
  | 95 => ⟨S16384x1024, .i64⟩
  | 96 => ⟨S16384x1024, .i64⟩
  | 97 => ⟨S_, .i64⟩
  | 98 => ⟨S16384x1024, .i64⟩
  | 99 => ⟨S16384x1024, .i64⟩
  | 100 => ⟨S16384x1024, .i32⟩
  | 101 => ⟨S16384x1024, .i32⟩
  | 102 => ⟨S_, .i32⟩
  | 103 => ⟨S_, .i32⟩
  | 104 => ⟨S_, .i32⟩
  | 105 => ⟨S16384x1024, .i32⟩
  | 106 => ⟨S16384x1024, .i32⟩
  | 107 => ⟨S16384x1024, .i32⟩
  | 108 => ⟨S16384x1024, .i32⟩
  | 109 => ⟨S16384x1024, .i32⟩
  | 110 => ⟨S_, .i32⟩
  | 111 => ⟨S16384x1024, .i32⟩
  | 112 => ⟨S16384x1024, .i32⟩
  | 113 => ⟨S_, .i32⟩
  | 114 => ⟨S16384x1024, .i32⟩
  | 115 => ⟨S16384x1024, .i32⟩
  | 116 => ⟨S16384x1024, .i32⟩
  | 117 => ⟨S16384x1024, .i32⟩
  | 118 => ⟨S16384x1024, .i32⟩
  | 119 => ⟨S_, .i32⟩
  | 120 => ⟨S16384x1024, .i32⟩
  | 121 => ⟨S16384x1024, .i32⟩
  | 122 => ⟨S_, .i32⟩
  | 123 => ⟨S16384x1024, .i32⟩
  | 124 => ⟨S16384x1024, .i32⟩
  | 125 => ⟨S16384x1024, .i32⟩
  | 126 => ⟨S16384x1024, .i32⟩
  | 127 => ⟨S16384x1024, .i32⟩
  | _ => ⟨S16384x3x50, .i32⟩

abbrev hbmTy0_8 (i : Nat) : BufTy := match i % 128 with
  | 0 => ⟨S_, .i32⟩
  | 1 => ⟨S16384x1024, .i32⟩
  | 2 => ⟨S16384x1024, .i32⟩
  | 3 => ⟨S_, .i32⟩
  | 4 => ⟨S16384x1024, .i32⟩
  | 5 => ⟨S16384x1024, .i32⟩
  | 6 => ⟨S16384x1024, .i32⟩
  | 7 => ⟨S16384x1024, .i32⟩
  | 8 => ⟨S16384x1024, .i32⟩
  | 9 => ⟨S_, .i32⟩
  | 10 => ⟨S16384x1024, .i32⟩
  | 11 => ⟨S16384x1024, .i32⟩
  | 12 => ⟨S_, .i32⟩
  | 13 => ⟨S16384x1024, .i32⟩
  | 14 => ⟨S16384x1024, .i32⟩
  | 15 => ⟨S16384x1024, .i32⟩
  | 16 => ⟨S16384x1024, .i32⟩
  | 17 => ⟨S16384x1024, .i32⟩
  | 18 => ⟨S16384x1024, .i32⟩
  | 19 => ⟨S16384x1024, .i32⟩
  | 20 => ⟨S16384x1024, .i32⟩
  | 21 => ⟨S_, .i32⟩
  | 22 => ⟨S16384x1024, .i32⟩
  | 23 => ⟨S16384x1024, .i32⟩
  | 24 => ⟨S16384x1024, .i32⟩
  | 25 => ⟨S_, .i32⟩
  | 26 => ⟨S16384x1024, .i32⟩
  | 27 => ⟨S16384x1024, .i32⟩
  | 28 => ⟨S_, .i32⟩
  | 29 => ⟨S16384x1024, .i32⟩
  | 30 => ⟨S16384x1024, .i32⟩
  | 31 => ⟨S16384x1024, .i32⟩
  | 32 => ⟨S16384x1024, .i32⟩
  | 33 => ⟨S16384x1024, .i32⟩
  | 34 => ⟨S_, .i32⟩
  | 35 => ⟨S16384x1024, .i32⟩
  | 36 => ⟨S16384x1024, .i32⟩
  | 37 => ⟨S_, .i32⟩
  | 38 => ⟨S16384x1024, .i32⟩
  | 39 => ⟨S16384x1024, .i32⟩
  | 40 => ⟨S16384x1024, .i32⟩
  | 41 => ⟨S16384x1024, .i32⟩
  | 42 => ⟨S16384x1024, .i32⟩
  | 43 => ⟨S_, .i32⟩
  | 44 => ⟨S16384x1024, .i32⟩
  | 45 => ⟨S16384x1024, .i32⟩
  | 46 => ⟨S_, .i32⟩
  | 47 => ⟨S16384x1024, .i32⟩
  | 48 => ⟨S16384x1024, .i32⟩
  | 49 => ⟨S16384x1024, .i32⟩
  | 50 => ⟨S16384x1024, .i32⟩
  | 51 => ⟨S16384x1024, .i32⟩
  | 52 => ⟨S_, .i32⟩
  | 53 => ⟨S16384x1024, .i32⟩
  | 54 => ⟨S16384x1024, .i32⟩
  | 55 => ⟨S_, .i32⟩
  | 56 => ⟨S16384x1024, .i32⟩
  | 57 => ⟨S16384x1024, .i32⟩
  | 58 => ⟨S16384x1024, .i32⟩
  | 59 => ⟨S16384x1024, .i32⟩
  | 60 => ⟨S16384x1024, .i32⟩
  | 61 => ⟨S16384x1024, .i32⟩
  | 62 => ⟨S16384x1024, .i32⟩
  | 63 => ⟨S16384x1024, .i32⟩
  | 64 => ⟨S_, .i32⟩
  | 65 => ⟨S16384x1024, .i32⟩
  | 66 => ⟨S16384x1024, .i32⟩
  | 67 => ⟨S16384x1024, .i32⟩
  | 68 => ⟨S_, .i32⟩
  | 69 => ⟨S16384x1024, .i32⟩
  | 70 => ⟨S16384x1024, .i32⟩
  | 71 => ⟨S_, .i32⟩
  | 72 => ⟨S16384x1024, .i32⟩
  | 73 => ⟨S16384x1024, .i32⟩
  | 74 => ⟨S16384x1024, .i32⟩
  | 75 => ⟨S16384x1024, .i32⟩
  | 76 => ⟨S16384x1024, .i32⟩
  | 77 => ⟨S_, .i32⟩
  | 78 => ⟨S16384x1024, .i32⟩
  | 79 => ⟨S16384x1024, .i32⟩
  | 80 => ⟨S_, .i32⟩
  | 81 => ⟨S16384x1024, .i32⟩
  | 82 => ⟨S16384x1024, .i32⟩
  | 83 => ⟨S16384x1024, .i32⟩
  | 84 => ⟨S16384x1024, .i32⟩
  | 85 => ⟨S16384x1024, .i32⟩
  | 86 => ⟨S_, .i32⟩
  | 87 => ⟨S16384x1024, .i32⟩
  | 88 => ⟨S16384x1024, .i32⟩
  | 89 => ⟨S_, .i32⟩
  | 90 => ⟨S16384x1024, .i32⟩
  | 91 => ⟨S16384x1024, .i32⟩
  | 92 => ⟨S16384x1024, .i32⟩
  | 93 => ⟨S16384x1024, .i32⟩
  | 94 => ⟨S16384x1024, .i32⟩
  | 95 => ⟨S_, .i32⟩
  | 96 => ⟨S16384x1024, .i32⟩
  | 97 => ⟨S16384x1024, .i32⟩
  | 98 => ⟨S_, .i32⟩
  | 99 => ⟨S16384x1024, .i32⟩
  | 100 => ⟨S16384x1024, .i32⟩
  | 101 => ⟨S16384x1024, .i32⟩
  | 102 => ⟨S16384x1024, .i32⟩
  | 103 => ⟨S16384x1024, .i32⟩
  | 104 => ⟨S16384x1024, .i32⟩
  | 105 => ⟨S16384x1024, .i32⟩
  | 106 => ⟨S16384x1024, .i32⟩
  | 107 => ⟨S_, .i32⟩
  | 108 => ⟨S16384x1024, .i32⟩
  | 109 => ⟨S16384x1024, .i32⟩
  | 110 => ⟨S16384x1024, .i32⟩
  | 111 => ⟨S_, .i32⟩
  | 112 => ⟨S16384x1024, .i32⟩
  | 113 => ⟨S16384x1024, .i32⟩
  | 114 => ⟨S_, .i32⟩
  | 115 => ⟨S16384x1024, .i32⟩
  | 116 => ⟨S16384x1024, .i32⟩
  | 117 => ⟨S16384x1024, .i32⟩
  | 118 => ⟨S16384x1024, .i32⟩
  | 119 => ⟨S16384x1024, .i32⟩
  | 120 => ⟨S_, .i32⟩
  | 121 => ⟨S16384x1024, .i32⟩
  | 122 => ⟨S16384x1024, .i32⟩
  | 123 => ⟨S_, .i32⟩
  | 124 => ⟨S16384x1024, .i32⟩
  | 125 => ⟨S16384x1024, .i32⟩
  | 126 => ⟨S16384x1024, .i32⟩
  | 127 => ⟨S16384x1024, .i32⟩
  | _ => ⟨S16384x3x50, .i32⟩

abbrev hbmTy0_9 (i : Nat) : BufTy := match i % 128 with
  | 0 => ⟨S16384x1024, .i32⟩
  | 1 => ⟨S_, .i32⟩
  | 2 => ⟨S16384x1024, .i32⟩
  | 3 => ⟨S16384x1024, .i32⟩
  | 4 => ⟨S_, .i32⟩
  | 5 => ⟨S16384x1024, .i32⟩
  | 6 => ⟨S16384x1024, .i32⟩
  | 7 => ⟨S16384x1024, .i32⟩
  | 8 => ⟨S16384x1024, .i32⟩
  | 9 => ⟨S16384x1024, .i32⟩
  | 10 => ⟨S_, .i32⟩
  | 11 => ⟨S16384x1024, .i32⟩
  | 12 => ⟨S16384x1024, .i32⟩
  | 13 => ⟨S_, .i32⟩
  | 14 => ⟨S16384x1024, .i32⟩
  | 15 => ⟨S16384x1024, .i32⟩
  | 16 => ⟨S16384x1024, .i32⟩
  | 17 => ⟨S16384x1024, .i32⟩
  | 18 => ⟨S16384x1024, .i32⟩
  | 19 => ⟨S16384x1024, .i32⟩
  | 20 => ⟨S16384x1024, .i32⟩
  | 21 => ⟨S16384x1024, .i32⟩
  | 22 => ⟨S_, .i32⟩
  | 23 => ⟨S16384x1024, .i32⟩
  | 24 => ⟨S16384x1024, .i32⟩
  | 25 => ⟨S16384x1024, .i32⟩
  | 26 => ⟨S_, .i32⟩
  | 27 => ⟨S16384x1024, .i32⟩
  | 28 => ⟨S16384x1024, .i32⟩
  | 29 => ⟨S_, .i32⟩
  | 30 => ⟨S16384x1024, .i32⟩
  | 31 => ⟨S16384x1024, .i32⟩
  | 32 => ⟨S16384x1024, .i32⟩
  | 33 => ⟨S16384x1024, .i32⟩
  | 34 => ⟨S16384x1024, .i32⟩
  | 35 => ⟨S_, .i32⟩
  | 36 => ⟨S16384x1024, .i32⟩
  | 37 => ⟨S16384x1024, .i32⟩
  | 38 => ⟨S_, .i32⟩
  | 39 => ⟨S16384x1024, .i32⟩
  | 40 => ⟨S16384x1024, .i32⟩
  | 41 => ⟨S16384x1024, .i32⟩
  | 42 => ⟨S16384x1024, .i32⟩
  | 43 => ⟨S16384x1024, .i32⟩
  | 44 => ⟨S_, .i32⟩
  | 45 => ⟨S16384x1024, .i32⟩
  | 46 => ⟨S16384x1024, .i32⟩
  | 47 => ⟨S_, .i32⟩
  | 48 => ⟨S16384x1024, .i32⟩
  | 49 => ⟨S16384x1024, .i32⟩
  | 50 => ⟨S16384x1024, .i32⟩
  | 51 => ⟨S16384x1024, .i32⟩
  | 52 => ⟨S16384x1024, .i32⟩
  | 53 => ⟨S_, .i32⟩
  | 54 => ⟨S16384x1024, .i32⟩
  | 55 => ⟨S16384x1024, .i32⟩
  | 56 => ⟨S_, .i32⟩
  | 57 => ⟨S16384x1024, .i32⟩
  | 58 => ⟨S16384x1024, .i32⟩
  | 59 => ⟨S16384x1024, .i32⟩
  | 60 => ⟨S16384x1024, .i32⟩
  | 61 => ⟨S16384x1024, .i32⟩
  | 62 => ⟨S16384x1024, .i32⟩
  | 63 => ⟨S16384x1024, .i32⟩
  | 64 => ⟨S16384x1024, .i32⟩
  | 65 => ⟨S_, .i32⟩
  | 66 => ⟨S16384x1024, .i32⟩
  | 67 => ⟨S16384x1024, .i32⟩
  | 68 => ⟨S16384x1024, .i32⟩
  | 69 => ⟨S_, .i32⟩
  | 70 => ⟨S16384x1024, .i32⟩
  | 71 => ⟨S16384x1024, .i32⟩
  | 72 => ⟨S_, .i32⟩
  | 73 => ⟨S16384x1024, .i32⟩
  | 74 => ⟨S16384x1024, .i32⟩
  | 75 => ⟨S16384x1024, .f32⟩
  | 76 => ⟨S_, .f32⟩
  | 77 => ⟨S16384x1024, .f32⟩
  | 78 => ⟨S16384x1024, .f32⟩
  | 79 => ⟨S1x1, .f32⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x1024, .f32⟩
  | 86 => ⟨S16384x1024, .i1⟩
  | 87 => ⟨S16384x1024, .f32⟩
  | 88 => ⟨S16384x2048, .f32⟩
  | 89 => ⟨S16384x1, .f32⟩
  | 90 => ⟨S1x1, .f32⟩
  | 91 => ⟨S16384x1, .f32⟩
  | 92 => ⟨S16384x1, .f32⟩
  | _ => ⟨S16384x3x50, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S16384x3x50, .i32⟩

abbrev bufTy : (tb : Table) → Fin (tcTables nBuf tb) → BufTy
  | .hbm, ⟨i, _⟩ => hbmTy i
  | _, _ => ⟨S16384x3x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v3 : Ref sig .tc := ⟨.hbm, 34, rfl⟩
abbrev main_cst_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_cst_2 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v18 : Ref sig .tc := ⟨.hbm, 74, rfl⟩
abbrev main_cst_3 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_cst_4 : Ref sig .tc := ⟨.hbm, 81, rfl⟩
abbrev main_v24 : Ref sig .tc := ⟨.hbm, 82, rfl⟩
abbrev main_v25 : Ref sig .tc := ⟨.hbm, 83, rfl⟩
abbrev main_cst_5 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v33 : Ref sig .tc := ⟨.hbm, 114, rfl⟩
abbrev main_cst_6 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_cst_7 : Ref sig .tc := ⟨.hbm, 121, rfl⟩
abbrev main_v39 : Ref sig .tc := ⟨.hbm, 122, rfl⟩
abbrev main_v40 : Ref sig .tc := ⟨.hbm, 123, rfl⟩
abbrev main_cst_8 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_cst_9 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_call3_c : Ref sig .tc := ⟨.hbm, 134, rfl⟩
abbrev main_call3_v0 : Ref sig .tc := ⟨.hbm, 135, rfl⟩
abbrev main_call3_v1 : Ref sig .tc := ⟨.hbm, 136, rfl⟩
abbrev main_call3_c_0 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_c_1 : Ref sig .tc := ⟨.hbm, 142, rfl⟩
abbrev main_call3_c_2 : Ref sig .tc := ⟨.hbm, 143, rfl⟩
abbrev main_call3_v6 : Ref sig .tc := ⟨.hbm, 144, rfl⟩
abbrev main_call3_v7 : Ref sig .tc := ⟨.hbm, 145, rfl⟩
abbrev main_call3_v8 : Ref sig .tc := ⟨.hbm, 146, rfl⟩
abbrev main_call3_v9 : Ref sig .tc := ⟨.hbm, 147, rfl⟩
abbrev main_call3_v10 : Ref sig .tc := ⟨.hbm, 148, rfl⟩
abbrev main_call3_v11 : Ref sig .tc := ⟨.hbm, 149, rfl⟩
abbrev main_call3_c_3 : Ref sig .tc := ⟨.hbm, 150, rfl⟩
abbrev main_call3_v12 : Ref sig .tc := ⟨.hbm, 151, rfl⟩
abbrev main_call3_v13 : Ref sig .tc := ⟨.hbm, 152, rfl⟩
abbrev main_call3_v14 : Ref sig .tc := ⟨.hbm, 153, rfl⟩
abbrev main_call3_cst : Ref sig .tc := ⟨.hbm, 154, rfl⟩
abbrev main_call3_v15 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_cst_10 : Ref sig .tc := ⟨.hbm, 161, rfl⟩
abbrev main_v54 : Ref sig .tc := ⟨.hbm, 162, rfl⟩
abbrev main_v55 : Ref sig .tc := ⟨.hbm, 163, rfl⟩
abbrev main_cst_11 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_call4_c : Ref sig .tc := ⟨.hbm, 172, rfl⟩
abbrev main_call4_v0 : Ref sig .tc := ⟨.hbm, 173, rfl⟩
abbrev main_call4_v1 : Ref sig .tc := ⟨.hbm, 174, rfl⟩
abbrev main_call4_c_0 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_call4_v5 : Ref sig .tc := ⟨.hbm, 179, rfl⟩
abbrev main_call4_c_1 : Ref sig .tc := ⟨.hbm, 180, rfl⟩
abbrev main_call4_c_2 : Ref sig .tc := ⟨.hbm, 181, rfl⟩
abbrev main_call4_v6 : Ref sig .tc := ⟨.hbm, 182, rfl⟩
abbrev main_call4_v7 : Ref sig .tc := ⟨.hbm, 183, rfl⟩
abbrev main_call4_v8 : Ref sig .tc := ⟨.hbm, 184, rfl⟩
abbrev main_call4_v9 : Ref sig .tc := ⟨.hbm, 185, rfl⟩
abbrev main_call4_v10 : Ref sig .tc := ⟨.hbm, 186, rfl⟩
abbrev main_call4_v11 : Ref sig .tc := ⟨.hbm, 187, rfl⟩
abbrev main_call4_c_3 : Ref sig .tc := ⟨.hbm, 188, rfl⟩
abbrev main_call4_v12 : Ref sig .tc := ⟨.hbm, 189, rfl⟩
abbrev main_call4_v13 : Ref sig .tc := ⟨.hbm, 190, rfl⟩
abbrev main_call4_v14 : Ref sig .tc := ⟨.hbm, 191, rfl⟩
abbrev main_call4_cst : Ref sig .tc := ⟨.hbm, 192, rfl⟩
abbrev main_call4_v15 : Ref sig .tc := ⟨.hbm, 193, rfl⟩
abbrev main_v63 : Ref sig .tc := ⟨.hbm, 194, rfl⟩
abbrev main_v64 : Ref sig .tc := ⟨.hbm, 195, rfl⟩
abbrev main_v65 : Ref sig .tc := ⟨.hbm, 196, rfl⟩
abbrev main_v66 : Ref sig .tc := ⟨.hbm, 197, rfl⟩
abbrev main_v67 : Ref sig .tc := ⟨.hbm, 198, rfl⟩
abbrev main_cst_12 : Ref sig .tc := ⟨.hbm, 199, rfl⟩
abbrev main_v68 : Ref sig .tc := ⟨.hbm, 200, rfl⟩
abbrev main_v69 : Ref sig .tc := ⟨.hbm, 201, rfl⟩
abbrev main_cst_13 : Ref sig .tc := ⟨.hbm, 202, rfl⟩
abbrev main_v70 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_v74 : Ref sig .tc := ⟨.hbm, 207, rfl⟩
abbrev main_v75 : Ref sig .tc := ⟨.hbm, 208, rfl⟩
abbrev main_v76 : Ref sig .tc := ⟨.hbm, 209, rfl⟩
abbrev main_cst_14 : Ref sig .tc := ⟨.hbm, 210, rfl⟩
abbrev main_v77 : Ref sig .tc := ⟨.hbm, 211, rfl⟩
abbrev main_v78 : Ref sig .tc := ⟨.hbm, 212, rfl⟩
abbrev main_cst_15 : Ref sig .tc := ⟨.hbm, 213, rfl⟩
abbrev main_v79 : Ref sig .tc := ⟨.hbm, 214, rfl⟩
abbrev main_v80 : Ref sig .tc := ⟨.hbm, 215, rfl⟩
abbrev main_v81 : Ref sig .tc := ⟨.hbm, 216, rfl⟩
abbrev main_v82 : Ref sig .tc := ⟨.hbm, 217, rfl⟩
abbrev main_cst_16 : Ref sig .tc := ⟨.hbm, 218, rfl⟩
abbrev main_v83 : Ref sig .tc := ⟨.hbm, 219, rfl⟩
abbrev main_v84 : Ref sig .tc := ⟨.hbm, 220, rfl⟩
abbrev main_cst_17 : Ref sig .tc := ⟨.hbm, 221, rfl⟩
abbrev main_v85 : Ref sig .tc := ⟨.hbm, 222, rfl⟩
abbrev main_v86 : Ref sig .tc := ⟨.hbm, 223, rfl⟩
abbrev main_c : Ref sig .tc := ⟨.hbm, 224, rfl⟩
abbrev main_c_18 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_c_19 : Ref sig .tc := ⟨.hbm, 229, rfl⟩
abbrev main_v90 : Ref sig .tc := ⟨.hbm, 230, rfl⟩
abbrev main_v91 : Ref sig .tc := ⟨.hbm, 231, rfl⟩
abbrev main_v92 : Ref sig .tc := ⟨.hbm, 232, rfl⟩
abbrev main_v93 : Ref sig .tc := ⟨.hbm, 233, rfl⟩
abbrev main_c_20 : Ref sig .tc := ⟨.hbm, 234, rfl⟩
abbrev main_call5_c : Ref sig .tc := ⟨.hbm, 235, rfl⟩
abbrev main_call5_v0 : Ref sig .tc := ⟨.hbm, 236, rfl⟩
abbrev main_call5_v1 : Ref sig .tc := ⟨.hbm, 237, rfl⟩
abbrev main_call5_c_0 : Ref sig .tc := ⟨.hbm, 238, rfl⟩
abbrev main_call5_v2 : Ref sig .tc := ⟨.hbm, 239, rfl⟩
abbrev main_call5_v3 : Ref sig .tc := ⟨.hbm, 240, rfl⟩
abbrev main_call5_v4 : Ref sig .tc := ⟨.hbm, 241, rfl⟩
abbrev main_call5_v5 : Ref sig .tc := ⟨.hbm, 242, rfl⟩
abbrev main_call5_v6 : Ref sig .tc := ⟨.hbm, 243, rfl⟩
abbrev main_call5_v7 : Ref sig .tc := ⟨.hbm, 244, rfl⟩
abbrev main_call5_v8 : Ref sig .tc := ⟨.hbm, 245, rfl⟩
abbrev main_call5_v9 : Ref sig .tc := ⟨.hbm, 246, rfl⟩
abbrev main_call5_v10 : Ref sig .tc := ⟨.hbm, 247, rfl⟩
abbrev main_call5_call0_v0 : Ref sig .tc := ⟨.hbm, 248, rfl⟩
abbrev main_call5_call0_c : Ref sig .tc := ⟨.hbm, 249, rfl⟩
abbrev main_call5_call0_v1 : Ref sig .tc := ⟨.hbm, 250, rfl⟩
abbrev main_call5_call0_v2 : Ref sig .tc := ⟨.hbm, 251, rfl⟩
abbrev main_call5_call0_v3 : Ref sig .tc := ⟨.hbm, 252, rfl⟩
abbrev main_call5_call0_v4 : Ref sig .tc := ⟨.hbm, 253, rfl⟩
abbrev main_call5_call0_v5 : Ref sig .tc := ⟨.hbm, 254, rfl⟩
abbrev main_call5_call0_v6 : Ref sig .tc := ⟨.hbm, 255, rfl⟩
abbrev main_call5_call0_c_0 : Ref sig .tc := ⟨.hbm, 256, rfl⟩
abbrev main_call5_call0_v7 : Ref sig .tc := ⟨.hbm, 257, rfl⟩
abbrev main_call5_call0_v8 : Ref sig .tc := ⟨.hbm, 258, rfl⟩
abbrev main_call5_call0_c_1 : Ref sig .tc := ⟨.hbm, 259, rfl⟩
abbrev main_call5_call0_v9 : Ref sig .tc := ⟨.hbm, 260, rfl⟩
abbrev main_call5_call0_v10 : Ref sig .tc := ⟨.hbm, 261, rfl⟩
abbrev main_call5_call0_v11 : Ref sig .tc := ⟨.hbm, 262, rfl⟩
abbrev main_call5_call0_v12 : Ref sig .tc := ⟨.hbm, 263, rfl⟩
abbrev main_call5_call0_v13 : Ref sig .tc := ⟨.hbm, 264, rfl⟩
abbrev main_call5_call0_c_2 : Ref sig .tc := ⟨.hbm, 265, rfl⟩
abbrev main_call5_call0_v14 : Ref sig .tc := ⟨.hbm, 266, rfl⟩
abbrev main_call5_call0_v15 : Ref sig .tc := ⟨.hbm, 267, rfl⟩
abbrev main_call5_call0_c_3 : Ref sig .tc := ⟨.hbm, 268, rfl⟩
abbrev main_call5_call0_v16 : Ref sig .tc := ⟨.hbm, 269, rfl⟩
abbrev main_call5_call0_v17 : Ref sig .tc := ⟨.hbm, 270, rfl⟩
abbrev main_call5_call0_v18 : Ref sig .tc := ⟨.hbm, 271, rfl⟩
abbrev main_call5_call0_v19 : Ref sig .tc := ⟨.hbm, 272, rfl⟩
abbrev main_call5_call0_v20 : Ref sig .tc := ⟨.hbm, 273, rfl⟩
abbrev main_call5_call0_c_4 : Ref sig .tc := ⟨.hbm, 274, rfl⟩
abbrev main_call5_call0_v21 : Ref sig .tc := ⟨.hbm, 275, rfl⟩
abbrev main_call5_call0_v22 : Ref sig .tc := ⟨.hbm, 276, rfl⟩
abbrev main_call5_call0_c_5 : Ref sig .tc := ⟨.hbm, 277, rfl⟩
abbrev main_call5_call0_v23 : Ref sig .tc := ⟨.hbm, 278, rfl⟩
abbrev main_call5_call0_v24 : Ref sig .tc := ⟨.hbm, 279, rfl⟩
abbrev main_call5_call0_v25 : Ref sig .tc := ⟨.hbm, 280, rfl⟩
abbrev main_call5_call0_v26 : Ref sig .tc := ⟨.hbm, 281, rfl⟩
abbrev main_call5_call0_v27 : Ref sig .tc := ⟨.hbm, 282, rfl⟩
abbrev main_call5_call0_c_6 : Ref sig .tc := ⟨.hbm, 283, rfl⟩
abbrev main_call5_call0_v28 : Ref sig .tc := ⟨.hbm, 284, rfl⟩
abbrev main_call5_call0_v29 : Ref sig .tc := ⟨.hbm, 285, rfl⟩
abbrev main_call5_call0_c_7 : Ref sig .tc := ⟨.hbm, 286, rfl⟩
abbrev main_call5_call0_v30 : Ref sig .tc := ⟨.hbm, 287, rfl⟩
abbrev main_call5_call0_v31 : Ref sig .tc := ⟨.hbm, 288, rfl⟩
abbrev main_call5_call0_v32 : Ref sig .tc := ⟨.hbm, 289, rfl⟩
abbrev main_call5_call0_v33 : Ref sig .tc := ⟨.hbm, 290, rfl⟩
abbrev main_call5_call0_v34 : Ref sig .tc := ⟨.hbm, 291, rfl⟩
abbrev main_call5_call0_v35 : Ref sig .tc := ⟨.hbm, 292, rfl⟩
abbrev main_call5_call0_v36 : Ref sig .tc := ⟨.hbm, 293, rfl⟩
abbrev main_call5_call0_v37 : Ref sig .tc := ⟨.hbm, 294, rfl⟩
abbrev main_call5_call0_c_8 : Ref sig .tc := ⟨.hbm, 295, rfl⟩
abbrev main_call5_call0_v38 : Ref sig .tc := ⟨.hbm, 296, rfl⟩
abbrev main_call5_call0_v39 : Ref sig .tc := ⟨.hbm, 297, rfl⟩
abbrev main_call5_call0_v40 : Ref sig .tc := ⟨.hbm, 298, rfl⟩
abbrev main_call5_call0_c_9 : Ref sig .tc := ⟨.hbm, 299, rfl⟩
abbrev main_call5_call0_v41 : Ref sig .tc := ⟨.hbm, 300, rfl⟩
abbrev main_call5_call0_v42 : Ref sig .tc := ⟨.hbm, 301, rfl⟩
abbrev main_call5_call0_c_10 : Ref sig .tc := ⟨.hbm, 302, rfl⟩
abbrev main_call5_call0_v43 : Ref sig .tc := ⟨.hbm, 303, rfl⟩
abbrev main_call5_call0_v44 : Ref sig .tc := ⟨.hbm, 304, rfl⟩
abbrev main_call5_call0_v45 : Ref sig .tc := ⟨.hbm, 305, rfl⟩
abbrev main_call5_call0_v46 : Ref sig .tc := ⟨.hbm, 306, rfl⟩
abbrev main_call5_call0_v47 : Ref sig .tc := ⟨.hbm, 307, rfl⟩
abbrev main_call5_call0_c_11 : Ref sig .tc := ⟨.hbm, 308, rfl⟩
abbrev main_call5_call0_v48 : Ref sig .tc := ⟨.hbm, 309, rfl⟩
abbrev main_call5_call0_v49 : Ref sig .tc := ⟨.hbm, 310, rfl⟩
abbrev main_call5_call0_c_12 : Ref sig .tc := ⟨.hbm, 311, rfl⟩
abbrev main_call5_call0_v50 : Ref sig .tc := ⟨.hbm, 312, rfl⟩
abbrev main_call5_call0_v51 : Ref sig .tc := ⟨.hbm, 313, rfl⟩
abbrev main_call5_call0_v52 : Ref sig .tc := ⟨.hbm, 314, rfl⟩
abbrev main_call5_call0_v53 : Ref sig .tc := ⟨.hbm, 315, rfl⟩
abbrev main_call5_call0_v54 : Ref sig .tc := ⟨.hbm, 316, rfl⟩
abbrev main_call5_call0_c_13 : Ref sig .tc := ⟨.hbm, 317, rfl⟩
abbrev main_call5_call0_v55 : Ref sig .tc := ⟨.hbm, 318, rfl⟩
abbrev main_call5_call0_v56 : Ref sig .tc := ⟨.hbm, 319, rfl⟩
abbrev main_call5_call0_c_14 : Ref sig .tc := ⟨.hbm, 320, rfl⟩
abbrev main_call5_call0_v57 : Ref sig .tc := ⟨.hbm, 321, rfl⟩
abbrev main_call5_call0_v58 : Ref sig .tc := ⟨.hbm, 322, rfl⟩
abbrev main_call5_call0_v59 : Ref sig .tc := ⟨.hbm, 323, rfl⟩
abbrev main_call5_call0_v60 : Ref sig .tc := ⟨.hbm, 324, rfl⟩
abbrev main_call5_call0_v61 : Ref sig .tc := ⟨.hbm, 325, rfl⟩
abbrev main_call5_call0_c_15 : Ref sig .tc := ⟨.hbm, 326, rfl⟩
abbrev main_call5_call0_v62 : Ref sig .tc := ⟨.hbm, 327, rfl⟩
abbrev main_call5_call0_v63 : Ref sig .tc := ⟨.hbm, 328, rfl⟩
abbrev main_call5_call0_c_16 : Ref sig .tc := ⟨.hbm, 329, rfl⟩
abbrev main_call5_call0_v64 : Ref sig .tc := ⟨.hbm, 330, rfl⟩
abbrev main_call5_call0_v65 : Ref sig .tc := ⟨.hbm, 331, rfl⟩
abbrev main_call5_call0_v66 : Ref sig .tc := ⟨.hbm, 332, rfl⟩
abbrev main_call5_call0_v67 : Ref sig .tc := ⟨.hbm, 333, rfl⟩
abbrev main_call5_call0_v68 : Ref sig .tc := ⟨.hbm, 334, rfl⟩
abbrev main_call5_call0_v69 : Ref sig .tc := ⟨.hbm, 335, rfl⟩
abbrev main_call5_call0_v70 : Ref sig .tc := ⟨.hbm, 336, rfl⟩
abbrev main_call5_call0_v71 : Ref sig .tc := ⟨.hbm, 337, rfl⟩
abbrev main_call5_call0_c_17 : Ref sig .tc := ⟨.hbm, 338, rfl⟩
abbrev main_call5_call0_v72 : Ref sig .tc := ⟨.hbm, 339, rfl⟩
abbrev main_call5_call0_v73 : Ref sig .tc := ⟨.hbm, 340, rfl⟩
abbrev main_call5_call0_v74 : Ref sig .tc := ⟨.hbm, 341, rfl⟩
abbrev main_call5_call0_c_18 : Ref sig .tc := ⟨.hbm, 342, rfl⟩
abbrev main_call5_call0_v75 : Ref sig .tc := ⟨.hbm, 343, rfl⟩
abbrev main_call5_call0_v76 : Ref sig .tc := ⟨.hbm, 344, rfl⟩
abbrev main_call5_call0_c_19 : Ref sig .tc := ⟨.hbm, 345, rfl⟩
abbrev main_call5_call0_v77 : Ref sig .tc := ⟨.hbm, 346, rfl⟩
abbrev main_call5_call0_v78 : Ref sig .tc := ⟨.hbm, 347, rfl⟩
abbrev main_call5_call0_v79 : Ref sig .tc := ⟨.hbm, 348, rfl⟩
abbrev main_call5_call0_v80 : Ref sig .tc := ⟨.hbm, 349, rfl⟩
abbrev main_call5_call0_v81 : Ref sig .tc := ⟨.hbm, 350, rfl⟩
abbrev main_call5_call0_c_20 : Ref sig .tc := ⟨.hbm, 351, rfl⟩
abbrev main_call5_call0_v82 : Ref sig .tc := ⟨.hbm, 352, rfl⟩
abbrev main_call5_call0_v83 : Ref sig .tc := ⟨.hbm, 353, rfl⟩
abbrev main_call5_call0_c_21 : Ref sig .tc := ⟨.hbm, 354, rfl⟩
abbrev main_call5_call0_v84 : Ref sig .tc := ⟨.hbm, 355, rfl⟩
abbrev main_call5_call0_v85 : Ref sig .tc := ⟨.hbm, 356, rfl⟩
abbrev main_call5_call0_v86 : Ref sig .tc := ⟨.hbm, 357, rfl⟩
abbrev main_call5_call0_v87 : Ref sig .tc := ⟨.hbm, 358, rfl⟩
abbrev main_call5_call0_v88 : Ref sig .tc := ⟨.hbm, 359, rfl⟩
abbrev main_call5_call0_c_22 : Ref sig .tc := ⟨.hbm, 360, rfl⟩
abbrev main_call5_call0_v89 : Ref sig .tc := ⟨.hbm, 361, rfl⟩
abbrev main_call5_call0_v90 : Ref sig .tc := ⟨.hbm, 362, rfl⟩
abbrev main_call5_call0_c_23 : Ref sig .tc := ⟨.hbm, 363, rfl⟩
abbrev main_call5_call0_v91 : Ref sig .tc := ⟨.hbm, 364, rfl⟩
abbrev main_call5_call0_v92 : Ref sig .tc := ⟨.hbm, 365, rfl⟩
abbrev main_call5_call0_v93 : Ref sig .tc := ⟨.hbm, 366, rfl⟩
abbrev main_call5_call0_v94 : Ref sig .tc := ⟨.hbm, 367, rfl⟩
abbrev main_call5_call0_v95 : Ref sig .tc := ⟨.hbm, 368, rfl⟩
abbrev main_call5_call0_c_24 : Ref sig .tc := ⟨.hbm, 369, rfl⟩
abbrev main_call5_call0_v96 : Ref sig .tc := ⟨.hbm, 370, rfl⟩
abbrev main_call5_call0_v97 : Ref sig .tc := ⟨.hbm, 371, rfl⟩
abbrev main_call5_call0_c_25 : Ref sig .tc := ⟨.hbm, 372, rfl⟩
abbrev main_call5_call0_v98 : Ref sig .tc := ⟨.hbm, 373, rfl⟩
abbrev main_call5_call0_v99 : Ref sig .tc := ⟨.hbm, 374, rfl⟩
abbrev main_call5_call0_v100 : Ref sig .tc := ⟨.hbm, 375, rfl⟩
abbrev main_call5_call0_v101 : Ref sig .tc := ⟨.hbm, 376, rfl⟩
abbrev main_call5_call0_v102 : Ref sig .tc := ⟨.hbm, 377, rfl⟩
abbrev main_call5_call0_v103 : Ref sig .tc := ⟨.hbm, 378, rfl⟩
abbrev main_call5_call0_v104 : Ref sig .tc := ⟨.hbm, 379, rfl⟩
abbrev main_call5_call0_v105 : Ref sig .tc := ⟨.hbm, 380, rfl⟩
abbrev main_call5_call0_c_26 : Ref sig .tc := ⟨.hbm, 381, rfl⟩
abbrev main_call5_call0_v106 : Ref sig .tc := ⟨.hbm, 382, rfl⟩
abbrev main_call5_call0_v107 : Ref sig .tc := ⟨.hbm, 383, rfl⟩
abbrev main_call5_call0_v108 : Ref sig .tc := ⟨.hbm, 384, rfl⟩
abbrev main_call5_call0_c_27 : Ref sig .tc := ⟨.hbm, 385, rfl⟩
abbrev main_call5_call0_v109 : Ref sig .tc := ⟨.hbm, 386, rfl⟩
abbrev main_call5_call0_v110 : Ref sig .tc := ⟨.hbm, 387, rfl⟩
abbrev main_call5_call0_c_28 : Ref sig .tc := ⟨.hbm, 388, rfl⟩
abbrev main_call5_call0_v111 : Ref sig .tc := ⟨.hbm, 389, rfl⟩
abbrev main_call5_call0_v112 : Ref sig .tc := ⟨.hbm, 390, rfl⟩
abbrev main_call5_call0_v113 : Ref sig .tc := ⟨.hbm, 391, rfl⟩
abbrev main_call5_call0_v114 : Ref sig .tc := ⟨.hbm, 392, rfl⟩
abbrev main_call5_call0_v115 : Ref sig .tc := ⟨.hbm, 393, rfl⟩
abbrev main_call5_call0_c_29 : Ref sig .tc := ⟨.hbm, 394, rfl⟩
abbrev main_call5_call0_v116 : Ref sig .tc := ⟨.hbm, 395, rfl⟩
abbrev main_call5_call0_v117 : Ref sig .tc := ⟨.hbm, 396, rfl⟩
abbrev main_call5_call0_c_30 : Ref sig .tc := ⟨.hbm, 397, rfl⟩
abbrev main_call5_call0_v118 : Ref sig .tc := ⟨.hbm, 398, rfl⟩
abbrev main_call5_call0_v119 : Ref sig .tc := ⟨.hbm, 399, rfl⟩
abbrev main_call5_call0_v120 : Ref sig .tc := ⟨.hbm, 400, rfl⟩
abbrev main_call5_call0_v121 : Ref sig .tc := ⟨.hbm, 401, rfl⟩
abbrev main_call5_call0_v122 : Ref sig .tc := ⟨.hbm, 402, rfl⟩
abbrev main_call5_call0_c_31 : Ref sig .tc := ⟨.hbm, 403, rfl⟩
abbrev main_call5_call0_v123 : Ref sig .tc := ⟨.hbm, 404, rfl⟩
abbrev main_call5_call0_v124 : Ref sig .tc := ⟨.hbm, 405, rfl⟩
abbrev main_call5_call0_c_32 : Ref sig .tc := ⟨.hbm, 406, rfl⟩
abbrev main_call5_call0_v125 : Ref sig .tc := ⟨.hbm, 407, rfl⟩
abbrev main_call5_call0_v126 : Ref sig .tc := ⟨.hbm, 408, rfl⟩
abbrev main_call5_call0_v127 : Ref sig .tc := ⟨.hbm, 409, rfl⟩
abbrev main_call5_call0_v128 : Ref sig .tc := ⟨.hbm, 410, rfl⟩
abbrev main_call5_call0_v129 : Ref sig .tc := ⟨.hbm, 411, rfl⟩
abbrev main_call5_call0_c_33 : Ref sig .tc := ⟨.hbm, 412, rfl⟩
abbrev main_call5_call0_v130 : Ref sig .tc := ⟨.hbm, 413, rfl⟩
abbrev main_call5_call0_v131 : Ref sig .tc := ⟨.hbm, 414, rfl⟩
abbrev main_call5_call0_c_34 : Ref sig .tc := ⟨.hbm, 415, rfl⟩
abbrev main_call5_call0_v132 : Ref sig .tc := ⟨.hbm, 416, rfl⟩
abbrev main_call5_call0_v133 : Ref sig .tc := ⟨.hbm, 417, rfl⟩
abbrev main_call5_call0_v134 : Ref sig .tc := ⟨.hbm, 418, rfl⟩
abbrev main_call5_call0_v135 : Ref sig .tc := ⟨.hbm, 419, rfl⟩
abbrev main_call5_call0_v136 : Ref sig .tc := ⟨.hbm, 420, rfl⟩
abbrev main_call5_call0_v137 : Ref sig .tc := ⟨.hbm, 421, rfl⟩
abbrev main_call5_call0_v138 : Ref sig .tc := ⟨.hbm, 422, rfl⟩
abbrev main_call5_call0_v139 : Ref sig .tc := ⟨.hbm, 423, rfl⟩
abbrev main_call5_call0_c_35 : Ref sig .tc := ⟨.hbm, 424, rfl⟩
abbrev main_call5_call0_v140 : Ref sig .tc := ⟨.hbm, 425, rfl⟩
abbrev main_call5_call0_v141 : Ref sig .tc := ⟨.hbm, 426, rfl⟩
abbrev main_call5_call0_v142 : Ref sig .tc := ⟨.hbm, 427, rfl⟩
abbrev main_call5_call0_c_36 : Ref sig .tc := ⟨.hbm, 428, rfl⟩
abbrev main_call5_call0_v143 : Ref sig .tc := ⟨.hbm, 429, rfl⟩
abbrev main_call5_call0_v144 : Ref sig .tc := ⟨.hbm, 430, rfl⟩
abbrev main_call5_call0_c_37 : Ref sig .tc := ⟨.hbm, 431, rfl⟩
abbrev main_call5_call0_v145 : Ref sig .tc := ⟨.hbm, 432, rfl⟩
abbrev main_call5_call0_v146 : Ref sig .tc := ⟨.hbm, 433, rfl⟩
abbrev main_call5_call0_v147 : Ref sig .tc := ⟨.hbm, 434, rfl⟩
abbrev main_call5_call0_v148 : Ref sig .tc := ⟨.hbm, 435, rfl⟩
abbrev main_call5_call0_v149 : Ref sig .tc := ⟨.hbm, 436, rfl⟩
abbrev main_call5_call0_c_38 : Ref sig .tc := ⟨.hbm, 437, rfl⟩
abbrev main_call5_call0_v150 : Ref sig .tc := ⟨.hbm, 438, rfl⟩
abbrev main_call5_call0_v151 : Ref sig .tc := ⟨.hbm, 439, rfl⟩
abbrev main_call5_call0_c_39 : Ref sig .tc := ⟨.hbm, 440, rfl⟩
abbrev main_call5_call0_v152 : Ref sig .tc := ⟨.hbm, 441, rfl⟩
abbrev main_call5_call0_v153 : Ref sig .tc := ⟨.hbm, 442, rfl⟩
abbrev main_call5_call0_v154 : Ref sig .tc := ⟨.hbm, 443, rfl⟩
abbrev main_call5_call0_v155 : Ref sig .tc := ⟨.hbm, 444, rfl⟩
abbrev main_call5_call0_v156 : Ref sig .tc := ⟨.hbm, 445, rfl⟩
abbrev main_call5_call0_c_40 : Ref sig .tc := ⟨.hbm, 446, rfl⟩
abbrev main_call5_call0_v157 : Ref sig .tc := ⟨.hbm, 447, rfl⟩
abbrev main_call5_call0_v158 : Ref sig .tc := ⟨.hbm, 448, rfl⟩
abbrev main_call5_call0_c_41 : Ref sig .tc := ⟨.hbm, 449, rfl⟩
abbrev main_call5_call0_v159 : Ref sig .tc := ⟨.hbm, 450, rfl⟩
abbrev main_call5_call0_v160 : Ref sig .tc := ⟨.hbm, 451, rfl⟩
abbrev main_call5_call0_v161 : Ref sig .tc := ⟨.hbm, 452, rfl⟩
abbrev main_call5_call0_v162 : Ref sig .tc := ⟨.hbm, 453, rfl⟩
abbrev main_call5_call0_v163 : Ref sig .tc := ⟨.hbm, 454, rfl⟩
abbrev main_call5_call0_c_42 : Ref sig .tc := ⟨.hbm, 455, rfl⟩
abbrev main_call5_call0_v164 : Ref sig .tc := ⟨.hbm, 456, rfl⟩
abbrev main_call5_call0_v165 : Ref sig .tc := ⟨.hbm, 457, rfl⟩
abbrev main_call5_call0_c_43 : Ref sig .tc := ⟨.hbm, 458, rfl⟩
abbrev main_call5_call0_v166 : Ref sig .tc := ⟨.hbm, 459, rfl⟩
abbrev main_call5_call0_v167 : Ref sig .tc := ⟨.hbm, 460, rfl⟩
abbrev main_call5_call0_v168 : Ref sig .tc := ⟨.hbm, 461, rfl⟩
abbrev main_call5_call0_v169 : Ref sig .tc := ⟨.hbm, 462, rfl⟩
abbrev main_call5_call0_v170 : Ref sig .tc := ⟨.hbm, 463, rfl⟩
abbrev main_call5_v11_0 : Ref sig .tc := ⟨.hbm, 464, rfl⟩
abbrev main_call5_call0_v172 : Ref sig .tc := ⟨.hbm, 465, rfl⟩
abbrev main_call5_call0_v173 : Ref sig .tc := ⟨.hbm, 466, rfl⟩
abbrev main_call5_call0_c_44 : Ref sig .tc := ⟨.hbm, 467, rfl⟩
abbrev main_call5_call0_v174 : Ref sig .tc := ⟨.hbm, 468, rfl⟩
abbrev main_call5_v11_1 : Ref sig .tc := ⟨.hbm, 469, rfl⟩
abbrev main_v94 : Ref sig .tc := ⟨.hbm, 470, rfl⟩
abbrev main_call6_cst : Ref sig .tc := ⟨.hbm, 471, rfl⟩
abbrev main_call6_cst_0 : Ref sig .tc := ⟨.hbm, 472, rfl⟩
abbrev main_call6_call0_v0 : Ref sig .tc := ⟨.hbm, 473, rfl⟩
abbrev main_call6_call0_v1 : Ref sig .tc := ⟨.hbm, 474, rfl⟩
abbrev main_call6_call0_v2 : Ref sig .tc := ⟨.hbm, 475, rfl⟩
abbrev main_call6_call0_v3 : Ref sig .tc := ⟨.hbm, 476, rfl⟩
abbrev main_call6_call0_v4 : Ref sig .tc := ⟨.hbm, 477, rfl⟩
abbrev main_call6_call0_v5 : Ref sig .tc := ⟨.hbm, 478, rfl⟩
abbrev main_call6_call0_v6 : Ref sig .tc := ⟨.hbm, 479, rfl⟩
abbrev main_call6_call0_v7 : Ref sig .tc := ⟨.hbm, 480, rfl⟩
abbrev main_call6_call0_v8 : Ref sig .tc := ⟨.hbm, 481, rfl⟩
abbrev main_call6_call0_v9 : Ref sig .tc := ⟨.hbm, 482, rfl⟩
abbrev main_call6_call0_c : Ref sig .tc := ⟨.hbm, 483, rfl⟩
abbrev main_call6_call0_v10 : Ref sig .tc := ⟨.hbm, 484, rfl⟩
abbrev main_call6_call0_v11 : Ref sig .tc := ⟨.hbm, 485, rfl⟩
abbrev main_call6_call0_c_0 : Ref sig .tc := ⟨.hbm, 486, rfl⟩
abbrev main_call6_call0_v12 : Ref sig .tc := ⟨.hbm, 487, rfl⟩
abbrev main_call6_call0_v13 : Ref sig .tc := ⟨.hbm, 488, rfl⟩
abbrev main_call6_call0_v14 : Ref sig .tc := ⟨.hbm, 489, rfl⟩
abbrev main_call6_call0_c_1 : Ref sig .tc := ⟨.hbm, 490, rfl⟩
abbrev main_call6_call0_v15 : Ref sig .tc := ⟨.hbm, 491, rfl⟩
abbrev main_call6_call0_v16 : Ref sig .tc := ⟨.hbm, 492, rfl⟩
abbrev main_call6_call0_v17 : Ref sig .tc := ⟨.hbm, 493, rfl⟩
abbrev main_call6_call0_v18 : Ref sig .tc := ⟨.hbm, 494, rfl⟩
abbrev main_call6_call0_call0_v0 : Ref sig .tc := ⟨.hbm, 495, rfl⟩
abbrev main_call6_call0_call0_c : Ref sig .tc := ⟨.hbm, 496, rfl⟩
abbrev main_call6_call0_call0_v1 : Ref sig .tc := ⟨.hbm, 497, rfl⟩
abbrev main_call6_call0_call0_v2 : Ref sig .tc := ⟨.hbm, 498, rfl⟩
abbrev main_call6_call0_call0_v3 : Ref sig .tc := ⟨.hbm, 499, rfl⟩
abbrev main_call6_call0_call0_v4 : Ref sig .tc := ⟨.hbm, 500, rfl⟩
abbrev main_call6_call0_call0_v5 : Ref sig .tc := ⟨.hbm, 501, rfl⟩
abbrev main_call6_call0_call0_v6 : Ref sig .tc := ⟨.hbm, 502, rfl⟩
abbrev main_call6_call0_call0_c_0 : Ref sig .tc := ⟨.hbm, 503, rfl⟩
abbrev main_call6_call0_call0_v7 : Ref sig .tc := ⟨.hbm, 504, rfl⟩
abbrev main_call6_call0_call0_v8 : Ref sig .tc := ⟨.hbm, 505, rfl⟩
abbrev main_call6_call0_call0_c_1 : Ref sig .tc := ⟨.hbm, 506, rfl⟩
abbrev main_call6_call0_call0_v9 : Ref sig .tc := ⟨.hbm, 507, rfl⟩
abbrev main_call6_call0_call0_v10 : Ref sig .tc := ⟨.hbm, 508, rfl⟩
abbrev main_call6_call0_call0_v11 : Ref sig .tc := ⟨.hbm, 509, rfl⟩
abbrev main_call6_call0_call0_v12 : Ref sig .tc := ⟨.hbm, 510, rfl⟩
abbrev main_call6_call0_call0_v13 : Ref sig .tc := ⟨.hbm, 511, rfl⟩
abbrev main_call6_call0_call0_c_2 : Ref sig .tc := ⟨.hbm, 512, rfl⟩
abbrev main_call6_call0_call0_v14 : Ref sig .tc := ⟨.hbm, 513, rfl⟩
abbrev main_call6_call0_call0_v15 : Ref sig .tc := ⟨.hbm, 514, rfl⟩
abbrev main_call6_call0_call0_c_3 : Ref sig .tc := ⟨.hbm, 515, rfl⟩
abbrev main_call6_call0_call0_v16 : Ref sig .tc := ⟨.hbm, 516, rfl⟩
abbrev main_call6_call0_call0_v17 : Ref sig .tc := ⟨.hbm, 517, rfl⟩
abbrev main_call6_call0_call0_v18 : Ref sig .tc := ⟨.hbm, 518, rfl⟩
abbrev main_call6_call0_call0_v19 : Ref sig .tc := ⟨.hbm, 519, rfl⟩
abbrev main_call6_call0_call0_v20 : Ref sig .tc := ⟨.hbm, 520, rfl⟩
abbrev main_call6_call0_call0_c_4 : Ref sig .tc := ⟨.hbm, 521, rfl⟩
abbrev main_call6_call0_call0_v21 : Ref sig .tc := ⟨.hbm, 522, rfl⟩
abbrev main_call6_call0_call0_v22 : Ref sig .tc := ⟨.hbm, 523, rfl⟩
abbrev main_call6_call0_call0_c_5 : Ref sig .tc := ⟨.hbm, 524, rfl⟩
abbrev main_call6_call0_call0_v23 : Ref sig .tc := ⟨.hbm, 525, rfl⟩
abbrev main_call6_call0_call0_v24 : Ref sig .tc := ⟨.hbm, 526, rfl⟩
abbrev main_call6_call0_call0_v25 : Ref sig .tc := ⟨.hbm, 527, rfl⟩
abbrev main_call6_call0_call0_v26 : Ref sig .tc := ⟨.hbm, 528, rfl⟩
abbrev main_call6_call0_call0_v27 : Ref sig .tc := ⟨.hbm, 529, rfl⟩
abbrev main_call6_call0_call0_c_6 : Ref sig .tc := ⟨.hbm, 530, rfl⟩
abbrev main_call6_call0_call0_v28 : Ref sig .tc := ⟨.hbm, 531, rfl⟩
abbrev main_call6_call0_call0_v29 : Ref sig .tc := ⟨.hbm, 532, rfl⟩
abbrev main_call6_call0_call0_c_7 : Ref sig .tc := ⟨.hbm, 533, rfl⟩
abbrev main_call6_call0_call0_v30 : Ref sig .tc := ⟨.hbm, 534, rfl⟩
abbrev main_call6_call0_call0_v31 : Ref sig .tc := ⟨.hbm, 535, rfl⟩
abbrev main_call6_call0_call0_v32 : Ref sig .tc := ⟨.hbm, 536, rfl⟩
abbrev main_call6_call0_call0_v33 : Ref sig .tc := ⟨.hbm, 537, rfl⟩
abbrev main_call6_call0_call0_v34 : Ref sig .tc := ⟨.hbm, 538, rfl⟩
abbrev main_call6_call0_call0_v35 : Ref sig .tc := ⟨.hbm, 539, rfl⟩
abbrev main_call6_call0_call0_v36 : Ref sig .tc := ⟨.hbm, 540, rfl⟩
abbrev main_call6_call0_call0_v37 : Ref sig .tc := ⟨.hbm, 541, rfl⟩
abbrev main_call6_call0_call0_c_8 : Ref sig .tc := ⟨.hbm, 542, rfl⟩
abbrev main_call6_call0_call0_v38 : Ref sig .tc := ⟨.hbm, 543, rfl⟩
abbrev main_call6_call0_call0_v39 : Ref sig .tc := ⟨.hbm, 544, rfl⟩
abbrev main_call6_call0_call0_v40 : Ref sig .tc := ⟨.hbm, 545, rfl⟩
abbrev main_call6_call0_call0_c_9 : Ref sig .tc := ⟨.hbm, 546, rfl⟩
abbrev main_call6_call0_call0_v41 : Ref sig .tc := ⟨.hbm, 547, rfl⟩
abbrev main_call6_call0_call0_v42 : Ref sig .tc := ⟨.hbm, 548, rfl⟩
abbrev main_call6_call0_call0_c_10 : Ref sig .tc := ⟨.hbm, 549, rfl⟩
abbrev main_call6_call0_call0_v43 : Ref sig .tc := ⟨.hbm, 550, rfl⟩
abbrev main_call6_call0_call0_v44 : Ref sig .tc := ⟨.hbm, 551, rfl⟩
abbrev main_call6_call0_call0_v45 : Ref sig .tc := ⟨.hbm, 552, rfl⟩
abbrev main_call6_call0_call0_v46 : Ref sig .tc := ⟨.hbm, 553, rfl⟩
abbrev main_call6_call0_call0_v47 : Ref sig .tc := ⟨.hbm, 554, rfl⟩
abbrev main_call6_call0_call0_c_11 : Ref sig .tc := ⟨.hbm, 555, rfl⟩
abbrev main_call6_call0_call0_v48 : Ref sig .tc := ⟨.hbm, 556, rfl⟩
abbrev main_call6_call0_call0_v49 : Ref sig .tc := ⟨.hbm, 557, rfl⟩
abbrev main_call6_call0_call0_c_12 : Ref sig .tc := ⟨.hbm, 558, rfl⟩
abbrev main_call6_call0_call0_v50 : Ref sig .tc := ⟨.hbm, 559, rfl⟩
abbrev main_call6_call0_call0_v51 : Ref sig .tc := ⟨.hbm, 560, rfl⟩
abbrev main_call6_call0_call0_v52 : Ref sig .tc := ⟨.hbm, 561, rfl⟩
abbrev main_call6_call0_call0_v53 : Ref sig .tc := ⟨.hbm, 562, rfl⟩
abbrev main_call6_call0_call0_v54 : Ref sig .tc := ⟨.hbm, 563, rfl⟩
abbrev main_call6_call0_call0_c_13 : Ref sig .tc := ⟨.hbm, 564, rfl⟩
abbrev main_call6_call0_call0_v55 : Ref sig .tc := ⟨.hbm, 565, rfl⟩
abbrev main_call6_call0_call0_v56 : Ref sig .tc := ⟨.hbm, 566, rfl⟩
abbrev main_call6_call0_call0_c_14 : Ref sig .tc := ⟨.hbm, 567, rfl⟩
abbrev main_call6_call0_call0_v57 : Ref sig .tc := ⟨.hbm, 568, rfl⟩
abbrev main_call6_call0_call0_v58 : Ref sig .tc := ⟨.hbm, 569, rfl⟩
abbrev main_call6_call0_call0_v59 : Ref sig .tc := ⟨.hbm, 570, rfl⟩
abbrev main_call6_call0_call0_v60 : Ref sig .tc := ⟨.hbm, 571, rfl⟩
abbrev main_call6_call0_call0_v61 : Ref sig .tc := ⟨.hbm, 572, rfl⟩
abbrev main_call6_call0_call0_c_15 : Ref sig .tc := ⟨.hbm, 573, rfl⟩
abbrev main_call6_call0_call0_v62 : Ref sig .tc := ⟨.hbm, 574, rfl⟩
abbrev main_call6_call0_call0_v63 : Ref sig .tc := ⟨.hbm, 575, rfl⟩
abbrev main_call6_call0_call0_c_16 : Ref sig .tc := ⟨.hbm, 576, rfl⟩
abbrev main_call6_call0_call0_v64 : Ref sig .tc := ⟨.hbm, 577, rfl⟩
abbrev main_call6_call0_call0_v65 : Ref sig .tc := ⟨.hbm, 578, rfl⟩
abbrev main_call6_call0_call0_v66 : Ref sig .tc := ⟨.hbm, 579, rfl⟩
abbrev main_call6_call0_call0_v67 : Ref sig .tc := ⟨.hbm, 580, rfl⟩
abbrev main_call6_call0_call0_v68 : Ref sig .tc := ⟨.hbm, 581, rfl⟩
abbrev main_call6_call0_call0_v69 : Ref sig .tc := ⟨.hbm, 582, rfl⟩
abbrev main_call6_call0_call0_v70 : Ref sig .tc := ⟨.hbm, 583, rfl⟩
abbrev main_call6_call0_call0_v71 : Ref sig .tc := ⟨.hbm, 584, rfl⟩
abbrev main_call6_call0_call0_c_17 : Ref sig .tc := ⟨.hbm, 585, rfl⟩
abbrev main_call6_call0_call0_v72 : Ref sig .tc := ⟨.hbm, 586, rfl⟩
abbrev main_call6_call0_call0_v73 : Ref sig .tc := ⟨.hbm, 587, rfl⟩
abbrev main_call6_call0_call0_v74 : Ref sig .tc := ⟨.hbm, 588, rfl⟩
abbrev main_call6_call0_call0_c_18 : Ref sig .tc := ⟨.hbm, 589, rfl⟩
abbrev main_call6_call0_call0_v75 : Ref sig .tc := ⟨.hbm, 590, rfl⟩
abbrev main_call6_call0_call0_v76 : Ref sig .tc := ⟨.hbm, 591, rfl⟩
abbrev main_call6_call0_call0_c_19 : Ref sig .tc := ⟨.hbm, 592, rfl⟩
abbrev main_call6_call0_call0_v77 : Ref sig .tc := ⟨.hbm, 593, rfl⟩
abbrev main_call6_call0_call0_v78 : Ref sig .tc := ⟨.hbm, 594, rfl⟩
abbrev main_call6_call0_call0_v79 : Ref sig .tc := ⟨.hbm, 595, rfl⟩
abbrev main_call6_call0_call0_v80 : Ref sig .tc := ⟨.hbm, 596, rfl⟩
abbrev main_call6_call0_call0_v81 : Ref sig .tc := ⟨.hbm, 597, rfl⟩
abbrev main_call6_call0_call0_c_20 : Ref sig .tc := ⟨.hbm, 598, rfl⟩
abbrev main_call6_call0_call0_v82 : Ref sig .tc := ⟨.hbm, 599, rfl⟩
abbrev main_call6_call0_call0_v83 : Ref sig .tc := ⟨.hbm, 600, rfl⟩
abbrev main_call6_call0_call0_c_21 : Ref sig .tc := ⟨.hbm, 601, rfl⟩
abbrev main_call6_call0_call0_v84 : Ref sig .tc := ⟨.hbm, 602, rfl⟩
abbrev main_call6_call0_call0_v85 : Ref sig .tc := ⟨.hbm, 603, rfl⟩
abbrev main_call6_call0_call0_v86 : Ref sig .tc := ⟨.hbm, 604, rfl⟩
abbrev main_call6_call0_call0_v87 : Ref sig .tc := ⟨.hbm, 605, rfl⟩
abbrev main_call6_call0_call0_v88 : Ref sig .tc := ⟨.hbm, 606, rfl⟩
abbrev main_call6_call0_call0_c_22 : Ref sig .tc := ⟨.hbm, 607, rfl⟩
abbrev main_call6_call0_call0_v89 : Ref sig .tc := ⟨.hbm, 608, rfl⟩
abbrev main_call6_call0_call0_v90 : Ref sig .tc := ⟨.hbm, 609, rfl⟩
abbrev main_call6_call0_call0_c_23 : Ref sig .tc := ⟨.hbm, 610, rfl⟩
abbrev main_call6_call0_call0_v91 : Ref sig .tc := ⟨.hbm, 611, rfl⟩
abbrev main_call6_call0_call0_v92 : Ref sig .tc := ⟨.hbm, 612, rfl⟩
abbrev main_call6_call0_call0_v93 : Ref sig .tc := ⟨.hbm, 613, rfl⟩
abbrev main_call6_call0_call0_v94 : Ref sig .tc := ⟨.hbm, 614, rfl⟩
abbrev main_call6_call0_call0_v95 : Ref sig .tc := ⟨.hbm, 615, rfl⟩
abbrev main_call6_call0_call0_c_24 : Ref sig .tc := ⟨.hbm, 616, rfl⟩
abbrev main_call6_call0_call0_v96 : Ref sig .tc := ⟨.hbm, 617, rfl⟩
abbrev main_call6_call0_call0_v97 : Ref sig .tc := ⟨.hbm, 618, rfl⟩
abbrev main_call6_call0_call0_c_25 : Ref sig .tc := ⟨.hbm, 619, rfl⟩
abbrev main_call6_call0_call0_v98 : Ref sig .tc := ⟨.hbm, 620, rfl⟩
abbrev main_call6_call0_call0_v99 : Ref sig .tc := ⟨.hbm, 621, rfl⟩
abbrev main_call6_call0_call0_v100 : Ref sig .tc := ⟨.hbm, 622, rfl⟩
abbrev main_call6_call0_call0_v101 : Ref sig .tc := ⟨.hbm, 623, rfl⟩
abbrev main_call6_call0_call0_v102 : Ref sig .tc := ⟨.hbm, 624, rfl⟩
abbrev main_call6_call0_call0_v103 : Ref sig .tc := ⟨.hbm, 625, rfl⟩
abbrev main_call6_call0_call0_v104 : Ref sig .tc := ⟨.hbm, 626, rfl⟩
abbrev main_call6_call0_call0_v105 : Ref sig .tc := ⟨.hbm, 627, rfl⟩
abbrev main_call6_call0_call0_c_26 : Ref sig .tc := ⟨.hbm, 628, rfl⟩
abbrev main_call6_call0_call0_v106 : Ref sig .tc := ⟨.hbm, 629, rfl⟩
abbrev main_call6_call0_call0_v107 : Ref sig .tc := ⟨.hbm, 630, rfl⟩
abbrev main_call6_call0_call0_v108 : Ref sig .tc := ⟨.hbm, 631, rfl⟩
abbrev main_call6_call0_call0_c_27 : Ref sig .tc := ⟨.hbm, 632, rfl⟩
abbrev main_call6_call0_call0_v109 : Ref sig .tc := ⟨.hbm, 633, rfl⟩
abbrev main_call6_call0_call0_v110 : Ref sig .tc := ⟨.hbm, 634, rfl⟩
abbrev main_call6_call0_call0_c_28 : Ref sig .tc := ⟨.hbm, 635, rfl⟩
abbrev main_call6_call0_call0_v111 : Ref sig .tc := ⟨.hbm, 636, rfl⟩
abbrev main_call6_call0_call0_v112 : Ref sig .tc := ⟨.hbm, 637, rfl⟩
abbrev main_call6_call0_call0_v113 : Ref sig .tc := ⟨.hbm, 638, rfl⟩
abbrev main_call6_call0_call0_v114 : Ref sig .tc := ⟨.hbm, 639, rfl⟩
abbrev main_call6_call0_call0_v115 : Ref sig .tc := ⟨.hbm, 640, rfl⟩
abbrev main_call6_call0_call0_c_29 : Ref sig .tc := ⟨.hbm, 641, rfl⟩
abbrev main_call6_call0_call0_v116 : Ref sig .tc := ⟨.hbm, 642, rfl⟩
abbrev main_call6_call0_call0_v117 : Ref sig .tc := ⟨.hbm, 643, rfl⟩
abbrev main_call6_call0_call0_c_30 : Ref sig .tc := ⟨.hbm, 644, rfl⟩
abbrev main_call6_call0_call0_v118 : Ref sig .tc := ⟨.hbm, 645, rfl⟩
abbrev main_call6_call0_call0_v119 : Ref sig .tc := ⟨.hbm, 646, rfl⟩
abbrev main_call6_call0_call0_v120 : Ref sig .tc := ⟨.hbm, 647, rfl⟩
abbrev main_call6_call0_call0_v121 : Ref sig .tc := ⟨.hbm, 648, rfl⟩
abbrev main_call6_call0_call0_v122 : Ref sig .tc := ⟨.hbm, 649, rfl⟩
abbrev main_call6_call0_call0_c_31 : Ref sig .tc := ⟨.hbm, 650, rfl⟩
abbrev main_call6_call0_call0_v123 : Ref sig .tc := ⟨.hbm, 651, rfl⟩
abbrev main_call6_call0_call0_v124 : Ref sig .tc := ⟨.hbm, 652, rfl⟩
abbrev main_call6_call0_call0_c_32 : Ref sig .tc := ⟨.hbm, 653, rfl⟩
abbrev main_call6_call0_call0_v125 : Ref sig .tc := ⟨.hbm, 654, rfl⟩
abbrev main_call6_call0_call0_v126 : Ref sig .tc := ⟨.hbm, 655, rfl⟩
abbrev main_call6_call0_call0_v127 : Ref sig .tc := ⟨.hbm, 656, rfl⟩
abbrev main_call6_call0_call0_v128 : Ref sig .tc := ⟨.hbm, 657, rfl⟩
abbrev main_call6_call0_call0_v129 : Ref sig .tc := ⟨.hbm, 658, rfl⟩
abbrev main_call6_call0_call0_c_33 : Ref sig .tc := ⟨.hbm, 659, rfl⟩
abbrev main_call6_call0_call0_v130 : Ref sig .tc := ⟨.hbm, 660, rfl⟩
abbrev main_call6_call0_call0_v131 : Ref sig .tc := ⟨.hbm, 661, rfl⟩
abbrev main_call6_call0_call0_c_34 : Ref sig .tc := ⟨.hbm, 662, rfl⟩
abbrev main_call6_call0_call0_v132 : Ref sig .tc := ⟨.hbm, 663, rfl⟩
abbrev main_call6_call0_call0_v133 : Ref sig .tc := ⟨.hbm, 664, rfl⟩
abbrev main_call6_call0_call0_v134 : Ref sig .tc := ⟨.hbm, 665, rfl⟩
abbrev main_call6_call0_call0_v135 : Ref sig .tc := ⟨.hbm, 666, rfl⟩
abbrev main_call6_call0_call0_v136 : Ref sig .tc := ⟨.hbm, 667, rfl⟩
abbrev main_call6_call0_call0_v137 : Ref sig .tc := ⟨.hbm, 668, rfl⟩
abbrev main_call6_call0_call0_v138 : Ref sig .tc := ⟨.hbm, 669, rfl⟩
abbrev main_call6_call0_call0_v139 : Ref sig .tc := ⟨.hbm, 670, rfl⟩
abbrev main_call6_call0_call0_c_35 : Ref sig .tc := ⟨.hbm, 671, rfl⟩
abbrev main_call6_call0_call0_v140 : Ref sig .tc := ⟨.hbm, 672, rfl⟩
abbrev main_call6_call0_call0_v141 : Ref sig .tc := ⟨.hbm, 673, rfl⟩
abbrev main_call6_call0_call0_v142 : Ref sig .tc := ⟨.hbm, 674, rfl⟩
abbrev main_call6_call0_call0_c_36 : Ref sig .tc := ⟨.hbm, 675, rfl⟩
abbrev main_call6_call0_call0_v143 : Ref sig .tc := ⟨.hbm, 676, rfl⟩
abbrev main_call6_call0_call0_v144 : Ref sig .tc := ⟨.hbm, 677, rfl⟩
abbrev main_call6_call0_call0_c_37 : Ref sig .tc := ⟨.hbm, 678, rfl⟩
abbrev main_call6_call0_call0_v145 : Ref sig .tc := ⟨.hbm, 679, rfl⟩
abbrev main_call6_call0_call0_v146 : Ref sig .tc := ⟨.hbm, 680, rfl⟩
abbrev main_call6_call0_call0_v147 : Ref sig .tc := ⟨.hbm, 681, rfl⟩
abbrev main_call6_call0_call0_v148 : Ref sig .tc := ⟨.hbm, 682, rfl⟩
abbrev main_call6_call0_call0_v149 : Ref sig .tc := ⟨.hbm, 683, rfl⟩
abbrev main_call6_call0_call0_c_38 : Ref sig .tc := ⟨.hbm, 684, rfl⟩
abbrev main_call6_call0_call0_v150 : Ref sig .tc := ⟨.hbm, 685, rfl⟩
abbrev main_call6_call0_call0_v151 : Ref sig .tc := ⟨.hbm, 686, rfl⟩
abbrev main_call6_call0_call0_c_39 : Ref sig .tc := ⟨.hbm, 687, rfl⟩
abbrev main_call6_call0_call0_v152 : Ref sig .tc := ⟨.hbm, 688, rfl⟩
abbrev main_call6_call0_call0_v153 : Ref sig .tc := ⟨.hbm, 689, rfl⟩
abbrev main_call6_call0_call0_v154 : Ref sig .tc := ⟨.hbm, 690, rfl⟩
abbrev main_call6_call0_call0_v155 : Ref sig .tc := ⟨.hbm, 691, rfl⟩
abbrev main_call6_call0_call0_v156 : Ref sig .tc := ⟨.hbm, 692, rfl⟩
abbrev main_call6_call0_call0_c_40 : Ref sig .tc := ⟨.hbm, 693, rfl⟩
abbrev main_call6_call0_call0_v157 : Ref sig .tc := ⟨.hbm, 694, rfl⟩
abbrev main_call6_call0_call0_v158 : Ref sig .tc := ⟨.hbm, 695, rfl⟩
abbrev main_call6_call0_call0_c_41 : Ref sig .tc := ⟨.hbm, 696, rfl⟩
abbrev main_call6_call0_call0_v159 : Ref sig .tc := ⟨.hbm, 697, rfl⟩
abbrev main_call6_call0_call0_v160 : Ref sig .tc := ⟨.hbm, 698, rfl⟩
abbrev main_call6_call0_call0_v161 : Ref sig .tc := ⟨.hbm, 699, rfl⟩
abbrev main_call6_call0_call0_v162 : Ref sig .tc := ⟨.hbm, 700, rfl⟩
abbrev main_call6_call0_call0_v163 : Ref sig .tc := ⟨.hbm, 701, rfl⟩
abbrev main_call6_call0_call0_c_42 : Ref sig .tc := ⟨.hbm, 702, rfl⟩
abbrev main_call6_call0_call0_v164 : Ref sig .tc := ⟨.hbm, 703, rfl⟩
abbrev main_call6_call0_call0_v165 : Ref sig .tc := ⟨.hbm, 704, rfl⟩
abbrev main_call6_call0_call0_c_43 : Ref sig .tc := ⟨.hbm, 705, rfl⟩
abbrev main_call6_call0_call0_v166 : Ref sig .tc := ⟨.hbm, 706, rfl⟩
abbrev main_call6_call0_call0_v167 : Ref sig .tc := ⟨.hbm, 707, rfl⟩
abbrev main_call6_call0_call0_v168 : Ref sig .tc := ⟨.hbm, 708, rfl⟩
abbrev main_call6_call0_call0_v169 : Ref sig .tc := ⟨.hbm, 709, rfl⟩
abbrev main_call6_call0_call0_v170 : Ref sig .tc := ⟨.hbm, 710, rfl⟩
abbrev main_call6_call0_v19_0 : Ref sig .tc := ⟨.hbm, 711, rfl⟩
abbrev main_call6_call0_call0_v172 : Ref sig .tc := ⟨.hbm, 712, rfl⟩
abbrev main_call6_call0_call0_v173 : Ref sig .tc := ⟨.hbm, 713, rfl⟩
abbrev main_call6_call0_call0_c_44 : Ref sig .tc := ⟨.hbm, 714, rfl⟩
abbrev main_call6_call0_call0_v174 : Ref sig .tc := ⟨.hbm, 715, rfl⟩
abbrev main_call6_call0_v19_1 : Ref sig .tc := ⟨.hbm, 716, rfl⟩
abbrev main_call6_call0_v20 : Ref sig .tc := ⟨.hbm, 717, rfl⟩
abbrev main_call6_call0_c_2 : Ref sig .tc := ⟨.hbm, 718, rfl⟩
abbrev main_call6_call0_v21 : Ref sig .tc := ⟨.hbm, 719, rfl⟩
abbrev main_call6_call0_v22 : Ref sig .tc := ⟨.hbm, 720, rfl⟩
abbrev main_call6_call0_c_3 : Ref sig .tc := ⟨.hbm, 721, rfl⟩
abbrev main_call6_call0_v23 : Ref sig .tc := ⟨.hbm, 722, rfl⟩
abbrev main_call6_call0_v24 : Ref sig .tc := ⟨.hbm, 723, rfl⟩
abbrev main_call6_call0_v25 : Ref sig .tc := ⟨.hbm, 724, rfl⟩
abbrev main_call6_call0_cst : Ref sig .tc := ⟨.hbm, 725, rfl⟩
abbrev main_call6_call0_v26 : Ref sig .tc := ⟨.hbm, 726, rfl⟩
abbrev main_call6_call0_v27 : Ref sig .tc := ⟨.hbm, 727, rfl⟩
abbrev main_call6_call0_v28 : Ref sig .tc := ⟨.hbm, 728, rfl⟩
abbrev main_call6_call0_v29 : Ref sig .tc := ⟨.hbm, 729, rfl⟩
abbrev main_call6_call0_v30 : Ref sig .tc := ⟨.hbm, 730, rfl⟩
abbrev main_call6_call0_v31 : Ref sig .tc := ⟨.hbm, 731, rfl⟩
abbrev main_call6_call0_v32 : Ref sig .tc := ⟨.hbm, 732, rfl⟩
abbrev main_call6_call0_v33 : Ref sig .tc := ⟨.hbm, 733, rfl⟩
abbrev main_call6_v0 : Ref sig .tc := ⟨.hbm, 734, rfl⟩
abbrev main_v95 : Ref sig .tc := ⟨.hbm, 735, rfl⟩
abbrev main_v96 : Ref sig .tc := ⟨.hbm, 736, rfl⟩
abbrev main_c_21 : Ref sig .tc := ⟨.hbm, 737, rfl⟩
abbrev main_call7_c : Ref sig .tc := ⟨.hbm, 738, rfl⟩
abbrev main_call7_v0 : Ref sig .tc := ⟨.hbm, 739, rfl⟩
abbrev main_call7_v1 : Ref sig .tc := ⟨.hbm, 740, rfl⟩
abbrev main_call7_c_0 : Ref sig .tc := ⟨.hbm, 741, rfl⟩
abbrev main_call7_v2 : Ref sig .tc := ⟨.hbm, 742, rfl⟩
abbrev main_call7_v3 : Ref sig .tc := ⟨.hbm, 743, rfl⟩
abbrev main_call7_v4 : Ref sig .tc := ⟨.hbm, 744, rfl⟩
abbrev main_call7_v5 : Ref sig .tc := ⟨.hbm, 745, rfl⟩
abbrev main_call7_v6 : Ref sig .tc := ⟨.hbm, 746, rfl⟩
abbrev main_call7_v7 : Ref sig .tc := ⟨.hbm, 747, rfl⟩
abbrev main_call7_v8 : Ref sig .tc := ⟨.hbm, 748, rfl⟩
abbrev main_call7_v9 : Ref sig .tc := ⟨.hbm, 749, rfl⟩
abbrev main_call7_v10 : Ref sig .tc := ⟨.hbm, 750, rfl⟩
abbrev main_call7_call0_v0 : Ref sig .tc := ⟨.hbm, 751, rfl⟩
abbrev main_call7_call0_c : Ref sig .tc := ⟨.hbm, 752, rfl⟩
abbrev main_call7_call0_v1 : Ref sig .tc := ⟨.hbm, 753, rfl⟩
abbrev main_call7_call0_v2 : Ref sig .tc := ⟨.hbm, 754, rfl⟩
abbrev main_call7_call0_v3 : Ref sig .tc := ⟨.hbm, 755, rfl⟩
abbrev main_call7_call0_v4 : Ref sig .tc := ⟨.hbm, 756, rfl⟩
abbrev main_call7_call0_v5 : Ref sig .tc := ⟨.hbm, 757, rfl⟩
abbrev main_call7_call0_v6 : Ref sig .tc := ⟨.hbm, 758, rfl⟩
abbrev main_call7_call0_c_0 : Ref sig .tc := ⟨.hbm, 759, rfl⟩
abbrev main_call7_call0_v7 : Ref sig .tc := ⟨.hbm, 760, rfl⟩
abbrev main_call7_call0_v8 : Ref sig .tc := ⟨.hbm, 761, rfl⟩
abbrev main_call7_call0_c_1 : Ref sig .tc := ⟨.hbm, 762, rfl⟩
abbrev main_call7_call0_v9 : Ref sig .tc := ⟨.hbm, 763, rfl⟩
abbrev main_call7_call0_v10 : Ref sig .tc := ⟨.hbm, 764, rfl⟩
abbrev main_call7_call0_v11 : Ref sig .tc := ⟨.hbm, 765, rfl⟩
abbrev main_call7_call0_v12 : Ref sig .tc := ⟨.hbm, 766, rfl⟩
abbrev main_call7_call0_v13 : Ref sig .tc := ⟨.hbm, 767, rfl⟩
abbrev main_call7_call0_c_2 : Ref sig .tc := ⟨.hbm, 768, rfl⟩
abbrev main_call7_call0_v14 : Ref sig .tc := ⟨.hbm, 769, rfl⟩
abbrev main_call7_call0_v15 : Ref sig .tc := ⟨.hbm, 770, rfl⟩
abbrev main_call7_call0_c_3 : Ref sig .tc := ⟨.hbm, 771, rfl⟩
abbrev main_call7_call0_v16 : Ref sig .tc := ⟨.hbm, 772, rfl⟩
abbrev main_call7_call0_v17 : Ref sig .tc := ⟨.hbm, 773, rfl⟩
abbrev main_call7_call0_v18 : Ref sig .tc := ⟨.hbm, 774, rfl⟩
abbrev main_call7_call0_v19 : Ref sig .tc := ⟨.hbm, 775, rfl⟩
abbrev main_call7_call0_v20 : Ref sig .tc := ⟨.hbm, 776, rfl⟩
abbrev main_call7_call0_c_4 : Ref sig .tc := ⟨.hbm, 777, rfl⟩
abbrev main_call7_call0_v21 : Ref sig .tc := ⟨.hbm, 778, rfl⟩
abbrev main_call7_call0_v22 : Ref sig .tc := ⟨.hbm, 779, rfl⟩
abbrev main_call7_call0_c_5 : Ref sig .tc := ⟨.hbm, 780, rfl⟩
abbrev main_call7_call0_v23 : Ref sig .tc := ⟨.hbm, 781, rfl⟩
abbrev main_call7_call0_v24 : Ref sig .tc := ⟨.hbm, 782, rfl⟩
abbrev main_call7_call0_v25 : Ref sig .tc := ⟨.hbm, 783, rfl⟩
abbrev main_call7_call0_v26 : Ref sig .tc := ⟨.hbm, 784, rfl⟩
abbrev main_call7_call0_v27 : Ref sig .tc := ⟨.hbm, 785, rfl⟩
abbrev main_call7_call0_c_6 : Ref sig .tc := ⟨.hbm, 786, rfl⟩
abbrev main_call7_call0_v28 : Ref sig .tc := ⟨.hbm, 787, rfl⟩
abbrev main_call7_call0_v29 : Ref sig .tc := ⟨.hbm, 788, rfl⟩
abbrev main_call7_call0_c_7 : Ref sig .tc := ⟨.hbm, 789, rfl⟩
abbrev main_call7_call0_v30 : Ref sig .tc := ⟨.hbm, 790, rfl⟩
abbrev main_call7_call0_v31 : Ref sig .tc := ⟨.hbm, 791, rfl⟩
abbrev main_call7_call0_v32 : Ref sig .tc := ⟨.hbm, 792, rfl⟩
abbrev main_call7_call0_v33 : Ref sig .tc := ⟨.hbm, 793, rfl⟩
abbrev main_call7_call0_v34 : Ref sig .tc := ⟨.hbm, 794, rfl⟩
abbrev main_call7_call0_v35 : Ref sig .tc := ⟨.hbm, 795, rfl⟩
abbrev main_call7_call0_v36 : Ref sig .tc := ⟨.hbm, 796, rfl⟩
abbrev main_call7_call0_v37 : Ref sig .tc := ⟨.hbm, 797, rfl⟩
abbrev main_call7_call0_c_8 : Ref sig .tc := ⟨.hbm, 798, rfl⟩
abbrev main_call7_call0_v38 : Ref sig .tc := ⟨.hbm, 799, rfl⟩
abbrev main_call7_call0_v39 : Ref sig .tc := ⟨.hbm, 800, rfl⟩
abbrev main_call7_call0_v40 : Ref sig .tc := ⟨.hbm, 801, rfl⟩
abbrev main_call7_call0_c_9 : Ref sig .tc := ⟨.hbm, 802, rfl⟩
abbrev main_call7_call0_v41 : Ref sig .tc := ⟨.hbm, 803, rfl⟩
abbrev main_call7_call0_v42 : Ref sig .tc := ⟨.hbm, 804, rfl⟩
abbrev main_call7_call0_c_10 : Ref sig .tc := ⟨.hbm, 805, rfl⟩
abbrev main_call7_call0_v43 : Ref sig .tc := ⟨.hbm, 806, rfl⟩
abbrev main_call7_call0_v44 : Ref sig .tc := ⟨.hbm, 807, rfl⟩
abbrev main_call7_call0_v45 : Ref sig .tc := ⟨.hbm, 808, rfl⟩
abbrev main_call7_call0_v46 : Ref sig .tc := ⟨.hbm, 809, rfl⟩
abbrev main_call7_call0_v47 : Ref sig .tc := ⟨.hbm, 810, rfl⟩
abbrev main_call7_call0_c_11 : Ref sig .tc := ⟨.hbm, 811, rfl⟩
abbrev main_call7_call0_v48 : Ref sig .tc := ⟨.hbm, 812, rfl⟩
abbrev main_call7_call0_v49 : Ref sig .tc := ⟨.hbm, 813, rfl⟩
abbrev main_call7_call0_c_12 : Ref sig .tc := ⟨.hbm, 814, rfl⟩
abbrev main_call7_call0_v50 : Ref sig .tc := ⟨.hbm, 815, rfl⟩
abbrev main_call7_call0_v51 : Ref sig .tc := ⟨.hbm, 816, rfl⟩
abbrev main_call7_call0_v52 : Ref sig .tc := ⟨.hbm, 817, rfl⟩
abbrev main_call7_call0_v53 : Ref sig .tc := ⟨.hbm, 818, rfl⟩
abbrev main_call7_call0_v54 : Ref sig .tc := ⟨.hbm, 819, rfl⟩
abbrev main_call7_call0_c_13 : Ref sig .tc := ⟨.hbm, 820, rfl⟩
abbrev main_call7_call0_v55 : Ref sig .tc := ⟨.hbm, 821, rfl⟩
abbrev main_call7_call0_v56 : Ref sig .tc := ⟨.hbm, 822, rfl⟩
abbrev main_call7_call0_c_14 : Ref sig .tc := ⟨.hbm, 823, rfl⟩
abbrev main_call7_call0_v57 : Ref sig .tc := ⟨.hbm, 824, rfl⟩
abbrev main_call7_call0_v58 : Ref sig .tc := ⟨.hbm, 825, rfl⟩
abbrev main_call7_call0_v59 : Ref sig .tc := ⟨.hbm, 826, rfl⟩
abbrev main_call7_call0_v60 : Ref sig .tc := ⟨.hbm, 827, rfl⟩
abbrev main_call7_call0_v61 : Ref sig .tc := ⟨.hbm, 828, rfl⟩
abbrev main_call7_call0_c_15 : Ref sig .tc := ⟨.hbm, 829, rfl⟩
abbrev main_call7_call0_v62 : Ref sig .tc := ⟨.hbm, 830, rfl⟩
abbrev main_call7_call0_v63 : Ref sig .tc := ⟨.hbm, 831, rfl⟩
abbrev main_call7_call0_c_16 : Ref sig .tc := ⟨.hbm, 832, rfl⟩
abbrev main_call7_call0_v64 : Ref sig .tc := ⟨.hbm, 833, rfl⟩
abbrev main_call7_call0_v65 : Ref sig .tc := ⟨.hbm, 834, rfl⟩
abbrev main_call7_call0_v66 : Ref sig .tc := ⟨.hbm, 835, rfl⟩
abbrev main_call7_call0_v67 : Ref sig .tc := ⟨.hbm, 836, rfl⟩
abbrev main_call7_call0_v68 : Ref sig .tc := ⟨.hbm, 837, rfl⟩
abbrev main_call7_call0_v69 : Ref sig .tc := ⟨.hbm, 838, rfl⟩
abbrev main_call7_call0_v70 : Ref sig .tc := ⟨.hbm, 839, rfl⟩
abbrev main_call7_call0_v71 : Ref sig .tc := ⟨.hbm, 840, rfl⟩
abbrev main_call7_call0_c_17 : Ref sig .tc := ⟨.hbm, 841, rfl⟩
abbrev main_call7_call0_v72 : Ref sig .tc := ⟨.hbm, 842, rfl⟩
abbrev main_call7_call0_v73 : Ref sig .tc := ⟨.hbm, 843, rfl⟩
abbrev main_call7_call0_v74 : Ref sig .tc := ⟨.hbm, 844, rfl⟩
abbrev main_call7_call0_c_18 : Ref sig .tc := ⟨.hbm, 845, rfl⟩
abbrev main_call7_call0_v75 : Ref sig .tc := ⟨.hbm, 846, rfl⟩
abbrev main_call7_call0_v76 : Ref sig .tc := ⟨.hbm, 847, rfl⟩
abbrev main_call7_call0_c_19 : Ref sig .tc := ⟨.hbm, 848, rfl⟩
abbrev main_call7_call0_v77 : Ref sig .tc := ⟨.hbm, 849, rfl⟩
abbrev main_call7_call0_v78 : Ref sig .tc := ⟨.hbm, 850, rfl⟩
abbrev main_call7_call0_v79 : Ref sig .tc := ⟨.hbm, 851, rfl⟩
abbrev main_call7_call0_v80 : Ref sig .tc := ⟨.hbm, 852, rfl⟩
abbrev main_call7_call0_v81 : Ref sig .tc := ⟨.hbm, 853, rfl⟩
abbrev main_call7_call0_c_20 : Ref sig .tc := ⟨.hbm, 854, rfl⟩
abbrev main_call7_call0_v82 : Ref sig .tc := ⟨.hbm, 855, rfl⟩
abbrev main_call7_call0_v83 : Ref sig .tc := ⟨.hbm, 856, rfl⟩
abbrev main_call7_call0_c_21 : Ref sig .tc := ⟨.hbm, 857, rfl⟩
abbrev main_call7_call0_v84 : Ref sig .tc := ⟨.hbm, 858, rfl⟩
abbrev main_call7_call0_v85 : Ref sig .tc := ⟨.hbm, 859, rfl⟩
abbrev main_call7_call0_v86 : Ref sig .tc := ⟨.hbm, 860, rfl⟩
abbrev main_call7_call0_v87 : Ref sig .tc := ⟨.hbm, 861, rfl⟩
abbrev main_call7_call0_v88 : Ref sig .tc := ⟨.hbm, 862, rfl⟩
abbrev main_call7_call0_c_22 : Ref sig .tc := ⟨.hbm, 863, rfl⟩
abbrev main_call7_call0_v89 : Ref sig .tc := ⟨.hbm, 864, rfl⟩
abbrev main_call7_call0_v90 : Ref sig .tc := ⟨.hbm, 865, rfl⟩
abbrev main_call7_call0_c_23 : Ref sig .tc := ⟨.hbm, 866, rfl⟩
abbrev main_call7_call0_v91 : Ref sig .tc := ⟨.hbm, 867, rfl⟩
abbrev main_call7_call0_v92 : Ref sig .tc := ⟨.hbm, 868, rfl⟩
abbrev main_call7_call0_v93 : Ref sig .tc := ⟨.hbm, 869, rfl⟩
abbrev main_call7_call0_v94 : Ref sig .tc := ⟨.hbm, 870, rfl⟩
abbrev main_call7_call0_v95 : Ref sig .tc := ⟨.hbm, 871, rfl⟩
abbrev main_call7_call0_c_24 : Ref sig .tc := ⟨.hbm, 872, rfl⟩
abbrev main_call7_call0_v96 : Ref sig .tc := ⟨.hbm, 873, rfl⟩
abbrev main_call7_call0_v97 : Ref sig .tc := ⟨.hbm, 874, rfl⟩
abbrev main_call7_call0_c_25 : Ref sig .tc := ⟨.hbm, 875, rfl⟩
abbrev main_call7_call0_v98 : Ref sig .tc := ⟨.hbm, 876, rfl⟩
abbrev main_call7_call0_v99 : Ref sig .tc := ⟨.hbm, 877, rfl⟩
abbrev main_call7_call0_v100 : Ref sig .tc := ⟨.hbm, 878, rfl⟩
abbrev main_call7_call0_v101 : Ref sig .tc := ⟨.hbm, 879, rfl⟩
abbrev main_call7_call0_v102 : Ref sig .tc := ⟨.hbm, 880, rfl⟩
abbrev main_call7_call0_v103 : Ref sig .tc := ⟨.hbm, 881, rfl⟩
abbrev main_call7_call0_v104 : Ref sig .tc := ⟨.hbm, 882, rfl⟩
abbrev main_call7_call0_v105 : Ref sig .tc := ⟨.hbm, 883, rfl⟩
abbrev main_call7_call0_c_26 : Ref sig .tc := ⟨.hbm, 884, rfl⟩
abbrev main_call7_call0_v106 : Ref sig .tc := ⟨.hbm, 885, rfl⟩
abbrev main_call7_call0_v107 : Ref sig .tc := ⟨.hbm, 886, rfl⟩
abbrev main_call7_call0_v108 : Ref sig .tc := ⟨.hbm, 887, rfl⟩
abbrev main_call7_call0_c_27 : Ref sig .tc := ⟨.hbm, 888, rfl⟩
abbrev main_call7_call0_v109 : Ref sig .tc := ⟨.hbm, 889, rfl⟩
abbrev main_call7_call0_v110 : Ref sig .tc := ⟨.hbm, 890, rfl⟩
abbrev main_call7_call0_c_28 : Ref sig .tc := ⟨.hbm, 891, rfl⟩
abbrev main_call7_call0_v111 : Ref sig .tc := ⟨.hbm, 892, rfl⟩
abbrev main_call7_call0_v112 : Ref sig .tc := ⟨.hbm, 893, rfl⟩
abbrev main_call7_call0_v113 : Ref sig .tc := ⟨.hbm, 894, rfl⟩
abbrev main_call7_call0_v114 : Ref sig .tc := ⟨.hbm, 895, rfl⟩
abbrev main_call7_call0_v115 : Ref sig .tc := ⟨.hbm, 896, rfl⟩
abbrev main_call7_call0_c_29 : Ref sig .tc := ⟨.hbm, 897, rfl⟩
abbrev main_call7_call0_v116 : Ref sig .tc := ⟨.hbm, 898, rfl⟩
abbrev main_call7_call0_v117 : Ref sig .tc := ⟨.hbm, 899, rfl⟩
abbrev main_call7_call0_c_30 : Ref sig .tc := ⟨.hbm, 900, rfl⟩
abbrev main_call7_call0_v118 : Ref sig .tc := ⟨.hbm, 901, rfl⟩
abbrev main_call7_call0_v119 : Ref sig .tc := ⟨.hbm, 902, rfl⟩
abbrev main_call7_call0_v120 : Ref sig .tc := ⟨.hbm, 903, rfl⟩
abbrev main_call7_call0_v121 : Ref sig .tc := ⟨.hbm, 904, rfl⟩
abbrev main_call7_call0_v122 : Ref sig .tc := ⟨.hbm, 905, rfl⟩
abbrev main_call7_call0_c_31 : Ref sig .tc := ⟨.hbm, 906, rfl⟩
abbrev main_call7_call0_v123 : Ref sig .tc := ⟨.hbm, 907, rfl⟩
abbrev main_call7_call0_v124 : Ref sig .tc := ⟨.hbm, 908, rfl⟩
abbrev main_call7_call0_c_32 : Ref sig .tc := ⟨.hbm, 909, rfl⟩
abbrev main_call7_call0_v125 : Ref sig .tc := ⟨.hbm, 910, rfl⟩
abbrev main_call7_call0_v126 : Ref sig .tc := ⟨.hbm, 911, rfl⟩
abbrev main_call7_call0_v127 : Ref sig .tc := ⟨.hbm, 912, rfl⟩
abbrev main_call7_call0_v128 : Ref sig .tc := ⟨.hbm, 913, rfl⟩
abbrev main_call7_call0_v129 : Ref sig .tc := ⟨.hbm, 914, rfl⟩
abbrev main_call7_call0_c_33 : Ref sig .tc := ⟨.hbm, 915, rfl⟩
abbrev main_call7_call0_v130 : Ref sig .tc := ⟨.hbm, 916, rfl⟩
abbrev main_call7_call0_v131 : Ref sig .tc := ⟨.hbm, 917, rfl⟩
abbrev main_call7_call0_c_34 : Ref sig .tc := ⟨.hbm, 918, rfl⟩
abbrev main_call7_call0_v132 : Ref sig .tc := ⟨.hbm, 919, rfl⟩
abbrev main_call7_call0_v133 : Ref sig .tc := ⟨.hbm, 920, rfl⟩
abbrev main_call7_call0_v134 : Ref sig .tc := ⟨.hbm, 921, rfl⟩
abbrev main_call7_call0_v135 : Ref sig .tc := ⟨.hbm, 922, rfl⟩
abbrev main_call7_call0_v136 : Ref sig .tc := ⟨.hbm, 923, rfl⟩
abbrev main_call7_call0_v137 : Ref sig .tc := ⟨.hbm, 924, rfl⟩
abbrev main_call7_call0_v138 : Ref sig .tc := ⟨.hbm, 925, rfl⟩
abbrev main_call7_call0_v139 : Ref sig .tc := ⟨.hbm, 926, rfl⟩
abbrev main_call7_call0_c_35 : Ref sig .tc := ⟨.hbm, 927, rfl⟩
abbrev main_call7_call0_v140 : Ref sig .tc := ⟨.hbm, 928, rfl⟩
abbrev main_call7_call0_v141 : Ref sig .tc := ⟨.hbm, 929, rfl⟩
abbrev main_call7_call0_v142 : Ref sig .tc := ⟨.hbm, 930, rfl⟩
abbrev main_call7_call0_c_36 : Ref sig .tc := ⟨.hbm, 931, rfl⟩
abbrev main_call7_call0_v143 : Ref sig .tc := ⟨.hbm, 932, rfl⟩
abbrev main_call7_call0_v144 : Ref sig .tc := ⟨.hbm, 933, rfl⟩
abbrev main_call7_call0_c_37 : Ref sig .tc := ⟨.hbm, 934, rfl⟩
abbrev main_call7_call0_v145 : Ref sig .tc := ⟨.hbm, 935, rfl⟩
abbrev main_call7_call0_v146 : Ref sig .tc := ⟨.hbm, 936, rfl⟩
abbrev main_call7_call0_v147 : Ref sig .tc := ⟨.hbm, 937, rfl⟩
abbrev main_call7_call0_v148 : Ref sig .tc := ⟨.hbm, 938, rfl⟩
abbrev main_call7_call0_v149 : Ref sig .tc := ⟨.hbm, 939, rfl⟩
abbrev main_call7_call0_c_38 : Ref sig .tc := ⟨.hbm, 940, rfl⟩
abbrev main_call7_call0_v150 : Ref sig .tc := ⟨.hbm, 941, rfl⟩
abbrev main_call7_call0_v151 : Ref sig .tc := ⟨.hbm, 942, rfl⟩
abbrev main_call7_call0_c_39 : Ref sig .tc := ⟨.hbm, 943, rfl⟩
abbrev main_call7_call0_v152 : Ref sig .tc := ⟨.hbm, 944, rfl⟩
abbrev main_call7_call0_v153 : Ref sig .tc := ⟨.hbm, 945, rfl⟩
abbrev main_call7_call0_v154 : Ref sig .tc := ⟨.hbm, 946, rfl⟩
abbrev main_call7_call0_v155 : Ref sig .tc := ⟨.hbm, 947, rfl⟩
abbrev main_call7_call0_v156 : Ref sig .tc := ⟨.hbm, 948, rfl⟩
abbrev main_call7_call0_c_40 : Ref sig .tc := ⟨.hbm, 949, rfl⟩
abbrev main_call7_call0_v157 : Ref sig .tc := ⟨.hbm, 950, rfl⟩
abbrev main_call7_call0_v158 : Ref sig .tc := ⟨.hbm, 951, rfl⟩
abbrev main_call7_call0_c_41 : Ref sig .tc := ⟨.hbm, 952, rfl⟩
abbrev main_call7_call0_v159 : Ref sig .tc := ⟨.hbm, 953, rfl⟩
abbrev main_call7_call0_v160 : Ref sig .tc := ⟨.hbm, 954, rfl⟩
abbrev main_call7_call0_v161 : Ref sig .tc := ⟨.hbm, 955, rfl⟩
abbrev main_call7_call0_v162 : Ref sig .tc := ⟨.hbm, 956, rfl⟩
abbrev main_call7_call0_v163 : Ref sig .tc := ⟨.hbm, 957, rfl⟩
abbrev main_call7_call0_c_42 : Ref sig .tc := ⟨.hbm, 958, rfl⟩
abbrev main_call7_call0_v164 : Ref sig .tc := ⟨.hbm, 959, rfl⟩
abbrev main_call7_call0_v165 : Ref sig .tc := ⟨.hbm, 960, rfl⟩
abbrev main_call7_call0_c_43 : Ref sig .tc := ⟨.hbm, 961, rfl⟩
abbrev main_call7_call0_v166 : Ref sig .tc := ⟨.hbm, 962, rfl⟩
abbrev main_call7_call0_v167 : Ref sig .tc := ⟨.hbm, 963, rfl⟩
abbrev main_call7_call0_v168 : Ref sig .tc := ⟨.hbm, 964, rfl⟩
abbrev main_call7_call0_v169 : Ref sig .tc := ⟨.hbm, 965, rfl⟩
abbrev main_call7_call0_v170 : Ref sig .tc := ⟨.hbm, 966, rfl⟩
abbrev main_call7_v11_0 : Ref sig .tc := ⟨.hbm, 967, rfl⟩
abbrev main_call7_call0_v172 : Ref sig .tc := ⟨.hbm, 968, rfl⟩
abbrev main_call7_call0_v173 : Ref sig .tc := ⟨.hbm, 969, rfl⟩
abbrev main_call7_call0_c_44 : Ref sig .tc := ⟨.hbm, 970, rfl⟩
abbrev main_call7_call0_v174 : Ref sig .tc := ⟨.hbm, 971, rfl⟩
abbrev main_call7_v11_1 : Ref sig .tc := ⟨.hbm, 972, rfl⟩
abbrev main_v97 : Ref sig .tc := ⟨.hbm, 973, rfl⟩
abbrev main_call8_cst : Ref sig .tc := ⟨.hbm, 974, rfl⟩
abbrev main_call8_cst_0 : Ref sig .tc := ⟨.hbm, 975, rfl⟩
abbrev main_call8_call0_v0 : Ref sig .tc := ⟨.hbm, 976, rfl⟩
abbrev main_call8_call0_v1 : Ref sig .tc := ⟨.hbm, 977, rfl⟩
abbrev main_call8_call0_v2 : Ref sig .tc := ⟨.hbm, 978, rfl⟩
abbrev main_call8_call0_v3 : Ref sig .tc := ⟨.hbm, 979, rfl⟩
abbrev main_call8_call0_v4 : Ref sig .tc := ⟨.hbm, 980, rfl⟩
abbrev main_call8_call0_v5 : Ref sig .tc := ⟨.hbm, 981, rfl⟩
abbrev main_call8_call0_v6 : Ref sig .tc := ⟨.hbm, 982, rfl⟩
abbrev main_call8_call0_v7 : Ref sig .tc := ⟨.hbm, 983, rfl⟩
abbrev main_call8_call0_v8 : Ref sig .tc := ⟨.hbm, 984, rfl⟩
abbrev main_call8_call0_v9 : Ref sig .tc := ⟨.hbm, 985, rfl⟩
abbrev main_call8_call0_c : Ref sig .tc := ⟨.hbm, 986, rfl⟩
abbrev main_call8_call0_v10 : Ref sig .tc := ⟨.hbm, 987, rfl⟩
abbrev main_call8_call0_v11 : Ref sig .tc := ⟨.hbm, 988, rfl⟩
abbrev main_call8_call0_c_0 : Ref sig .tc := ⟨.hbm, 989, rfl⟩
abbrev main_call8_call0_v12 : Ref sig .tc := ⟨.hbm, 990, rfl⟩
abbrev main_call8_call0_v13 : Ref sig .tc := ⟨.hbm, 991, rfl⟩
abbrev main_call8_call0_v14 : Ref sig .tc := ⟨.hbm, 992, rfl⟩
abbrev main_call8_call0_c_1 : Ref sig .tc := ⟨.hbm, 993, rfl⟩
abbrev main_call8_call0_v15 : Ref sig .tc := ⟨.hbm, 994, rfl⟩
abbrev main_call8_call0_v16 : Ref sig .tc := ⟨.hbm, 995, rfl⟩
abbrev main_call8_call0_v17 : Ref sig .tc := ⟨.hbm, 996, rfl⟩
abbrev main_call8_call0_v18 : Ref sig .tc := ⟨.hbm, 997, rfl⟩
abbrev main_call8_call0_call0_v0 : Ref sig .tc := ⟨.hbm, 998, rfl⟩
abbrev main_call8_call0_call0_c : Ref sig .tc := ⟨.hbm, 999, rfl⟩
abbrev main_call8_call0_call0_v1 : Ref sig .tc := ⟨.hbm, 1000, rfl⟩
abbrev main_call8_call0_call0_v2 : Ref sig .tc := ⟨.hbm, 1001, rfl⟩
abbrev main_call8_call0_call0_v3 : Ref sig .tc := ⟨.hbm, 1002, rfl⟩
abbrev main_call8_call0_call0_v4 : Ref sig .tc := ⟨.hbm, 1003, rfl⟩
abbrev main_call8_call0_call0_v5 : Ref sig .tc := ⟨.hbm, 1004, rfl⟩
abbrev main_call8_call0_call0_v6 : Ref sig .tc := ⟨.hbm, 1005, rfl⟩
abbrev main_call8_call0_call0_c_0 : Ref sig .tc := ⟨.hbm, 1006, rfl⟩
abbrev main_call8_call0_call0_v7 : Ref sig .tc := ⟨.hbm, 1007, rfl⟩
abbrev main_call8_call0_call0_v8 : Ref sig .tc := ⟨.hbm, 1008, rfl⟩
abbrev main_call8_call0_call0_c_1 : Ref sig .tc := ⟨.hbm, 1009, rfl⟩
abbrev main_call8_call0_call0_v9 : Ref sig .tc := ⟨.hbm, 1010, rfl⟩
abbrev main_call8_call0_call0_v10 : Ref sig .tc := ⟨.hbm, 1011, rfl⟩
abbrev main_call8_call0_call0_v11 : Ref sig .tc := ⟨.hbm, 1012, rfl⟩
abbrev main_call8_call0_call0_v12 : Ref sig .tc := ⟨.hbm, 1013, rfl⟩
abbrev main_call8_call0_call0_v13 : Ref sig .tc := ⟨.hbm, 1014, rfl⟩
abbrev main_call8_call0_call0_c_2 : Ref sig .tc := ⟨.hbm, 1015, rfl⟩
abbrev main_call8_call0_call0_v14 : Ref sig .tc := ⟨.hbm, 1016, rfl⟩
abbrev main_call8_call0_call0_v15 : Ref sig .tc := ⟨.hbm, 1017, rfl⟩
abbrev main_call8_call0_call0_c_3 : Ref sig .tc := ⟨.hbm, 1018, rfl⟩
abbrev main_call8_call0_call0_v16 : Ref sig .tc := ⟨.hbm, 1019, rfl⟩
abbrev main_call8_call0_call0_v17 : Ref sig .tc := ⟨.hbm, 1020, rfl⟩
abbrev main_call8_call0_call0_v18 : Ref sig .tc := ⟨.hbm, 1021, rfl⟩
abbrev main_call8_call0_call0_v19 : Ref sig .tc := ⟨.hbm, 1022, rfl⟩
abbrev main_call8_call0_call0_v20 : Ref sig .tc := ⟨.hbm, 1023, rfl⟩
abbrev main_call8_call0_call0_c_4 : Ref sig .tc := ⟨.hbm, 1024, rfl⟩
abbrev main_call8_call0_call0_v21 : Ref sig .tc := ⟨.hbm, 1025, rfl⟩
abbrev main_call8_call0_call0_v22 : Ref sig .tc := ⟨.hbm, 1026, rfl⟩
abbrev main_call8_call0_call0_c_5 : Ref sig .tc := ⟨.hbm, 1027, rfl⟩
abbrev main_call8_call0_call0_v23 : Ref sig .tc := ⟨.hbm, 1028, rfl⟩
abbrev main_call8_call0_call0_v24 : Ref sig .tc := ⟨.hbm, 1029, rfl⟩
abbrev main_call8_call0_call0_v25 : Ref sig .tc := ⟨.hbm, 1030, rfl⟩
abbrev main_call8_call0_call0_v26 : Ref sig .tc := ⟨.hbm, 1031, rfl⟩
abbrev main_call8_call0_call0_v27 : Ref sig .tc := ⟨.hbm, 1032, rfl⟩
abbrev main_call8_call0_call0_c_6 : Ref sig .tc := ⟨.hbm, 1033, rfl⟩
abbrev main_call8_call0_call0_v28 : Ref sig .tc := ⟨.hbm, 1034, rfl⟩
abbrev main_call8_call0_call0_v29 : Ref sig .tc := ⟨.hbm, 1035, rfl⟩
abbrev main_call8_call0_call0_c_7 : Ref sig .tc := ⟨.hbm, 1036, rfl⟩
abbrev main_call8_call0_call0_v30 : Ref sig .tc := ⟨.hbm, 1037, rfl⟩
abbrev main_call8_call0_call0_v31 : Ref sig .tc := ⟨.hbm, 1038, rfl⟩
abbrev main_call8_call0_call0_v32 : Ref sig .tc := ⟨.hbm, 1039, rfl⟩
abbrev main_call8_call0_call0_v33 : Ref sig .tc := ⟨.hbm, 1040, rfl⟩
abbrev main_call8_call0_call0_v34 : Ref sig .tc := ⟨.hbm, 1041, rfl⟩
abbrev main_call8_call0_call0_v35 : Ref sig .tc := ⟨.hbm, 1042, rfl⟩
abbrev main_call8_call0_call0_v36 : Ref sig .tc := ⟨.hbm, 1043, rfl⟩
abbrev main_call8_call0_call0_v37 : Ref sig .tc := ⟨.hbm, 1044, rfl⟩
abbrev main_call8_call0_call0_c_8 : Ref sig .tc := ⟨.hbm, 1045, rfl⟩
abbrev main_call8_call0_call0_v38 : Ref sig .tc := ⟨.hbm, 1046, rfl⟩
abbrev main_call8_call0_call0_v39 : Ref sig .tc := ⟨.hbm, 1047, rfl⟩
abbrev main_call8_call0_call0_v40 : Ref sig .tc := ⟨.hbm, 1048, rfl⟩
abbrev main_call8_call0_call0_c_9 : Ref sig .tc := ⟨.hbm, 1049, rfl⟩
abbrev main_call8_call0_call0_v41 : Ref sig .tc := ⟨.hbm, 1050, rfl⟩
abbrev main_call8_call0_call0_v42 : Ref sig .tc := ⟨.hbm, 1051, rfl⟩
abbrev main_call8_call0_call0_c_10 : Ref sig .tc := ⟨.hbm, 1052, rfl⟩
abbrev main_call8_call0_call0_v43 : Ref sig .tc := ⟨.hbm, 1053, rfl⟩
abbrev main_call8_call0_call0_v44 : Ref sig .tc := ⟨.hbm, 1054, rfl⟩
abbrev main_call8_call0_call0_v45 : Ref sig .tc := ⟨.hbm, 1055, rfl⟩
abbrev main_call8_call0_call0_v46 : Ref sig .tc := ⟨.hbm, 1056, rfl⟩
abbrev main_call8_call0_call0_v47 : Ref sig .tc := ⟨.hbm, 1057, rfl⟩
abbrev main_call8_call0_call0_c_11 : Ref sig .tc := ⟨.hbm, 1058, rfl⟩
abbrev main_call8_call0_call0_v48 : Ref sig .tc := ⟨.hbm, 1059, rfl⟩
abbrev main_call8_call0_call0_v49 : Ref sig .tc := ⟨.hbm, 1060, rfl⟩
abbrev main_call8_call0_call0_c_12 : Ref sig .tc := ⟨.hbm, 1061, rfl⟩
abbrev main_call8_call0_call0_v50 : Ref sig .tc := ⟨.hbm, 1062, rfl⟩
abbrev main_call8_call0_call0_v51 : Ref sig .tc := ⟨.hbm, 1063, rfl⟩
abbrev main_call8_call0_call0_v52 : Ref sig .tc := ⟨.hbm, 1064, rfl⟩
abbrev main_call8_call0_call0_v53 : Ref sig .tc := ⟨.hbm, 1065, rfl⟩
abbrev main_call8_call0_call0_v54 : Ref sig .tc := ⟨.hbm, 1066, rfl⟩
abbrev main_call8_call0_call0_c_13 : Ref sig .tc := ⟨.hbm, 1067, rfl⟩
abbrev main_call8_call0_call0_v55 : Ref sig .tc := ⟨.hbm, 1068, rfl⟩
abbrev main_call8_call0_call0_v56 : Ref sig .tc := ⟨.hbm, 1069, rfl⟩
abbrev main_call8_call0_call0_c_14 : Ref sig .tc := ⟨.hbm, 1070, rfl⟩
abbrev main_call8_call0_call0_v57 : Ref sig .tc := ⟨.hbm, 1071, rfl⟩
abbrev main_call8_call0_call0_v58 : Ref sig .tc := ⟨.hbm, 1072, rfl⟩
abbrev main_call8_call0_call0_v59 : Ref sig .tc := ⟨.hbm, 1073, rfl⟩
abbrev main_call8_call0_call0_v60 : Ref sig .tc := ⟨.hbm, 1074, rfl⟩
abbrev main_call8_call0_call0_v61 : Ref sig .tc := ⟨.hbm, 1075, rfl⟩
abbrev main_call8_call0_call0_c_15 : Ref sig .tc := ⟨.hbm, 1076, rfl⟩
abbrev main_call8_call0_call0_v62 : Ref sig .tc := ⟨.hbm, 1077, rfl⟩
abbrev main_call8_call0_call0_v63 : Ref sig .tc := ⟨.hbm, 1078, rfl⟩
abbrev main_call8_call0_call0_c_16 : Ref sig .tc := ⟨.hbm, 1079, rfl⟩
abbrev main_call8_call0_call0_v64 : Ref sig .tc := ⟨.hbm, 1080, rfl⟩
abbrev main_call8_call0_call0_v65 : Ref sig .tc := ⟨.hbm, 1081, rfl⟩
abbrev main_call8_call0_call0_v66 : Ref sig .tc := ⟨.hbm, 1082, rfl⟩
abbrev main_call8_call0_call0_v67 : Ref sig .tc := ⟨.hbm, 1083, rfl⟩
abbrev main_call8_call0_call0_v68 : Ref sig .tc := ⟨.hbm, 1084, rfl⟩
abbrev main_call8_call0_call0_v69 : Ref sig .tc := ⟨.hbm, 1085, rfl⟩
abbrev main_call8_call0_call0_v70 : Ref sig .tc := ⟨.hbm, 1086, rfl⟩
abbrev main_call8_call0_call0_v71 : Ref sig .tc := ⟨.hbm, 1087, rfl⟩
abbrev main_call8_call0_call0_c_17 : Ref sig .tc := ⟨.hbm, 1088, rfl⟩
abbrev main_call8_call0_call0_v72 : Ref sig .tc := ⟨.hbm, 1089, rfl⟩
abbrev main_call8_call0_call0_v73 : Ref sig .tc := ⟨.hbm, 1090, rfl⟩
abbrev main_call8_call0_call0_v74 : Ref sig .tc := ⟨.hbm, 1091, rfl⟩
abbrev main_call8_call0_call0_c_18 : Ref sig .tc := ⟨.hbm, 1092, rfl⟩
abbrev main_call8_call0_call0_v75 : Ref sig .tc := ⟨.hbm, 1093, rfl⟩
abbrev main_call8_call0_call0_v76 : Ref sig .tc := ⟨.hbm, 1094, rfl⟩
abbrev main_call8_call0_call0_c_19 : Ref sig .tc := ⟨.hbm, 1095, rfl⟩
abbrev main_call8_call0_call0_v77 : Ref sig .tc := ⟨.hbm, 1096, rfl⟩
abbrev main_call8_call0_call0_v78 : Ref sig .tc := ⟨.hbm, 1097, rfl⟩
abbrev main_call8_call0_call0_v79 : Ref sig .tc := ⟨.hbm, 1098, rfl⟩
abbrev main_call8_call0_call0_v80 : Ref sig .tc := ⟨.hbm, 1099, rfl⟩
abbrev main_call8_call0_call0_v81 : Ref sig .tc := ⟨.hbm, 1100, rfl⟩
abbrev main_call8_call0_call0_c_20 : Ref sig .tc := ⟨.hbm, 1101, rfl⟩
abbrev main_call8_call0_call0_v82 : Ref sig .tc := ⟨.hbm, 1102, rfl⟩
abbrev main_call8_call0_call0_v83 : Ref sig .tc := ⟨.hbm, 1103, rfl⟩
abbrev main_call8_call0_call0_c_21 : Ref sig .tc := ⟨.hbm, 1104, rfl⟩
abbrev main_call8_call0_call0_v84 : Ref sig .tc := ⟨.hbm, 1105, rfl⟩
abbrev main_call8_call0_call0_v85 : Ref sig .tc := ⟨.hbm, 1106, rfl⟩
abbrev main_call8_call0_call0_v86 : Ref sig .tc := ⟨.hbm, 1107, rfl⟩
abbrev main_call8_call0_call0_v87 : Ref sig .tc := ⟨.hbm, 1108, rfl⟩
abbrev main_call8_call0_call0_v88 : Ref sig .tc := ⟨.hbm, 1109, rfl⟩
abbrev main_call8_call0_call0_c_22 : Ref sig .tc := ⟨.hbm, 1110, rfl⟩
abbrev main_call8_call0_call0_v89 : Ref sig .tc := ⟨.hbm, 1111, rfl⟩
abbrev main_call8_call0_call0_v90 : Ref sig .tc := ⟨.hbm, 1112, rfl⟩
abbrev main_call8_call0_call0_c_23 : Ref sig .tc := ⟨.hbm, 1113, rfl⟩
abbrev main_call8_call0_call0_v91 : Ref sig .tc := ⟨.hbm, 1114, rfl⟩
abbrev main_call8_call0_call0_v92 : Ref sig .tc := ⟨.hbm, 1115, rfl⟩
abbrev main_call8_call0_call0_v93 : Ref sig .tc := ⟨.hbm, 1116, rfl⟩
abbrev main_call8_call0_call0_v94 : Ref sig .tc := ⟨.hbm, 1117, rfl⟩
abbrev main_call8_call0_call0_v95 : Ref sig .tc := ⟨.hbm, 1118, rfl⟩
abbrev main_call8_call0_call0_c_24 : Ref sig .tc := ⟨.hbm, 1119, rfl⟩
abbrev main_call8_call0_call0_v96 : Ref sig .tc := ⟨.hbm, 1120, rfl⟩
abbrev main_call8_call0_call0_v97 : Ref sig .tc := ⟨.hbm, 1121, rfl⟩
abbrev main_call8_call0_call0_c_25 : Ref sig .tc := ⟨.hbm, 1122, rfl⟩
abbrev main_call8_call0_call0_v98 : Ref sig .tc := ⟨.hbm, 1123, rfl⟩
abbrev main_call8_call0_call0_v99 : Ref sig .tc := ⟨.hbm, 1124, rfl⟩
abbrev main_call8_call0_call0_v100 : Ref sig .tc := ⟨.hbm, 1125, rfl⟩
abbrev main_call8_call0_call0_v101 : Ref sig .tc := ⟨.hbm, 1126, rfl⟩
abbrev main_call8_call0_call0_v102 : Ref sig .tc := ⟨.hbm, 1127, rfl⟩
abbrev main_call8_call0_call0_v103 : Ref sig .tc := ⟨.hbm, 1128, rfl⟩
abbrev main_call8_call0_call0_v104 : Ref sig .tc := ⟨.hbm, 1129, rfl⟩
abbrev main_call8_call0_call0_v105 : Ref sig .tc := ⟨.hbm, 1130, rfl⟩
abbrev main_call8_call0_call0_c_26 : Ref sig .tc := ⟨.hbm, 1131, rfl⟩
abbrev main_call8_call0_call0_v106 : Ref sig .tc := ⟨.hbm, 1132, rfl⟩
abbrev main_call8_call0_call0_v107 : Ref sig .tc := ⟨.hbm, 1133, rfl⟩
abbrev main_call8_call0_call0_v108 : Ref sig .tc := ⟨.hbm, 1134, rfl⟩
abbrev main_call8_call0_call0_c_27 : Ref sig .tc := ⟨.hbm, 1135, rfl⟩
abbrev main_call8_call0_call0_v109 : Ref sig .tc := ⟨.hbm, 1136, rfl⟩
abbrev main_call8_call0_call0_v110 : Ref sig .tc := ⟨.hbm, 1137, rfl⟩
abbrev main_call8_call0_call0_c_28 : Ref sig .tc := ⟨.hbm, 1138, rfl⟩
abbrev main_call8_call0_call0_v111 : Ref sig .tc := ⟨.hbm, 1139, rfl⟩
abbrev main_call8_call0_call0_v112 : Ref sig .tc := ⟨.hbm, 1140, rfl⟩
abbrev main_call8_call0_call0_v113 : Ref sig .tc := ⟨.hbm, 1141, rfl⟩
abbrev main_call8_call0_call0_v114 : Ref sig .tc := ⟨.hbm, 1142, rfl⟩
abbrev main_call8_call0_call0_v115 : Ref sig .tc := ⟨.hbm, 1143, rfl⟩
abbrev main_call8_call0_call0_c_29 : Ref sig .tc := ⟨.hbm, 1144, rfl⟩
abbrev main_call8_call0_call0_v116 : Ref sig .tc := ⟨.hbm, 1145, rfl⟩
abbrev main_call8_call0_call0_v117 : Ref sig .tc := ⟨.hbm, 1146, rfl⟩
abbrev main_call8_call0_call0_c_30 : Ref sig .tc := ⟨.hbm, 1147, rfl⟩
abbrev main_call8_call0_call0_v118 : Ref sig .tc := ⟨.hbm, 1148, rfl⟩
abbrev main_call8_call0_call0_v119 : Ref sig .tc := ⟨.hbm, 1149, rfl⟩
abbrev main_call8_call0_call0_v120 : Ref sig .tc := ⟨.hbm, 1150, rfl⟩
abbrev main_call8_call0_call0_v121 : Ref sig .tc := ⟨.hbm, 1151, rfl⟩
abbrev main_call8_call0_call0_v122 : Ref sig .tc := ⟨.hbm, 1152, rfl⟩
abbrev main_call8_call0_call0_c_31 : Ref sig .tc := ⟨.hbm, 1153, rfl⟩
abbrev main_call8_call0_call0_v123 : Ref sig .tc := ⟨.hbm, 1154, rfl⟩
abbrev main_call8_call0_call0_v124 : Ref sig .tc := ⟨.hbm, 1155, rfl⟩
abbrev main_call8_call0_call0_c_32 : Ref sig .tc := ⟨.hbm, 1156, rfl⟩
abbrev main_call8_call0_call0_v125 : Ref sig .tc := ⟨.hbm, 1157, rfl⟩
abbrev main_call8_call0_call0_v126 : Ref sig .tc := ⟨.hbm, 1158, rfl⟩
abbrev main_call8_call0_call0_v127 : Ref sig .tc := ⟨.hbm, 1159, rfl⟩
abbrev main_call8_call0_call0_v128 : Ref sig .tc := ⟨.hbm, 1160, rfl⟩
abbrev main_call8_call0_call0_v129 : Ref sig .tc := ⟨.hbm, 1161, rfl⟩
abbrev main_call8_call0_call0_c_33 : Ref sig .tc := ⟨.hbm, 1162, rfl⟩
abbrev main_call8_call0_call0_v130 : Ref sig .tc := ⟨.hbm, 1163, rfl⟩
abbrev main_call8_call0_call0_v131 : Ref sig .tc := ⟨.hbm, 1164, rfl⟩
abbrev main_call8_call0_call0_c_34 : Ref sig .tc := ⟨.hbm, 1165, rfl⟩
abbrev main_call8_call0_call0_v132 : Ref sig .tc := ⟨.hbm, 1166, rfl⟩
abbrev main_call8_call0_call0_v133 : Ref sig .tc := ⟨.hbm, 1167, rfl⟩
abbrev main_call8_call0_call0_v134 : Ref sig .tc := ⟨.hbm, 1168, rfl⟩
abbrev main_call8_call0_call0_v135 : Ref sig .tc := ⟨.hbm, 1169, rfl⟩
abbrev main_call8_call0_call0_v136 : Ref sig .tc := ⟨.hbm, 1170, rfl⟩
abbrev main_call8_call0_call0_v137 : Ref sig .tc := ⟨.hbm, 1171, rfl⟩
abbrev main_call8_call0_call0_v138 : Ref sig .tc := ⟨.hbm, 1172, rfl⟩
abbrev main_call8_call0_call0_v139 : Ref sig .tc := ⟨.hbm, 1173, rfl⟩
abbrev main_call8_call0_call0_c_35 : Ref sig .tc := ⟨.hbm, 1174, rfl⟩
abbrev main_call8_call0_call0_v140 : Ref sig .tc := ⟨.hbm, 1175, rfl⟩
abbrev main_call8_call0_call0_v141 : Ref sig .tc := ⟨.hbm, 1176, rfl⟩
abbrev main_call8_call0_call0_v142 : Ref sig .tc := ⟨.hbm, 1177, rfl⟩
abbrev main_call8_call0_call0_c_36 : Ref sig .tc := ⟨.hbm, 1178, rfl⟩
abbrev main_call8_call0_call0_v143 : Ref sig .tc := ⟨.hbm, 1179, rfl⟩
abbrev main_call8_call0_call0_v144 : Ref sig .tc := ⟨.hbm, 1180, rfl⟩
abbrev main_call8_call0_call0_c_37 : Ref sig .tc := ⟨.hbm, 1181, rfl⟩
abbrev main_call8_call0_call0_v145 : Ref sig .tc := ⟨.hbm, 1182, rfl⟩
abbrev main_call8_call0_call0_v146 : Ref sig .tc := ⟨.hbm, 1183, rfl⟩
abbrev main_call8_call0_call0_v147 : Ref sig .tc := ⟨.hbm, 1184, rfl⟩
abbrev main_call8_call0_call0_v148 : Ref sig .tc := ⟨.hbm, 1185, rfl⟩
abbrev main_call8_call0_call0_v149 : Ref sig .tc := ⟨.hbm, 1186, rfl⟩
abbrev main_call8_call0_call0_c_38 : Ref sig .tc := ⟨.hbm, 1187, rfl⟩
abbrev main_call8_call0_call0_v150 : Ref sig .tc := ⟨.hbm, 1188, rfl⟩
abbrev main_call8_call0_call0_v151 : Ref sig .tc := ⟨.hbm, 1189, rfl⟩
abbrev main_call8_call0_call0_c_39 : Ref sig .tc := ⟨.hbm, 1190, rfl⟩
abbrev main_call8_call0_call0_v152 : Ref sig .tc := ⟨.hbm, 1191, rfl⟩
abbrev main_call8_call0_call0_v153 : Ref sig .tc := ⟨.hbm, 1192, rfl⟩
abbrev main_call8_call0_call0_v154 : Ref sig .tc := ⟨.hbm, 1193, rfl⟩
abbrev main_call8_call0_call0_v155 : Ref sig .tc := ⟨.hbm, 1194, rfl⟩
abbrev main_call8_call0_call0_v156 : Ref sig .tc := ⟨.hbm, 1195, rfl⟩
abbrev main_call8_call0_call0_c_40 : Ref sig .tc := ⟨.hbm, 1196, rfl⟩
abbrev main_call8_call0_call0_v157 : Ref sig .tc := ⟨.hbm, 1197, rfl⟩
abbrev main_call8_call0_call0_v158 : Ref sig .tc := ⟨.hbm, 1198, rfl⟩
abbrev main_call8_call0_call0_c_41 : Ref sig .tc := ⟨.hbm, 1199, rfl⟩
abbrev main_call8_call0_call0_v159 : Ref sig .tc := ⟨.hbm, 1200, rfl⟩
abbrev main_call8_call0_call0_v160 : Ref sig .tc := ⟨.hbm, 1201, rfl⟩
abbrev main_call8_call0_call0_v161 : Ref sig .tc := ⟨.hbm, 1202, rfl⟩
abbrev main_call8_call0_call0_v162 : Ref sig .tc := ⟨.hbm, 1203, rfl⟩
abbrev main_call8_call0_call0_v163 : Ref sig .tc := ⟨.hbm, 1204, rfl⟩
abbrev main_call8_call0_call0_c_42 : Ref sig .tc := ⟨.hbm, 1205, rfl⟩
abbrev main_call8_call0_call0_v164 : Ref sig .tc := ⟨.hbm, 1206, rfl⟩
abbrev main_call8_call0_call0_v165 : Ref sig .tc := ⟨.hbm, 1207, rfl⟩
abbrev main_call8_call0_call0_c_43 : Ref sig .tc := ⟨.hbm, 1208, rfl⟩
abbrev main_call8_call0_call0_v166 : Ref sig .tc := ⟨.hbm, 1209, rfl⟩
abbrev main_call8_call0_call0_v167 : Ref sig .tc := ⟨.hbm, 1210, rfl⟩
abbrev main_call8_call0_call0_v168 : Ref sig .tc := ⟨.hbm, 1211, rfl⟩
abbrev main_call8_call0_call0_v169 : Ref sig .tc := ⟨.hbm, 1212, rfl⟩
abbrev main_call8_call0_call0_v170 : Ref sig .tc := ⟨.hbm, 1213, rfl⟩
abbrev main_call8_call0_v19_0 : Ref sig .tc := ⟨.hbm, 1214, rfl⟩
abbrev main_call8_call0_call0_v172 : Ref sig .tc := ⟨.hbm, 1215, rfl⟩
abbrev main_call8_call0_call0_v173 : Ref sig .tc := ⟨.hbm, 1216, rfl⟩
abbrev main_call8_call0_call0_c_44 : Ref sig .tc := ⟨.hbm, 1217, rfl⟩
abbrev main_call8_call0_call0_v174 : Ref sig .tc := ⟨.hbm, 1218, rfl⟩
abbrev main_call8_call0_v19_1 : Ref sig .tc := ⟨.hbm, 1219, rfl⟩
abbrev main_call8_call0_v20 : Ref sig .tc := ⟨.hbm, 1220, rfl⟩
abbrev main_call8_call0_c_2 : Ref sig .tc := ⟨.hbm, 1221, rfl⟩
abbrev main_call8_call0_v21 : Ref sig .tc := ⟨.hbm, 1222, rfl⟩
abbrev main_call8_call0_v22 : Ref sig .tc := ⟨.hbm, 1223, rfl⟩
abbrev main_call8_call0_c_3 : Ref sig .tc := ⟨.hbm, 1224, rfl⟩
abbrev main_call8_call0_v23 : Ref sig .tc := ⟨.hbm, 1225, rfl⟩
abbrev main_call8_call0_v24 : Ref sig .tc := ⟨.hbm, 1226, rfl⟩
abbrev main_call8_call0_v25 : Ref sig .tc := ⟨.hbm, 1227, rfl⟩
abbrev main_call8_call0_cst : Ref sig .tc := ⟨.hbm, 1228, rfl⟩
abbrev main_call8_call0_v26 : Ref sig .tc := ⟨.hbm, 1229, rfl⟩
abbrev main_call8_call0_v27 : Ref sig .tc := ⟨.hbm, 1230, rfl⟩
abbrev main_call8_call0_v28 : Ref sig .tc := ⟨.hbm, 1231, rfl⟩
abbrev main_call8_call0_v29 : Ref sig .tc := ⟨.hbm, 1232, rfl⟩
abbrev main_call8_call0_v30 : Ref sig .tc := ⟨.hbm, 1233, rfl⟩
abbrev main_call8_call0_v31 : Ref sig .tc := ⟨.hbm, 1234, rfl⟩
abbrev main_call8_call0_v32 : Ref sig .tc := ⟨.hbm, 1235, rfl⟩
abbrev main_call8_call0_v33 : Ref sig .tc := ⟨.hbm, 1236, rfl⟩
abbrev main_call8_v0 : Ref sig .tc := ⟨.hbm, 1237, rfl⟩
abbrev main_v98 : Ref sig .tc := ⟨.hbm, 1238, rfl⟩
abbrev main_v99 : Ref sig .tc := ⟨.hbm, 1239, rfl⟩
abbrev main_v100 : Ref sig .tc := ⟨.hbm, 1240, rfl⟩
abbrev main_v101 : Ref sig .tc := ⟨.hbm, 1241, rfl⟩
abbrev main_v102 : Ref sig .tc := ⟨.hbm, 1242, rfl⟩
abbrev main_v103 : Ref sig .tc := ⟨.hbm, 1243, rfl⟩
abbrev main_v104 : Ref sig .tc := ⟨.hbm, 1244, rfl⟩

abbrev nD : Nat := 1
abbrev τ : Topo := Topo.v7x

variable {F : FTy → Type} [FloatOps F]
-- ==== Proof.PreRead.lean ====
/- What the precondition says: every feature token is below 11 and every action below 4. -/
module

public import proofs.«01_k».proof.Defs
public import Idealize.ShloMosaic.Lib.ReduceAll
public import Idealize.ShloMosaic.PureOps.Ideal

@[expose] public section

noncomputable section

namespace Cert.Proof.PreRead

open Idealize.ShloMosaic Cert.Pre_tokens_in_range

/-- A word that is at least zero and below a small number, read signed, is below it as a natural number. -/
theorem below (w : BitVec 32) (n : ℕ) (hn : n < 2 ^ 31) (h : IntOp.andi (IntOp.cmpi .sge w 0#32) (IntOp.cmpi .slt w (BitVec.ofNat 32 n)) = 1#1) :
    w.toNat < n := by
  have both : ∀ p q : Bool, BitVec.ofBool p &&& BitVec.ofBool q = 1#1 → p = true ∧ q = true := by decide
  obtain ⟨h0, h1⟩ := both _ _ h
  simp only [BitVec.sle_eq_decide, BitVec.slt_eq_decide, decide_eq_true_eq, BitVec.toInt_eq_toNat_cond, BitVec.toNat_ofNat] at h0 h1
  omega

/-- Two bits whose conjunction is one are both one. -/
theorem both_one (a b : BitVec 1) (h : IntOp.andi a b = 1#1) : a = 1#1 ∧ b = 1#1 := by
  revert h; revert a b; unfold IntOp.andi; decide

variable [Facts] (a0 : IVec S16384x3x50 32) (a1 : IVec S16384x2 32) (a2 : FVec Ideal S11x1024 .f32) (a3 : FVec Ideal S3x1x1024 .f32)
  (a4 : FVec Ideal S4x1024 .f32) (a5 : FVec Ideal S2x1x1024 .f32) (a6 : FVec Ideal S2048x1 .f32) (a7 : FVec Ideal S1 .f32)

/-- A scalar has one index. -/
instance : Subsingleton S_.Idx := ⟨fun _ _ => funext fun a => a.elim0⟩

/-- The tokens' ranges. -/
theorem ranges (h : fn (F := Ideal) a0 a1 a2 a3 a4 a5 a6 a7 = fun _ => 1#1) :
    (∀ i, (a0 i).toNat < 11) ∧ ∀ i, (a1 i).toNat < 4 := by
  obtain ⟨h0, h1⟩ := both_one _ _ (congrFun h fun a => a.elim0)
  exact ⟨fun i => below _ 11 (by decide) (Host.reduce_andi_all _ _ _ _ _ h0 i), fun i => below _ 4 (by decide) (Host.reduce_andi_all _ _ _ _ _ h1 i)⟩

end Cert.Proof.PreRead
-- ==== Proof.Block.lean ====
/- What one grid point of the kernel computes, index by index: the histogram of a row's tokens is a sum of indicators,
   the embeddings are its products with the two tables, and the results are read off the embeddings. -/
module

public import proofs.«01_k».proof.Proof.Gen.KernelIdeal.Frame
public import Idealize.ShloMosaic.Lib.Pointwise
public import Idealize.ShloMosaic.Lib.Pipeline.ValueKit.Basic
public import Idealize.ShloMosaic.PureOps.Ideal

@[expose] public section

set_option maxRecDepth 32768
set_option maxHeartbeats 2000000

noncomputable section

namespace Cert.Proof.Block

open Cert.KernelIdeal Cert.KernelIdeal.Gen Idealize.ShloMosaic Idealize.ShloMosaic.TcCoe

/-- One column of the tokens lies inside the block. -/
theorem col_slices (l : ℕ) (h : l < 152) : S256x152.Slices ![0, l] S256x1 := by
  refine ⟨rfl, fun a => ?_⟩
  match a with
  | ⟨0, _⟩ => exact Nat.le_refl _
  | ⟨1, _⟩ => exact h

/-- Which bins one column of tokens falls into. -/
def hitT (x : IVec S256x152 32) (l : ℕ) (h : l < 152) : FVec Ideal S256x48 .f32 :=
  sitofp .f32 (extui 32 (cmpi .eq (broadcastTo S256x48 (extractStridedSlice S256x1 ![0, l] x (col_slices l h)) broadcasts_S256x1_S256x48)
    (broadcastTo S256x48 (iota .tc S1x48 32 [1] iota_S1x48_d1_w32) broadcasts_S1x48_S256x48)) natLt_1_32)

/-- The histogram of the first columns. -/
def cntT (x : IVec S256x152 32) : (n : ℕ) → n ≤ 152 → FVec Ideal S256x48 .f32
  | 0, _ => broadcast S256x48 (Scalar.ofBits .f32 0x00000000#32)
  | n + 1, h => addf (cntT x n (Nat.le_of_succ_le h)) (hitT x n h)

/-- The kernel's histogram. -/
theorem pay49_eq (x0 : Vec Ideal S256x152 .i32) (x1 x2 : Vec Ideal S48x1024 .f32) (x3 : Vec Ideal S2048x1 .f32) (x4 : Vec Ideal S1x1 .f32)
    (x5 x6 : Vec Ideal S256x1024 .f32) :
    k0_pay49 x0 x1 x2 x3 x4 x5 x6 = cntT (k0_pay2 (View.ld x0 r0_0)) 152 (Nat.le_refl _) := by
  simp only [k0_pay49, k0_pay47, k0_pay48, k0_pay46, k0_pay45, k0_pay37, k0_pay36, k0_pay35, k0_pay34, k0_pay33, k0_pay32, k0_pay31,
    k0_pay30, k0_pay29, k0_pay28, k0_pay27, k0_pay26, k0_pay25, k0_pay24, k0_pay23, k0_pay22, k0_pay21, k0_pay20, k0_pay19, k0_pay18,
    k0_pay17, k0_pay16, k0_pay15, k0_pay14, k0_pay13, k0_pay12, k0_pay11, k0_pay10, k0_pay9, k0_pay8, k0_pay7, k0_pay6, k0_pay5, k0_pay4,
    k0_pay3, cntT, hitT]

/-- An indicator, as a number. -/
def ind (w : BitVec 32) (k : ℕ) : EReal := if w = BitVec.ofNat 32 k then 1 else 0

/-- One column's hit, index by index. -/
theorem hitT_apply (x : IVec S256x152 32) (l : ℕ) (h : l < 152) (r : Fin 256) (k : Fin 48) :
    hitT x l h (ix2 r k) = ind (x (ix2 r ⟨l, h⟩)) k.val := by
  pointwise [hitT]
  unfold ind
  show ((((BitVec.setWidth 32 (IntOp.cmpi CmpIPredicate.eq (x (ix2 r ⟨l, _⟩)) (BitVec.ofNat 32 ↑k))).toInt : ℝ)) : EReal) = _
  by_cases hw : x (ix2 r ⟨l, h⟩) = BitVec.ofNat 32 k.val
  · rw [if_pos hw]
    have e : IntOp.cmpi CmpIPredicate.eq (x (ix2 r ⟨l, h⟩)) (BitVec.ofNat 32 k.val) = 1#1 := by simp [IntOp.cmpi, hw]
    rw [e]; simp
  · rw [if_neg hw]
    have e : IntOp.cmpi CmpIPredicate.eq (x (ix2 r ⟨l, h⟩)) (BitVec.ofNat 32 k.val) = 0#1 := by
      have : (x (ix2 r ⟨l, h⟩) == BitVec.ofNat 32 k.val) = false := beq_eq_false_iff_ne.2 hw
      simp [IntOp.cmpi, this]
    rw [e]; simp

/-- The histogram of the first columns, index by index. -/
theorem cntT_apply (x : IVec S256x152 32) (r : Fin 256) (k : Fin 48) : ∀ (n : ℕ) (h : n ≤ 152),
    cntT x n h (ix2 r k) = ∑ l : Fin n, ind (x (ix2 r ⟨l.val, l.isLt.trans_le h⟩)) k.val
  | 0, _ => by
    show Ideal.ofBits .f32 0x00000000#32 = _
    rw [Ideal.ofBits_zero_f32]; simp
  | n + 1, h => by
    show cntT x n _ (ix2 r k) + hitT x n h (ix2 r k) = _
    rw [cntT_apply x r k n, hitT_apply, Fin.sum_univ_castSucc]
    rfl

/-- The tokens as loaded. -/
theorem pay2_eq (x : Vec Ideal S256x152 .i32) : k0_pay2 (View.ld x r0_0) = x := by
  funext j
  pointwise [k0_pay2]

/-- The embedding of a row against a table: its histogram times the table's columns. -/
def emb (x : IVec S256x152 32) (t : FVec Ideal S48x1024 .f32) (r : Fin 256) (v : Fin 1024) : EReal :=
  ∑ k : Fin 48, (∑ l : Fin 152, ind (x (ix2 r l)) k.val) * t (ix2 k v)

/-- The embeddings of a block against a table. -/
def embT (x : IVec S256x152 32) (t : FVec Ideal S48x1024 .f32) : FVec Ideal S256x1024 .f32 :=
  matmul dot_S256x48_S48x1024_S256x1024_1_0_0_1_n_n (some .fp32) (cntT x 152 (Nat.le_refl _))
    (shapeCast S48x1024 t shapeCasts_S48x1024_S48x1024) (constant S256x1024 .f32 0x00000000#32)

/-- The embeddings of a block, index by index. -/
theorem embT_apply (x : IVec S256x152 32) (t : FVec Ideal S48x1024 .f32) (r : Fin 256) (v : Fin 1024) :
    embT x t (ix2 r v) = emb x t r v := by
  unfold emb embT
  have hc := fun k : Fin 48 => cntT_apply x r k 152 (Nat.le_refl _)
  generalize cntT x 152 (Nat.le_refl _) = q at hc ⊢
  pointwise
  exact Finset.sum_congr rfl fun k _ => by rw [hc]

variable (x0 : Vec Ideal S256x152 .i32) (x1 x2 : Vec Ideal S48x1024 .f32) (x3 : Vec Ideal S2048x1 .f32) (x4 : Vec Ideal S1x1 .f32)
    (x5 x6 : Vec Ideal S256x1024 .f32)

/-- The kernel's feature embeddings. -/
theorem pay50_eq : k0_pay50 x0 x1 x2 x3 x4 x5 x6 = embT x0 x1 := by
  show matmul dot_S256x48_S48x1024_S256x1024_1_0_0_1_n_n (some .fp32) (k0_pay49 x0 x1 x2 x3 x4 x5 x6)
    (shapeCast S48x1024 (View.ld x1 r0_1) shapeCasts_S48x1024_S48x1024) (constant S256x1024 .f32 0x00000000#32) = _
  rw [pay49_eq, pay2_eq, View.ld_unit_lit _ _ (by decide)]
  rfl

/-- The kernel's action embeddings. -/
theorem pay39_eq : k0_pay39 (k0_pay49 x0 x1 x2 x3 x4 x5 x6) (View.ld x2 r0_1) = embT x0 x2 := by
  rw [pay49_eq, pay2_eq, View.ld_unit_lit _ _ (by decide)]
  rfl

/-- A message: one where the uniform number lies below the probability, zero elsewhere. -/
def msg (u p : EReal) : EReal := if u < p then 1 else 0

/-- A message as the kernel computes it. -/
theorem msg_apply (u p : EReal) :
    (FloatOps.sitofp FTy.f32 (BitVec.setWidth 32 (BitVec.ofBool (decide (u < p)))) : Ideal .f32) = msg u p := by
  show ((((BitVec.setWidth 32 (BitVec.ofBool (decide (u < p)))).toInt : ℝ)) : EReal) = _
  unfold msg
  by_cases h : u < p
  · rw [if_pos h, decide_eq_true h]; simp
  · rw [if_neg h, decide_eq_false h]; simp

/-- The feature probabilities of a block. -/
theorem out9_apply (r : Fin 256) (v : Fin 1024) : out0_9 x0 x1 x2 x3 x4 x5 x6 (ix2 r v) = Ideal.logistic (emb x0 x1 r v) := by
  unfold out0_9
  rw [View.canon_cons_unit_lit _ _ _ (by decide), pay50_eq, ← embT_apply]
  rfl

/-- The action probabilities of a block. -/
theorem out10_apply (r : Fin 256) (v : Fin 1024) : out0_10 x0 x1 x2 x3 x4 x5 x6 (ix2 r v) = Ideal.logistic (emb x0 x2 r v) := by
  unfold out0_10 k0_pay41
  rw [View.canon_cons_unit_lit _ _ _ (by decide), pay39_eq, ← embT_apply]
  rfl

/-- The feature messages of a block. -/
theorem out7_apply (r : Fin 256) (v : Fin 1024) :
    out0_7 x0 x1 x2 x3 x4 x5 x6 (ix2 r v) = msg (x5 (ix2 r v)) (Ideal.logistic (emb x0 x1 r v)) := by
  unfold out0_7 k0_pay42 k0_pay40
  rw [View.canon_cons_unit_lit _ _ _ (by decide), pay50_eq, ← embT_apply]
  generalize embT x0 x1 = q
  pointwise
  exact msg_apply _ _

/-- The action messages of a block. -/
theorem out8_apply (r : Fin 256) (v : Fin 1024) :
    out0_8 x0 x1 x2 x3 x4 x5 x6 (ix2 r v) = msg (x6 (ix2 r v)) (Ideal.logistic (emb x0 x2 r v)) := by
  unfold out0_8 k0_pay43 k0_pay41
  rw [View.canon_cons_unit_lit _ _ _ (by decide), pay39_eq, ← embT_apply]
  generalize embT x0 x2 = q
  pointwise
  exact msg_apply _ _

/-- The values of a block. -/
theorem out11_apply (r : Fin 256) :
    out0_11 x0 x1 x2 x3 x4 x5 x6 (ix2 r 0) = (∑ v : Fin 1024, emb x0 x1 r v * x3 (ix2 (v.castLE (by decide)) 0))
      + (∑ v : Fin 1024, emb x0 x2 r v * x3 (ix2 (v.natAdd 1024) 0)) + x4 (ix2 0 0) := by
  unfold out0_11
  simp only [← embT_apply]
  rw [View.canon_cons_unit_lit _ _ _ (by decide), pay50_eq, pay39_eq]
  unfold k0_pay1 k0_pay44
  generalize embT x0 x1 = q
  generalize embT x0 x2 = q'
  pointwise
  rfl

end Cert.Proof.Block
-- ==== Proof.Arrays.lean ====
/- The arrays the kernel ends with, as functions of the arrays its region reads: every row of the result belongs to the one
   grid point whose block holds it. -/
module

public import proofs.«01_k».proof.Proof.Block
public import proofs.«01_k».proof.Proof.Gen.KernelIdeal.Value

@[expose] public section

set_option maxRecDepth 16384

noncomputable section

namespace Cert.Proof.Arrays

open Cert.KernelIdeal Cert.KernelIdeal.Gen Cert.KernelIdeal.Value Idealize.ShloMosaic Idealize.ShloMosaic.TcCoe Idealize.SL.Sem
open Cert.Proof.Block (ind emb msg)

/-- A row's embedding against a table. -/
def embG (X : IVec S16384x152 32) (T : FVec Ideal S48x1024 .f32) (b : Fin 16384) (v : Fin 1024) : EReal :=
  ∑ k : Fin 48, (∑ l : Fin 152, ind (X (ix2 b l)) k.val) * T (ix2 k v)

/-- The probabilities. -/
def probG (X : IVec S16384x152 32) (T : FVec Ideal S48x1024 .f32) : FVec Ideal S16384x1024 .f32 :=
  fun i => Ideal.logistic (embG X T (i 0) (i 1))

/-- The messages. -/
def msgG (X : IVec S16384x152 32) (T : FVec Ideal S48x1024 .f32) (U : FVec Ideal S16384x1024 .f32) : FVec Ideal S16384x1024 .f32 :=
  fun i => msg (U i) (Ideal.logistic (embG X T (i 0) (i 1)))

/-- The values. -/
def valG (X : IVec S16384x152 32) (T T' : FVec Ideal S48x1024 .f32) (W : FVec Ideal S2048x1 .f32) (b : FVec Ideal S1x1 .f32) :
    FVec Ideal S16384x1 .f32 :=
  fun i => (∑ v : Fin 1024, embG X T (i 0) v * W (ix2 (v.castLE (by decide)) 0))
    + (∑ v : Fin 1024, embG X T' (i 0) v * W (ix2 (v.natAdd 1024) 0)) + b (ix2 0 0)

variable (m : (ℓ : Loc nD τ sig) → Buf (Elt Ideal) ℓ) (ρ : Dev nD → PrngReg)

/-- A point's number is below 64. -/
theorem lt_N (t : Fin cfg0.N) : t.val < 64 := (show cfg0.N = 64 from N_0) ▸ t.isLt

/-- The array's row of a block's row. -/
def row (t : Fin cfg0.N) (r : Fin 256) : Fin 16384 := ⟨t.val * 256 + r.val, by have := lt_N t; omega⟩

/-- An index whose coordinates are those of a block of rows. -/
theorem ix_row {n : ℕ} (j : (⟨2, ![16384, n]⟩ : Shape).Idx) (t : Fin cfg0.N) (r : Fin 256) (v : Fin n) (p : Fin 2 → ℕ)
    (e : p 0 = t.val ∧ p 1 = 0) (h0 : (j 0).val = p 0 * 256 + 1 * r.val) (h1 : (j 1).val = p 1 * n + 1 * v.val) : j = ix2 (row t r) v := by
  obtain ⟨e0, e1⟩ := e
  funext a; apply Fin.ext
  match a with
  | ⟨0, _⟩ => show (j 0).val = t.val * 256 + r.val; rw [h0, e0]; omega
  | ⟨1, _⟩ => show (j 1).val = v.val; rw [h1, e1]; omega

/-- An index whose coordinates are those of the one whole block. -/
theorem ix_whole {k n : ℕ} (j i : (⟨2, ![k, n]⟩ : Shape).Idx) (p : Fin 2 → ℕ) (e : p 0 = 0 ∧ p 1 = 0)
    (h0 : (j 0).val = p 0 * k + 1 * (i 0).val) (h1 : (j 1).val = p 1 * n + 1 * (i 1).val) : j = i := by
  obtain ⟨e0, e1⟩ := e
  funext a; apply Fin.ext
  match a with
  | ⟨0, _⟩ => show (j 0).val = (i 0).val; rw [h0, e0]; omega
  | ⟨1, _⟩ => show (j 1).val = (i 1).val; rw [h1, e1]; omega

/-! Where each window's block lies: row block `t`, or the whole array. -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)

/-! Where an element of a block lies in its array. -/

theorem emb0 (t : Fin cfg0.N) (r : Fin 256) (v : Fin 152) : ((cfg0.win 0).blk t).view.emb (ix2 r v) = ix2 (row t r) v :=
  ix_row _ t r v (win0_0.index t) (idx0 t) rfl rfl
theorem emb1 (t : Fin cfg0.N) (j : S48x1024.Idx) : ((cfg0.win 1).blk t).view.emb j = j :=
  ix_whole _ j (win0_1.index t) (idx1 t) rfl rfl
theorem emb2 (t : Fin cfg0.N) (j : S48x1024.Idx) : ((cfg0.win 2).blk t).view.emb j = j :=
  ix_whole _ j (win0_2.index t) (idx2 t) rfl rfl
theorem emb3 (t : Fin cfg0.N) (j : S2048x1.Idx) : ((cfg0.win 3).blk t).view.emb j = j :=
  ix_whole _ j (win0_3.index t) (idx3 t) rfl rfl
theorem emb4 (t : Fin cfg0.N) (j : S1x1.Idx) : ((cfg0.win 4).blk t).view.emb j = j :=
  ix_whole _ j (win0_4.index t) (idx4 t) rfl rfl
theorem emb5 (t : Fin cfg0.N) (r : Fin 256) (v : Fin 1024) : ((cfg0.win 5).blk t).view.emb (ix2 r v) = ix2 (row t r) v :=
  ix_row _ t r v (win0_5.index t) (idx5 t) rfl rfl
theorem emb6 (t : Fin cfg0.N) (r : Fin 256) (v : Fin 1024) : ((cfg0.win 6).blk t).view.emb (ix2 r v) = ix2 (row t r) v :=
  ix_row _ t r v (win0_6.index t) (idx6 t) rfl rfl
theorem emb7 (t : Fin cfg0.N) (r : Fin 256) (v : Fin 1024) : ((cfg0.win 7).blk t).view.emb (ix2 r v) = ix2 (row t r) v :=
  ix_row _ t r v (win0_7.index t) (idx7 t) rfl rfl
theorem emb8 (t : Fin cfg0.N) (r : Fin 256) (v : Fin 1024) : ((cfg0.win 8).blk t).view.emb (ix2 r v) = ix2 (row t r) v :=
  ix_row _ t r v (win0_8.index t) (idx8 t) rfl rfl
theorem emb9 (t : Fin cfg0.N) (r : Fin 256) (v : Fin 1024) : ((cfg0.win 9).blk t).view.emb (ix2 r v) = ix2 (row t r) v :=
  ix_row _ t r v (win0_9.index t) (idx9 t) rfl rfl
theorem emb10 (t : Fin cfg0.N) (r : Fin 256) (v : Fin 1024) : ((cfg0.win 10).blk t).view.emb (ix2 r v) = ix2 (row t r) v :=
  ix_row _ t r v (win0_10.index t) (idx10 t) rfl rfl
theorem emb11 (t : Fin cfg0.N) (r : Fin 256) (v : Fin 1) : ((cfg0.win 11).blk t).view.emb (ix2 r v) = ix2 (row t r) v :=
  ix_row _ t r v (win0_11.index t) (idx11 t) rfl rfl

/-! The arrays the region reads. -/

/-- The indices. -/
@[irreducible] def X (c : Dev nD) : IVec S16384x152 32 := V m c main_v17
/-- The table of the features. -/
@[irreducible] def TF (c : Dev nD) : FVec Ideal S48x1024 .f32 := V m c main_v46
/-- The table of the actions. -/
@[irreducible] def TA (c : Dev nD) : FVec Ideal S48x1024 .f32 := V m c main_v49
/-- The weights of the value. -/
@[irreducible] def W (c : Dev nD) : FVec Ideal S2048x1 .f32 := V m c main_arg6
/-- The bias of the value. -/
@[irreducible] def B (c : Dev nD) : FVec Ideal S1x1 .f32 := V m c main_v61
/-- The uniform numbers of the features. -/
@[irreducible] def UF (c : Dev nD) : FVec Ideal S16384x1024 .f32 := V m c main_v58
/-- The uniform numbers of the actions. -/
@[irreducible] def UA (c : Dev nD) : FVec Ideal S16384x1024 .f32 := V m c main_v60

/-! A block of an array, at an index. -/

theorem read0 (A : IVec S16384x152 32) (t : Fin cfg0.N) (r : Fin 256) (v : Fin 152) : ((cfg0.win 0).blk t).view.read (Elt Ideal) A (ix2 r v) = A (ix2 (row t r) v) :=
  congrArg A (emb0 t r v)
theorem read1 (A : FVec Ideal S48x1024 .f32) (t : Fin cfg0.N) : ((cfg0.win 1).blk t).view.read (Elt Ideal) A = A :=
  funext fun j => congrArg A (emb1 t j)
theorem read2 (A : FVec Ideal S48x1024 .f32) (t : Fin cfg0.N) : ((cfg0.win 2).blk t).view.read (Elt Ideal) A = A :=
  funext fun j => congrArg A (emb2 t j)
theorem read3 (A : FVec Ideal S2048x1 .f32) (t : Fin cfg0.N) : ((cfg0.win 3).blk t).view.read (Elt Ideal) A = A :=
  funext fun j => congrArg A (emb3 t j)
theorem read4 (A : FVec Ideal S1x1 .f32) (t : Fin cfg0.N) : ((cfg0.win 4).blk t).view.read (Elt Ideal) A = A :=
  funext fun j => congrArg A (emb4 t j)
theorem read5 (A : FVec Ideal S16384x1024 .f32) (t : Fin cfg0.N) (r : Fin 256) (v : Fin 1024) : ((cfg0.win 5).blk t).view.read (Elt Ideal) A (ix2 r v) = A (ix2 (row t r) v) :=
  congrArg A (emb5 t r v)
theorem read6 (A : FVec Ideal S16384x1024 .f32) (t : Fin cfg0.N) (r : Fin 256) (v : Fin 1024) : ((cfg0.win 6).blk t).view.read (Elt Ideal) A (ix2 r v) = A (ix2 (row t r) v) :=
  congrArg A (emb6 t r v)

/-! What the body reads at a point. -/

theorem iblk0 (c : Dev nD) (t : Fin cfg0.N) (r : Fin 256) (v : Fin 152) : iblk m c 0 t (ix2 r v) = X m c (ix2 (row t r) v) := by
  unfold iblk X; exact read0 _ t r v
theorem iblk1 (c : Dev nD) (t : Fin cfg0.N) : iblk m c 1 t = TF m c := by
  unfold iblk TF; exact read1 _ t
theorem iblk2 (c : Dev nD) (t : Fin cfg0.N) : iblk m c 2 t = TA m c := by
  unfold iblk TA; exact read2 _ t
theorem iblk3 (c : Dev nD) (t : Fin cfg0.N) : iblk m c 3 t = W m c := by
  unfold iblk W; exact read3 _ t
theorem iblk4 (c : Dev nD) (t : Fin cfg0.N) : iblk m c 4 t = B m c := by
  unfold iblk B; exact read4 _ t
theorem iblk5 (c : Dev nD) (t : Fin cfg0.N) (r : Fin 256) (v : Fin 1024) : iblk m c 5 t (ix2 r v) = UF m c (ix2 (row t r) v) := by
  unfold iblk UF; exact read5 _ t r v
theorem iblk6 (c : Dev nD) (t : Fin cfg0.N) (r : Fin 256) (v : Fin 1024) : iblk m c 6 t (ix2 r v) = UA m c (ix2 (row t r) v) := by
  unfold iblk UA; exact read6 _ t r v

/-- A block's embeddings are the array's. -/
theorem emb_block (c : Dev nD) (t : Fin cfg0.N) (T : FVec Ideal S48x1024 .f32) (r : Fin 256) (v : Fin 1024) :
    emb (iblk m c 0 t) T r v = embG (X m c) T (row t r) v := by
  unfold emb embG
  simp only [iblk0]

/-- Every row lies in a block. -/
theorem row_surj (b : Fin 16384) : ∃ (t : Fin cfg0.N) (r : Fin 256), row t r = b :=
  ⟨⟨b.val / 256, by rw [show cfg0.N = 64 from N_0]; omega⟩, ⟨b.val % 256, by omega⟩, Fin.ext (by show b.val / 256 * 256 + b.val % 256 = b.val; omega)⟩

/-- The array of the feature messages. -/
theorem final7 (c : Dev nD) : (dats m 0 c).arrAt 7 cfg0.N = msgG (X m c) (TF m c) (UF m c) := by
  refine (dats m 0 c).arrAt_eq_of_cover 7 _ (fun t _ => ?_) fun (i : S16384x1024.Idx) => ?_
  · rw [flushed7]
    funext j
    show out0_7 (iblk m c 0 t) (iblk m c 1 t) (iblk m c 2 t) (iblk m c 3 t) (iblk m c 4 t) (iblk m c 5 t) (iblk m c 6 t) j = (msgG (X m c) (TF m c) (UF m c)) (((cfg0.win 7).blk t).view.emb j)
    obtain ⟨r, v, rfl⟩ : ∃ (r : Fin 256) (v : Fin 1024), j = ix2 r v := ⟨j 0, j 1, eq_ix2 j⟩
    rw [emb7, Cert.Proof.Block.out7_apply]
    simp only [emb_block, iblk1, iblk5]
    rfl
  · obtain ⟨t, r, h⟩ := row_surj (i 0)
    refine ⟨t, flush0_7 t, ?_⟩
    have e : ((cfg0.win 7).blk t).view.emb (ix2 r (i 1)) = i := (emb7 t r (i 1)).trans (by rw [h]; exact (eq_ix2 i).symm)
    have hm := ((cfg0.win 7).blk t).view.emb_mem_set (ix2 r (i 1))
    rwa [e] at hm

/-- The array of the action messages. -/
theorem final8 (c : Dev nD) : (dats m 0 c).arrAt 8 cfg0.N = msgG (X m c) (TA m c) (UA m c) := by
  refine (dats m 0 c).arrAt_eq_of_cover 8 _ (fun t _ => ?_) fun (i : S16384x1024.Idx) => ?_
  · rw [flushed8]
    funext j
    show out0_8 (iblk m c 0 t) (iblk m c 1 t) (iblk m c 2 t) (iblk m c 3 t) (iblk m c 4 t) (iblk m c 5 t) (iblk m c 6 t) j = (msgG (X m c) (TA m c) (UA m c)) (((cfg0.win 8).blk t).view.emb j)
    obtain ⟨r, v, rfl⟩ : ∃ (r : Fin 256) (v : Fin 1024), j = ix2 r v := ⟨j 0, j 1, eq_ix2 j⟩
    rw [emb8, Cert.Proof.Block.out8_apply]
    simp only [emb_block, iblk2, iblk6]
    rfl
  · obtain ⟨t, r, h⟩ := row_surj (i 0)
    refine ⟨t, flush0_8 t, ?_⟩
    have e : ((cfg0.win 8).blk t).view.emb (ix2 r (i 1)) = i := (emb8 t r (i 1)).trans (by rw [h]; exact (eq_ix2 i).symm)
    have hm := ((cfg0.win 8).blk t).view.emb_mem_set (ix2 r (i 1))
    rwa [e] at hm

/-- The array of the feature probabilities. -/
theorem final9 (c : Dev nD) : (dats m 0 c).arrAt 9 cfg0.N = probG (X m c) (TF m c) := by
  refine (dats m 0 c).arrAt_eq_of_cover 9 _ (fun t _ => ?_) fun (i : S16384x1024.Idx) => ?_
  · rw [flushed9]
    funext j
    show out0_9 (iblk m c 0 t) (iblk m c 1 t) (iblk m c 2 t) (iblk m c 3 t) (iblk m c 4 t) (iblk m c 5 t) (iblk m c 6 t) j = (probG (X m c) (TF m c)) (((cfg0.win 9).blk t).view.emb j)
    obtain ⟨r, v, rfl⟩ : ∃ (r : Fin 256) (v : Fin 1024), j = ix2 r v := ⟨j 0, j 1, eq_ix2 j⟩
    rw [emb9, Cert.Proof.Block.out9_apply]
    simp only [emb_block, iblk1]
    rfl
  · obtain ⟨t, r, h⟩ := row_surj (i 0)
    refine ⟨t, flush0_9 t, ?_⟩
    have e : ((cfg0.win 9).blk t).view.emb (ix2 r (i 1)) = i := (emb9 t r (i 1)).trans (by rw [h]; exact (eq_ix2 i).symm)
    have hm := ((cfg0.win 9).blk t).view.emb_mem_set (ix2 r (i 1))
    rwa [e] at hm

/-- The array of the action probabilities. -/
theorem final10 (c : Dev nD) : (dats m 0 c).arrAt 10 cfg0.N = probG (X m c) (TA m c) := by
  refine (dats m 0 c).arrAt_eq_of_cover 10 _ (fun t _ => ?_) fun (i : S16384x1024.Idx) => ?_
  · rw [flushed10]
    funext j
    show out0_10 (iblk m c 0 t) (iblk m c 1 t) (iblk m c 2 t) (iblk m c 3 t) (iblk m c 4 t) (iblk m c 5 t) (iblk m c 6 t) j = (probG (X m c) (TA m c)) (((cfg0.win 10).blk t).view.emb j)
    obtain ⟨r, v, rfl⟩ : ∃ (r : Fin 256) (v : Fin 1024), j = ix2 r v := ⟨j 0, j 1, eq_ix2 j⟩
    rw [emb10, Cert.Proof.Block.out10_apply]
    simp only [emb_block, iblk2]
    rfl
  · obtain ⟨t, r, h⟩ := row_surj (i 0)
    refine ⟨t, flush0_10 t, ?_⟩
    have e : ((cfg0.win 10).blk t).view.emb (ix2 r (i 1)) = i := (emb10 t r (i 1)).trans (by rw [h]; exact (eq_ix2 i).symm)
    have hm := ((cfg0.win 10).blk t).view.emb_mem_set (ix2 r (i 1))
    rwa [e] at hm

/-- The array of the values. -/
theorem final11 (c : Dev nD) : (dats m 0 c).arrAt 11 cfg0.N = valG (X m c) (TF m c) (TA m c) (W m c) (B m c) := by
  refine (dats m 0 c).arrAt_eq_of_cover 11 _ (fun t _ => ?_) fun (i : S16384x1.Idx) => ?_
  · rw [flushed11]
    funext j
    show out0_11 (iblk m c 0 t) (iblk m c 1 t) (iblk m c 2 t) (iblk m c 3 t) (iblk m c 4 t) (iblk m c 5 t) (iblk m c 6 t) j = (valG (X m c) (TF m c) (TA m c) (W m c) (B m c)) (((cfg0.win 11).blk t).view.emb j)
    obtain ⟨r, v, rfl⟩ : ∃ (r : Fin 256) (v : Fin 1), j = ix2 r v := ⟨j 0, j 1, eq_ix2 j⟩
    rw [emb11, show v = 0 from Subsingleton.elim _ _, Cert.Proof.Block.out11_apply]
    simp only [emb_block, iblk1, iblk2, iblk3, iblk4]
    rfl
  · obtain ⟨t, r, h⟩ := row_surj (i 0)
    refine ⟨t, flush0_11 t, ?_⟩
    have e : ((cfg0.win 11).blk t).view.emb (ix2 r (i 1)) = i := (emb11 t r (i 1)).trans (by rw [h]; exact (eq_ix2 i).symm)
    have hm := ((cfg0.win 11).blk t).view.emb_mem_set (ix2 r (i 1))
    rwa [e] at hm

end Cert.Proof.Arrays
-- ==== Proof.RefLines.lean ====
/- The reference program as a straight line of operations: every function it calls, and then its own text, is read into the
   list of its operations, once per function and whatever buffers the call runs on. -/
module

public import proofs.«01_k».proof.Proof.Gen.ReferenceIdeal
public import Idealize.ShloMosaic.Lib.StableHlo.RunHlo

@[expose] public section

set_option maxRecDepth 8000

noncomputable section

namespace Cert.Proof.Ref

open Cert.ReferenceIdeal Idealize.ShloMosaic Idealize.ShloMosaic.TcCoe Idealize.ShloMosaic.StableHlo Idealize.SL.Sem

variable {F : FTy → Type} [FloatOps F]

/-- The type of the reference's programs. -/
abbrev P (F : FTy → Type) [FloatOps F] : Type 1 :=
  Prog (TpuEff nD τ sig (Elt F) (Pipeline.Sig Λ₀ (Fin 0) fun p => (pcfgs (F := F) p).Adm) .tc) PUnit

/-- An operation that stays on the TensorCore's buffers and whose results are determined. -/
class Tame (op : HloOp τ sig (Elt F)) : Prop where
  sub : op.bufs ⊆ tcRefs τ sig
  fresh : op.fresh = ∅

/-- A program that runs the operations of a list one after the other, all of them tame. -/
structure Line (p : P F) (ops : List (HloOp τ sig (Elt F))) : Prop where
  seq : p = seq ops
  tame : ∀ op ∈ ops, Tame op

/-- The empty program runs no operation. -/
theorem Line.nil : Line (pure ⟨⟩ : P F) [] := ⟨rfl, by simp⟩

/-- One more operation in front. -/
theorem Line.cons {op : HloOp τ sig (Elt F)} {k : P F} {ops : List (HloOp τ sig (Elt F))} [ht : Tame op] (h : Line k ops) :
    Line ((hlo rfl op fun _ => .ret (⟨⟩ : PUnit)) >>= fun _ => k) (op :: ops) :=
  ⟨IsSeq.cons h.seq, by
    intro o ho
    rcases List.mem_cons.1 ho with rfl | ho
    · exact ht
    · exact h.tame o ho⟩

/-- One more call in front: its operations go before the rest's. -/
theorem Line.call {p k : P F} {l l' : List (HloOp τ sig (Elt F))} (hp : Line p l) (h : Line k l') :
    Line (p >>= fun _ => k) (l ++ l') :=
  ⟨by rw [hp.seq, h.seq, seq_append], by
    intro o ho
    rcases List.mem_append.1 ho with ho | ho
    · exact hp.tame o ho
    · exact h.tame o ho⟩

/-- The list of a program, with the proof that the program runs it. -/
abbrev LineOf (p : P F) : Type _ := { ops : List (HloOp τ sig (Elt F)) // Line p ops }

/-! Each kind of operation is tame. -/

instance {y : Ref sig .tc} (v : y.ty.Contents (Elt F)) (hy) : Tame (nullary (τ := τ) y v hy) := ⟨nullary_bufs_sub .., rfl⟩
instance {x y : Ref sig .tc} (f : x.ty.Contents (Elt F) → y.ty.Contents (Elt F)) (hx hy) :
    Tame (unary (τ := τ) x y f hx hy) := ⟨unary_bufs_sub .., rfl⟩
instance {a b y : Ref sig .tc} (f : a.ty.Contents (Elt F) → b.ty.Contents (Elt F) → y.ty.Contents (Elt F)) (ha hb hy) :
    Tame (binary (τ := τ) a b y f ha hb hy) := ⟨binary_bufs_sub .., rfl⟩
instance {c a b y : Ref sig .tc}
    (f : c.ty.Contents (Elt F) → a.ty.Contents (Elt F) → b.ty.Contents (Elt F) → y.ty.Contents (Elt F)) (hc ha hb hy) :
    Tame (ternary (τ := τ) c a b y f hc ha hb hy) := ⟨ternary_bufs_sub .., rfl⟩
instance {x y : Ref sig .tc} (he hn hx hy) : Tame (F := F) (reshape (τ := τ) x y he hn hx hy) := ⟨reshape_bufs_sub .., rfl⟩
instance {Y : BufTy} (y : TRef sig Y) (v : Y.Contents (Elt F)) : Tame (TRef.nullary (τ := τ) y v) := ⟨nullary_bufs_sub .., rfl⟩
instance {X Y : BufTy} (x : TRef sig X) (y : TRef sig Y) (f : X.Contents (Elt F) → Y.Contents (Elt F)) :
    Tame (TRef.unary (τ := τ) x y f) := ⟨unary_bufs_sub .., rfl⟩
instance {A B Y : BufTy} (a : TRef sig A) (b : TRef sig B) (y : TRef sig Y)
    (f : A.Contents (Elt F) → B.Contents (Elt F) → Y.Contents (Elt F)) : Tame (TRef.binary (τ := τ) a b y f) := ⟨binary_bufs_sub .., rfl⟩
instance {C A B Y : BufTy} (c : TRef sig C) (a : TRef sig A) (b : TRef sig B) (y : TRef sig Y)
    (f : C.Contents (Elt F) → A.Contents (Elt F) → B.Contents (Elt F) → Y.Contents (Elt F)) :
    Tame (TRef.ternary (τ := τ) c a b y f) := ⟨ternary_bufs_sub .., rfl⟩
instance {X Y : BufTy} (x : TRef sig X) (y : TRef sig Y) (he hn) :
    Tame (F := F) (TRef.reshape (τ := τ) x y he hn) := ⟨reshape_bufs_sub .., rfl⟩

/-! The functions, in the order of the program text. -/

/-- The wrap of a negative feature token. -/
def whereLine (a b c) (φ) : LineOf (F := F) (fn_where.body a b c φ) := by
  apply Subtype.mk; repeat (first | exact Line.nil | apply Line.cons)

/-- The lookup of the feature tokens. -/
def takeLine (a b) (φ) : LineOf (F := F) (fn_take.body a b φ) := by
  apply Subtype.mk; repeat (first | exact Line.nil | apply Line.cons | apply Line.call (whereLine ..).2)

/-- The wrap of a negative action. -/
def whereLine1 (a b c) (φ) : LineOf (F := F) (fn_where_1.body a b c φ) := by
  apply Subtype.mk; repeat (first | exact Line.nil | apply Line.cons)

/-- The lookup of the actions. -/
def takeLine0 (a b) (φ) : LineOf (F := F) (fn_take_0.body a b φ) := by
  apply Subtype.mk; repeat (first | exact Line.nil | apply Line.cons | apply Line.call (whereLine1 ..).2)

/-- The first part of the small generator. -/
def smallLine0 (a b c d) (φ) : LineOf (F := F) (fn_threefry2x32.body_part0 a b c d φ) := by
  apply Subtype.mk; repeat (first | exact Line.nil | apply Line.cons)

/-- The second part of the small generator. -/
def smallLine1 (a b c d) (φ) : LineOf (F := F) (fn_threefry2x32.body_part1 a b c d φ) := by
  apply Subtype.mk; repeat (first | exact Line.nil | apply Line.cons)

/-- The third part of the small generator. -/
def smallLine2 (a b c d) (φ) : LineOf (F := F) (fn_threefry2x32.body_part2 a b c d φ) := by
  apply Subtype.mk; repeat (first | exact Line.nil | apply Line.cons)

/-- The fourth part of the small generator. -/
def smallLine3 (a b c d) (φ) : LineOf (F := F) (fn_threefry2x32.body_part3 a b c d φ) := by
  apply Subtype.mk; repeat (first | exact Line.nil | apply Line.cons)

/-- The small generator. -/
def smallLine (a b c d) (φ) : LineOf (F := F) (fn_threefry2x32.body a b c d φ) :=
  ⟨_, Line.call (smallLine0 a b c d φ).2 (Line.call (smallLine1 a b c d φ).2 (Line.call (smallLine2 a b c d φ).2 (smallLine3 a b c d φ).2))⟩

/-- The key of a stream. -/
def foldLine (a b) (φ) : LineOf (F := F) (fn_threefry_fold_in.body a b φ) := by
  apply Subtype.mk; repeat (first | exact Line.nil | apply Line.cons | apply Line.call (smallLine ..).2)

/-- The first part of the large generator. -/
def largeLine0 (a b c d) (φ) : LineOf (F := F) (fn_threefry2x32_2.body_part0 a b c d φ) := by
  apply Subtype.mk; repeat (first | exact Line.nil | apply Line.cons)

/-- The second part of the large generator. -/
def largeLine1 (a b c d) (φ) : LineOf (F := F) (fn_threefry2x32_2.body_part1 a b c d φ) := by
  apply Subtype.mk; repeat (first | exact Line.nil | apply Line.cons)

/-- The third part of the large generator. -/
def largeLine2 (a b c d) (φ) : LineOf (F := F) (fn_threefry2x32_2.body_part2 a b c d φ) := by
  apply Subtype.mk; repeat (first | exact Line.nil | apply Line.cons)

/-- The fourth part of the large generator. -/
def largeLine3 (a b c d) (φ) : LineOf (F := F) (fn_threefry2x32_2.body_part3 a b c d φ) := by
  apply Subtype.mk; repeat (first | exact Line.nil | apply Line.cons)

/-- The large generator. -/
def largeLine (a b c d) (φ) : LineOf (F := F) (fn_threefry2x32_2.body a b c d φ) :=
  ⟨_, Line.call (largeLine0 a b c d φ).2 (Line.call (largeLine1 a b c d φ).2 (Line.call (largeLine2 a b c d φ).2 (largeLine3 a b c d φ).2))⟩

/-- The uniform draws. -/
def uniformLine (a b c) (φ) : LineOf (F := F) (fn_uniform.body a b c φ) := by
  apply Subtype.mk; repeat (first | exact Line.nil | apply Line.cons | apply Line.call (largeLine ..).2)

/-- The draws below a probability. -/
def bernoulliLine (a b) (φ) : LineOf (F := F) (fn_bernoulli.body a b φ) := by
  apply Subtype.mk; repeat (first | exact Line.nil | apply Line.cons | apply Line.call (uniformLine ..).2)

/-- The first part of the reference. -/
def mainLine0 (c : Dev nD) : LineOf (F := F) (main_part0 c) := by
  apply Subtype.mk; repeat (first | exact Line.nil | apply Line.cons | apply Line.call (takeLine ..).2)

/-- The second part of the reference. -/
def mainLine1 (c : Dev nD) : LineOf (F := F) (main_part1 c) := by
  apply Subtype.mk; repeat (first | exact Line.nil | apply Line.cons | apply Line.call (takeLine0 ..).2 | apply Line.call (foldLine ..).2 | apply Line.call (bernoulliLine ..).2)

/-- The third part of the reference. -/
def mainLine2 (c : Dev nD) : LineOf (F := F) (main_part2 c) := by
  apply Subtype.mk; repeat (first | exact Line.nil | apply Line.cons | apply Line.call (foldLine ..).2 | apply Line.call (bernoulliLine ..).2)

/-- The reference. -/
theorem mainLine (c : Dev nD) : Line (main (F := F) c) ((mainLine0 c).1 ++ ((mainLine1 c).1 ++ (mainLine2 c).1)) :=
  Line.call (mainLine0 c).2 (Line.call (mainLine1 c).2 (mainLine2 c).2)

end Cert.Proof.Ref
-- ==== Proof.RefRead.lean ====
/- What the reference's buffers hold after its run: each result as one expression in its arguments. -/
module

public import proofs.«01_k».proof.Proof.RefLines
public import Idealize.ShloMosaic.Lib.StableHlo.RunRead
public import Idealize.ShloMosaic.PureOps.Ideal

@[expose] public section

set_option maxRecDepth 200000
set_option maxHeartbeats 4000000

noncomputable section

namespace Cert.Proof.Ref

open Cert.ReferenceIdeal Cert.ReferenceIdeal.Facts₀ Idealize.ShloMosaic Idealize.ShloMosaic.TcCoe Idealize.ShloMosaic.StableHlo Idealize.SL.Sem

/-- A negative feature token counts from the end of its table. -/
def wrapF (x : IVec S16384x50 32) : IVec S16384x50 32 :=
  select (cmpi .slt x (broadcastInDim S16384x50 ![] bcast_S_S16384x50 (constantI S_ 32 0#32)))
    (addi x (broadcastInDim S16384x50 ![] bcast_S_S16384x50 (constantI S_ 32 11#32))) x

/-- The wrapped feature tokens, a unit axis behind. -/
def idF (x : IVec S16384x50 32) : IVec S16384x50x1 32 := broadcastInDim S16384x50x1 ![0, 1] bcast_S16384x50_S16384x50x1_0_1 (wrapF x)

/-- Which feature tokens name a row of the table. -/
def okF (x : IVec S16384x50 32) : IVec S16384x50 1 :=
  Host.reduce IntOp.andi
    (andi (cmpi .sge (idF x) (broadcastInDim S16384x50x1 ![] bcast_S_S16384x50x1 (constantI S_ 32 0#32)))
      (cmpi .sle (idF x) (broadcastInDim S16384x50x1 ![0, 1, 2] bcast_S1x1x1_S16384x50x1_0_1_2
        (broadcastInDim S1x1x1 ![2] bcast_S1_S1x1x1_2 (constantI S1 32 10#32)))))
    (constantI S_ 1 1#1) reducesTo_S16384x50x1_S16384x50_d2 h_S_

/-- The rows of the feature tokens. -/
def takeF (tab : FVec Ideal S11x1024 .f32) (x : IVec S16384x50 32) : FVec Ideal S16384x50x1024 .f32 :=
  select (broadcastInDim S16384x50x1024 ![0, 1] bcast_S16384x50_S16384x50x1024_0_1 (okF x))
    (Host.gather gather_S11x1024_S16384x50x1_S16384x50x1024_2_0_n_n_0_2_11024 tab (idF x))
    (broadcastInDim S16384x50x1024 ![] bcast_S_S16384x50x1024 (constant (F := Ideal) S_ .f32 0x7FC00000#32))

/-- A negative action counts from the end of its table. -/
def wrapA (x : IVec S16384 32) : IVec S16384 32 :=
  select (cmpi .slt x (broadcastInDim S16384 ![] bcast_S_S16384 (constantI S_ 32 0#32)))
    (addi x (broadcastInDim S16384 ![] bcast_S_S16384 (constantI S_ 32 4#32))) x

/-- The wrapped actions, a unit axis behind. -/
def idA (x : IVec S16384 32) : IVec S16384x1 32 := broadcastInDim S16384x1 ![0] bcast_S16384_S16384x1_0 (wrapA x)

/-- Which actions name a row of the table. -/
def okA (x : IVec S16384 32) : IVec S16384 1 :=
  Host.reduce IntOp.andi
    (andi (cmpi .sge (idA x) (broadcastInDim S16384x1 ![] bcast_S_S16384x1 (constantI S_ 32 0#32)))
      (cmpi .sle (idA x) (broadcastInDim S16384x1 ![0, 1] bcast_S1x1_S16384x1_0_1
        (broadcastInDim S1x1 ![1] bcast_S1_S1x1_1 (constantI S1 32 3#32)))))
    (constantI S_ 1 1#1) reducesTo_S16384x1_S16384_d1 h_S_

/-- The rows of the actions. -/
def takeA (tab : FVec Ideal S4x1024 .f32) (x : IVec S16384 32) : FVec Ideal S16384x1024 .f32 :=
  select (broadcastInDim S16384x1024 ![0] bcast_S16384_S16384x1024_0 (okA x))
    (Host.gather gather_S4x1024_S16384x1_S16384x1024_1_0_n_n_0_1_11024 tab (idA x))
    (broadcastInDim S16384x1024 ![] bcast_S_S16384x1024 (constant (F := Ideal) S_ .f32 0x7FC00000#32))

/-- A step's gate, on every row. -/
def gateRow (g : FVec Ideal S1x1x1024 .f32) : FVec Ideal S16384x1024 .f32 :=
  broadcastInDim S16384x1024 ![0, 1] bcast_S1x1024_S16384x1024_0_1
    (Host.divf (broadcastInDim S1x1024 ![] bcast_S_S1x1024 (constant (F := Ideal) S_ .f32 0x3F800000#32))
      (addf (broadcastInDim S1x1024 ![] bcast_S_S1x1024 (constant (F := Ideal) S_ .f32 0x3F800000#32))
        (Host.exp (Host.negf (shapeCast S1x1024 g shapeCasts_S1x1x1024_S1x1024)))))

/-- The rows of one step's feature tokens summed and gated. -/
def stepF (tab : FVec Ideal S11x1024 .f32) (x : IVec S16384x1x50 32) (g : FVec Ideal S1x1x1024 .f32) : FVec Ideal S16384x1024 .f32 :=
  mulf (Host.reduceAdd (takeF tab (shapeCast S16384x50 x shapeCasts_S16384x1x50_S16384x50)) (constant (F := Ideal) S_ .f32 0x00000000#32)
    reducesTo_S16384x50x1024_S16384x1024_d1 h_S_) (gateRow g)

/-- The row of one step's action gated. -/
def stepA (tab : FVec Ideal S4x1024 .f32) (x : IVec S16384x1 32) (g : FVec Ideal S1x1x1024 .f32) : FVec Ideal S16384x1024 .f32 :=
  mulf (takeA tab (shapeCast S16384 x shapeCasts_S16384x1_S16384)) (gateRow g)

/-- An array of zeros. -/
def zeros : FVec Ideal S16384x1024 .f32 := broadcastInDim S16384x1024 ![] bcast_S_S16384x1024 (constant (F := Ideal) S_ .f32 0x00000000#32)

/-- The feature embeddings. -/
def featR (a0 : IVec S16384x3x50 32) (a2 : FVec Ideal S11x1024 .f32) (a3 : FVec Ideal S3x1x1024 .f32) : FVec Ideal S16384x1024 .f32 :=
  addf (addf (addf zeros
    (stepF a2 (extractStridedSlice S16384x1x50 ![0, 0, 0] a0 slices_S16384x3x50_S16384x1x50_0_0_0)
      (extractStridedSlice S1x1x1024 ![0, 0, 0] a3 slices_S3x1x1024_S1x1x1024_0_0_0)))
    (stepF a2 (extractStridedSlice S16384x1x50 ![0, 1, 0] a0 slices_S16384x3x50_S16384x1x50_0_1_0)
      (extractStridedSlice S1x1x1024 ![1, 0, 0] a3 slices_S3x1x1024_S1x1x1024_1_0_0)))
    (stepF a2 (extractStridedSlice S16384x1x50 ![0, 2, 0] a0 slices_S16384x3x50_S16384x1x50_0_2_0)
      (extractStridedSlice S1x1x1024 ![2, 0, 0] a3 slices_S3x1x1024_S1x1x1024_2_0_0))

/-- The action embeddings. -/
def actR (a1 : IVec S16384x2 32) (a4 : FVec Ideal S4x1024 .f32) (a5 : FVec Ideal S2x1x1024 .f32) : FVec Ideal S16384x1024 .f32 :=
  addf (addf zeros
    (stepA a4 (extractStridedSlice S16384x1 ![0, 0] a1 slices_S16384x2_S16384x1_0_0)
      (extractStridedSlice S1x1x1024 ![0, 0, 0] a5 slices_S2x1x1024_S1x1x1024_0_0_0)))
    (stepA a4 (extractStridedSlice S16384x1 ![0, 1] a1 slices_S16384x2_S16384x1_0_1)
      (extractStridedSlice S1x1x1024 ![1, 0, 0] a5 slices_S2x1x1024_S1x1x1024_1_0_0))

/-- The probability of an embedding. -/
def probR (x : FVec Ideal S16384x1024 .f32) : FVec Ideal S16384x1024 .f32 :=
  Host.divf (broadcastInDim S16384x1024 ![] bcast_S_S16384x1024 (constant (F := Ideal) S_ .f32 0x3F800000#32))
    (addf (broadcastInDim S16384x1024 ![] bcast_S_S16384x1024 (constant (F := Ideal) S_ .f32 0x3F800000#32)) (Host.exp (Host.negf x)))

/-- A message: one where the uniform number lies below the probability. -/
def msgR (u p : FVec Ideal S16384x1024 .f32) : FVec Ideal S16384x1024 .f32 := uitofp .f32 (cmpf .olt u p)

/-- The value head. -/
def valR (f a : FVec Ideal S16384x1024 .f32) (w : FVec Ideal S2048x1 .f32) (b : FVec Ideal S1 .f32) : FVec Ideal S16384x1 .f32 :=
  addf (Host.dotGeneral dot_S16384x2048_S2048x1_S16384x1_1_0_0_1_n_n none
      (concatenate S16384x2048 1 [⟨S16384x1024, f⟩, ⟨S16384x1024, a⟩] concatenates_S16384x1024_S16384x1024_S16384x2048_d1) w)
    (broadcastInDim S16384x1 ![0, 1] bcast_S1x1_S16384x1_0_1 (broadcastInDim S1x1 ![1] bcast_S1_S1x1_1 b))

/-- The reference's operations, all of them. -/
abbrev mainOps (c : Dev nD) : List (HloOp τ sig (Elt Ideal)) := (mainLine0 c).1 ++ ((mainLine1 c).1 ++ (mainLine2 c).1)

variable (c : Dev nD) (V : Valuation τ sig (Elt Ideal))

/-- Two lines of operations, one after the other. -/
theorem after_two {τ' : Topo} {sig' : RefSig} (l l' : List (HloOp τ' sig' (Elt Ideal))) (W : Valuation τ' sig' (Elt Ideal)) :
    after (l ++ l') W = after l' (after l W) := by
  induction l generalizing W with
  | nil => rfl
  | cons o l ih => exact ih _

/-- A line of operations, cut in two. -/
theorem after_cut {τ' : Topo} {sig' : RefSig} (n : ℕ) (ops : List (HloOp τ' sig' (Elt Ideal))) (W : Valuation τ' sig' (Elt Ideal)) :
    after ops W = after (ops.drop n) (after (ops.take n) W) := by
  rw [← after_two, List.take_append_drop]

attribute [local irreducible] Host.reduce Host.gather Host.reduceAdd concatenate

/-- The buffer of the feature embeddings. -/
theorem read_feat : after (mainOps c) V (Proc.devRef .tc main_v45)
    = featR (V (Proc.devRef .tc main_arg0)) (V (Proc.devRef .tc main_arg2)) (V (Proc.devRef .tc main_arg3)) := by
  after_reads_simp
  simp only [TRef.ofBuf_toBuf]
  rfl

/-- The buffer of the action embeddings. -/
theorem read_act : after (mainOps c) V (Proc.devRef .tc main_v74)
    = actR (V (Proc.devRef .tc main_arg1)) (V (Proc.devRef .tc main_arg4)) (V (Proc.devRef .tc main_arg5)) := by
  after_reads_simp
  simp only [TRef.ofBuf_toBuf]
  rfl

/-- The buffer of the feature probabilities. -/
theorem read_fprob : after (mainOps c) V (Proc.devRef .tc main_v80) = probR (after (mainOps c) V (Proc.devRef .tc main_v45)) := by
  rw [after_two, after_two, after_cut 74 (mainLine1 c).1]
  generalize after (List.take 74 _) (after _ V) = W
  after_reads_simp
  rfl

/-- The buffer of the action probabilities. -/
theorem read_aprob : after (mainOps c) V (Proc.devRef .tc main_v86) = probR (after (mainOps c) V (Proc.devRef .tc main_v74)) := by
  rw [after_two, after_two, after_cut 74 (mainLine1 c).1]
  generalize after (List.take 74 _) (after _ V) = W
  after_reads_simp
  rfl

/-- The buffer of the feature messages. -/
theorem read_fmsg : after (mainOps c) V (Proc.devRef .tc main_v96)
    = msgR (after (mainOps c) V (Proc.devRef .tc main_call6_v0)) (after (mainOps c) V (Proc.devRef .tc main_v80)) := by
  rw [after_two, after_two, after_cut 601 (mainLine1 c).1]
  generalize after (List.take 601 _) (after _ V) = W
  after_reads_simp
  rfl

/-- The buffer of the action messages. -/
theorem read_amsg : after (mainOps c) V (Proc.devRef .tc main_v99)
    = msgR (after (mainOps c) V (Proc.devRef .tc main_call8_v0)) (after (mainOps c) V (Proc.devRef .tc main_v86)) := by
  rw [after_two, after_two, after_cut 501 (mainLine2 c).1]
  generalize after (List.take 501 _) (after _ _) = W
  after_reads_simp
  rfl

/-- The buffer of the value. -/
theorem read_val : after (mainOps c) V (Proc.devRef .tc main_v104)
    = valR (after (mainOps c) V (Proc.devRef .tc main_v45)) (after (mainOps c) V (Proc.devRef .tc main_v74))
        (after (mainOps c) V (Proc.devRef .tc main_arg6)) (after (mainOps c) V (Proc.devRef .tc main_arg7)) := by
  rw [after_two, after_two, after_cut 503 (mainLine2 c).1]
  generalize after (List.take 503 _) (after _ _) = W
  after_reads_simp
  rfl

/-- The arguments are not written. -/
theorem read_args : after (mainOps c) V (Proc.devRef .tc main_arg0) = V (Proc.devRef .tc main_arg0)
    ∧ after (mainOps c) V (Proc.devRef .tc main_arg1) = V (Proc.devRef .tc main_arg1)
    ∧ after (mainOps c) V (Proc.devRef .tc main_arg2) = V (Proc.devRef .tc main_arg2)
    ∧ after (mainOps c) V (Proc.devRef .tc main_arg3) = V (Proc.devRef .tc main_arg3)
    ∧ after (mainOps c) V (Proc.devRef .tc main_arg4) = V (Proc.devRef .tc main_arg4)
    ∧ after (mainOps c) V (Proc.devRef .tc main_arg5) = V (Proc.devRef .tc main_arg5)
    ∧ after (mainOps c) V (Proc.devRef .tc main_arg6) = V (Proc.devRef .tc main_arg6)
    ∧ after (mainOps c) V (Proc.devRef .tc main_arg7) = V (Proc.devRef .tc main_arg7) := by
  refine ⟨?_, ?_, ?_, ?_, ?_, ?_, ?_, ?_⟩ <;> after_reads_simp

end Cert.Proof.Ref
-- ==== Proof.Uniform.lean ====
/- The uniform numbers of the two programs are the same arrays: both hash the same key by the same operations, and the
   equality is followed from the key, through its folding, to the numbers. -/
module

public import proofs.«01_k».proof.Proof.RefRead
public import proofs.«01_k».proof.Proof.Gen.KernelIdeal.Launch

@[expose] public section

set_option maxRecDepth 200000
set_option maxHeartbeats 1000000

noncomputable section

namespace Cert.Proof.Unif

open Idealize.ShloMosaic Idealize.ShloMosaic.TcCoe Idealize.ShloMosaic.StableHlo Idealize.SL.Sem
open Cert.Proof.Ref (mainLine0 mainLine1 mainLine2 after_two after_cut mainOps)
open Cert.KernelIdeal.Gen (hostOps0 hostOps0_1 hostOps0_2 hostOps0_3 hostOps0_4 hostOps0_5 hostOps0_6 hostOps0_7 hostOps0_8)

/-- Contents of the reference's buffers. -/
abbrev VR := Valuation Cert.ReferenceIdeal.τ Cert.ReferenceIdeal.sig (Elt Ideal)
/-- Contents of the kernel's buffers. -/
abbrev VK := Valuation Cert.KernelIdeal.τ Cert.KernelIdeal.sig (Elt Ideal)

/-- The reference's second part. -/
abbrev R1 (c : Dev Cert.ReferenceIdeal.nD) := (mainLine1 (F := Ideal) c).1
/-- The reference's third part. -/
abbrev R2 (c : Dev Cert.ReferenceIdeal.nD) := (mainLine2 (F := Ideal) c).1
/-- The kernel's host operations after the first numbers. -/
abbrev K4 : List (HloOp Cert.KernelIdeal.τ Cert.KernelIdeal.sig (Elt Ideal)) :=
  hostOps0_4 ++ (hostOps0_5 ++ (hostOps0_6 ++ (hostOps0_7 ++ hostOps0_8)))

/-- Two words, one after the other. -/
def join2 (a b : IVec Cert.KernelIdeal.S1 32) : IVec Cert.KernelIdeal.S2 32 :=
  concatenate Cert.KernelIdeal.S2 0 [⟨Cert.KernelIdeal.S1, a⟩, ⟨Cert.KernelIdeal.S1, b⟩] Cert.KernelIdeal.Gen.concatenates_S1_S1_S2_d0

variable (c : Dev Cert.ReferenceIdeal.nD) (W : VR) (W' : VK)

/-- The key. -/
theorem key_parts :
    after ((R1 c).take 99) W (Proc.devRef .tc Cert.ReferenceIdeal.main_v89) = after (hostOps0.take 71) W' (Proc.devRef .tc Cert.KernelIdeal.main_v52)
    ∧ after ((R1 c).take 99) W (Proc.devRef .tc Cert.ReferenceIdeal.main_v92) = after (hostOps0.take 71) W' (Proc.devRef .tc Cert.KernelIdeal.main_v55) := by
  constructor <;> (after_reads_simp <;> rfl)

/-- The key put together, and the first fold's number. -/
theorem key_join
    (h0 : W (Proc.devRef .tc Cert.ReferenceIdeal.main_v89) = W' (Proc.devRef .tc Cert.KernelIdeal.main_v52))
    (h1 : W (Proc.devRef .tc Cert.ReferenceIdeal.main_v92) = W' (Proc.devRef .tc Cert.KernelIdeal.main_v55)) :
    after (((R1 c).drop 99).take 1) W (Proc.devRef .tc Cert.ReferenceIdeal.main_v93) = after (hostOps0.drop 71) W' (Proc.devRef .tc Cert.KernelIdeal.main_v56) := by
  after_reads_simp
  exact congrArg₂ join2 h0 h1

/-- The first fold's number is zero. -/
theorem number0 : after (hostOps0.drop 71) W' (Proc.devRef .tc Cert.KernelIdeal.main_c_13) = constantI Cert.KernelIdeal.S_ 32 0#32 := by
  after_reads_simp

/-- The second fold's number is one. -/
theorem number1 : after hostOps0_4 W' (Proc.devRef .tc Cert.KernelIdeal.main_c_16) = constantI Cert.KernelIdeal.S_ 32 1#32 := by
  after_reads_simp

/-- The first fold's number, in two halves. -/
theorem num0_parts (h' : W' (Proc.devRef .tc Cert.KernelIdeal.main_c_13) = constantI Cert.KernelIdeal.S_ 32 0#32) :
    after (((R1 c).drop 100).take 7) W (Proc.devRef .tc Cert.ReferenceIdeal.main_call5_v1) = after (hostOps0_1.take 6) W' (Proc.devRef .tc Cert.KernelIdeal.main_call0_v1)
    ∧ after (((R1 c).drop 100).take 7) W (Proc.devRef .tc Cert.ReferenceIdeal.main_call5_v3) = after (hostOps0_1.take 6) W' (Proc.devRef .tc Cert.KernelIdeal.main_call0_v3) := by
  constructor <;> (after_reads_simp <;> (try simp only [TRef.ofBuf_toBuf, h']) <;> rfl)

/-- The first fold's number put together. -/
theorem num0_join (h0 : W (Proc.devRef .tc Cert.ReferenceIdeal.main_call5_v1) = W' (Proc.devRef .tc Cert.KernelIdeal.main_call0_v1))
    (h1 : W (Proc.devRef .tc Cert.ReferenceIdeal.main_call5_v3) = W' (Proc.devRef .tc Cert.KernelIdeal.main_call0_v3)) :
    after (((R1 c).drop 107).take 1) W (Proc.devRef .tc Cert.ReferenceIdeal.main_call5_v4) = after ((hostOps0_1.drop 6).take 1) W' (Proc.devRef .tc Cert.KernelIdeal.main_call0_v4) := by
  after_reads_simp
  exact congrArg₂ join2 h0 h1

/-- The key hashed with the first fold's number. -/
theorem fold0 (h : W (Proc.devRef .tc Cert.ReferenceIdeal.main_v93) = W' (Proc.devRef .tc Cert.KernelIdeal.main_v56))
    (h' : W (Proc.devRef .tc Cert.ReferenceIdeal.main_call5_v4) = W' (Proc.devRef .tc Cert.KernelIdeal.main_call0_v4)) :
    after (((R1 c).drop 108).take 228) W (Proc.devRef .tc Cert.ReferenceIdeal.main_call5_v11_0) = after ((hostOps0_1.drop 7).take 228) W' (Proc.devRef .tc Cert.KernelIdeal.main_call0_v11_0)
    ∧ after (((R1 c).drop 108).take 228) W (Proc.devRef .tc Cert.ReferenceIdeal.main_call5_v11_1) = after ((hostOps0_1.drop 7).take 228) W' (Proc.devRef .tc Cert.KernelIdeal.main_call0_v11_1) := by
  constructor <;> (after_reads_simp <;> (try simp only [TRef.ofBuf_toBuf, h, h']) <;> rfl)

/-- The first folded key put together. -/
theorem fold0_join (h0 : W (Proc.devRef .tc Cert.ReferenceIdeal.main_call5_v11_0) = W' (Proc.devRef .tc Cert.KernelIdeal.main_call0_v11_0))
    (h1 : W (Proc.devRef .tc Cert.ReferenceIdeal.main_call5_v11_1) = W' (Proc.devRef .tc Cert.KernelIdeal.main_call0_v11_1)) :
    after (((R1 c).drop 336).take 1) W (Proc.devRef .tc Cert.ReferenceIdeal.main_v94) = after (hostOps0_1.drop 235) W' (Proc.devRef .tc Cert.KernelIdeal.main_v57) := by
  after_reads_simp
  exact congrArg₂ join2 h0 h1

/-- The first key is still there when its fold is hashed. -/
theorem key_kept0 :
    after (((R1 c).drop 107).take 1) (after (((R1 c).drop 100).take 7) W) (Proc.devRef .tc Cert.ReferenceIdeal.main_v93) = W (Proc.devRef .tc Cert.ReferenceIdeal.main_v93)
    ∧ after ((hostOps0_1.drop 6).take 1) (after (hostOps0_1.take 6) W') (Proc.devRef .tc Cert.KernelIdeal.main_v56) = W' (Proc.devRef .tc Cert.KernelIdeal.main_v56) := by
  constructor <;> after_reads_simp

/-- The second fold's number, in two halves. -/
theorem num1_parts (h' : W' (Proc.devRef .tc Cert.KernelIdeal.main_c_16) = constantI Cert.KernelIdeal.S_ 32 1#32) :
    after (((R2 c).drop 0).take 7) W (Proc.devRef .tc Cert.ReferenceIdeal.main_call7_v1) = after (hostOps0_5.take 6) W' (Proc.devRef .tc Cert.KernelIdeal.main_call2_v1)
    ∧ after (((R2 c).drop 0).take 7) W (Proc.devRef .tc Cert.ReferenceIdeal.main_call7_v3) = after (hostOps0_5.take 6) W' (Proc.devRef .tc Cert.KernelIdeal.main_call2_v3) := by
  constructor <;> (after_reads_simp <;> (try simp only [TRef.ofBuf_toBuf, h']) <;> rfl)

/-- The second fold's number put together. -/
theorem num1_join (h0 : W (Proc.devRef .tc Cert.ReferenceIdeal.main_call7_v1) = W' (Proc.devRef .tc Cert.KernelIdeal.main_call2_v1))
    (h1 : W (Proc.devRef .tc Cert.ReferenceIdeal.main_call7_v3) = W' (Proc.devRef .tc Cert.KernelIdeal.main_call2_v3)) :
    after (((R2 c).drop 7).take 1) W (Proc.devRef .tc Cert.ReferenceIdeal.main_call7_v4) = after ((hostOps0_5.drop 6).take 1) W' (Proc.devRef .tc Cert.KernelIdeal.main_call2_v4) := by
  after_reads_simp
  exact congrArg₂ join2 h0 h1

/-- The key hashed with the second fold's number. -/
theorem fold1 (h : W (Proc.devRef .tc Cert.ReferenceIdeal.main_v93) = W' (Proc.devRef .tc Cert.KernelIdeal.main_v56))
    (h' : W (Proc.devRef .tc Cert.ReferenceIdeal.main_call7_v4) = W' (Proc.devRef .tc Cert.KernelIdeal.main_call2_v4)) :
    after (((R2 c).drop 8).take 228) W (Proc.devRef .tc Cert.ReferenceIdeal.main_call7_v11_0) = after ((hostOps0_5.drop 7).take 228) W' (Proc.devRef .tc Cert.KernelIdeal.main_call2_v11_0)
    ∧ after (((R2 c).drop 8).take 228) W (Proc.devRef .tc Cert.ReferenceIdeal.main_call7_v11_1) = after ((hostOps0_5.drop 7).take 228) W' (Proc.devRef .tc Cert.KernelIdeal.main_call2_v11_1) := by
  constructor <;> (after_reads_simp <;> (try simp only [TRef.ofBuf_toBuf, h, h']) <;> rfl)

/-- The second folded key put together. -/
theorem fold1_join (h0 : W (Proc.devRef .tc Cert.ReferenceIdeal.main_call7_v11_0) = W' (Proc.devRef .tc Cert.KernelIdeal.main_call2_v11_0))
    (h1 : W (Proc.devRef .tc Cert.ReferenceIdeal.main_call7_v11_1) = W' (Proc.devRef .tc Cert.KernelIdeal.main_call2_v11_1)) :
    after (((R2 c).drop 236).take 1) W (Proc.devRef .tc Cert.ReferenceIdeal.main_v97) = after (hostOps0_5.drop 235) W' (Proc.devRef .tc Cert.KernelIdeal.main_v59) := by
  after_reads_simp
  exact congrArg₂ join2 h0 h1

/-- The second key is still there when its fold is hashed. -/
theorem key_kept1 :
    after (((R2 c).drop 7).take 1) (after (((R2 c).drop 0).take 7) W) (Proc.devRef .tc Cert.ReferenceIdeal.main_v93) = W (Proc.devRef .tc Cert.ReferenceIdeal.main_v93)
    ∧ after ((hostOps0_5.drop 6).take 1) (after (hostOps0_5.take 6) W') (Proc.devRef .tc Cert.KernelIdeal.main_v56) = W' (Proc.devRef .tc Cert.KernelIdeal.main_v56) := by
  constructor <;> after_reads_simp

/-- The first uniform numbers, from the folded key. -/
theorem draw0 (h : W (Proc.devRef .tc Cert.ReferenceIdeal.main_v94) = W' (Proc.devRef .tc Cert.KernelIdeal.main_v57)) :
    after ((R1 c).drop 337 ++ R2 c) W (Proc.devRef .tc Cert.ReferenceIdeal.main_call6_v0) = after (hostOps0_2 ++ (hostOps0_3 ++ K4)) W' (Proc.devRef .tc Cert.KernelIdeal.main_v58) := by
  after_reads_simp
  simp only [TRef.ofBuf_toBuf, h]
  rfl

/-- The second uniform numbers, from the folded key. -/
theorem draw1 (h : W (Proc.devRef .tc Cert.ReferenceIdeal.main_v97) = W' (Proc.devRef .tc Cert.KernelIdeal.main_v59)) :
    after ((R2 c).drop 237) W (Proc.devRef .tc Cert.ReferenceIdeal.main_call8_v0) = after (hostOps0_6 ++ (hostOps0_7 ++ hostOps0_8)) W' (Proc.devRef .tc Cert.KernelIdeal.main_v60) := by
  after_reads_simp
  simp only [TRef.ofBuf_toBuf, h]
  rfl

end Cert.Proof.Unif
-- ==== Proof.UniformEq.lean ====
/- The equality of the uniform numbers, the stages put together. -/
module

public import proofs.«01_k».proof.Proof.Uniform

@[expose] public section

set_option maxRecDepth 200000
set_option maxHeartbeats 1000000

noncomputable section

namespace Cert.Proof.Unif

open Idealize.ShloMosaic Idealize.ShloMosaic.TcCoe Idealize.ShloMosaic.StableHlo Idealize.SL.Sem
open Cert.Proof.Ref (mainLine0 mainLine1 mainLine2 after_two after_cut mainOps)
open Cert.KernelIdeal.Gen (hostOps0 hostOps0_1 hostOps0_2 hostOps0_3 hostOps0_4 hostOps0_5 hostOps0_6 hostOps0_7 hostOps0_8)

/-- The kernel's host operations. -/
abbrev kOps : List (HloOp Cert.KernelIdeal.τ Cert.KernelIdeal.sig (Elt Ideal)) :=
  hostOps0 ++ (hostOps0_1 ++ (hostOps0_2 ++ (hostOps0_3 ++ K4)))

/-- The rest of a line, cut once more. -/
theorem after_next {τ' : Topo} {sig' : RefSig} (a b e : ℕ) (h : a + b = e) (l : List (HloOp τ' sig' (Elt Ideal))) (W : Valuation τ' sig' (Elt Ideal)) :
    after (l.drop a) W = after (l.drop e) (after ((l.drop a).take b) W) := by
  rw [after_cut b (l.drop a), List.drop_drop, h]

variable (c : Dev Cert.ReferenceIdeal.nD)

/-- The first key, in both programs. -/
theorem key_eq (A : VR) (A' : VK) :
    after (((R1 c).drop 99).take 1) (after ((R1 c).take 99) A) (Proc.devRef .tc Cert.ReferenceIdeal.main_v93)
      = after hostOps0 A' (Proc.devRef .tc Cert.KernelIdeal.main_v56) := by
  rw [after_cut 71 hostOps0]
  exact key_join c _ _ (key_parts c A A').1 (key_parts c A A').2

/-- The first folded key, in both programs. -/
theorem fold0_eq (B : VR) (B' : VK)
    (hk : B (Proc.devRef .tc Cert.ReferenceIdeal.main_v93) = B' (Proc.devRef .tc Cert.KernelIdeal.main_v56))
    (hn : B' (Proc.devRef .tc Cert.KernelIdeal.main_c_13) = constantI Cert.KernelIdeal.S_ 32 0#32) :
    after (((R1 c).drop 336).take 1) (after (((R1 c).drop 108).take 228) (after (((R1 c).drop 107).take 1) (after (((R1 c).drop 100).take 7) B)))
        (Proc.devRef .tc Cert.ReferenceIdeal.main_v94)
      = after hostOps0_1 B' (Proc.devRef .tc Cert.KernelIdeal.main_v57) := by
  rw [after_cut 6 hostOps0_1, after_next 6 1 7 rfl, after_next 7 228 235 rfl]
  have p := num0_parts c B B' hn
  have j := num0_join c _ _ p.1 p.2
  have kk := key_kept0 c B B'
  have f := fold0 c _ _ (kk.1.trans (hk.trans kk.2.symm)) j
  exact fold0_join c _ _ f.1 f.2

/-- The second folded key, in both programs. -/
theorem fold1_eq (B : VR) (B' : VK)
    (hk : B (Proc.devRef .tc Cert.ReferenceIdeal.main_v93) = B' (Proc.devRef .tc Cert.KernelIdeal.main_v56))
    (hn : B' (Proc.devRef .tc Cert.KernelIdeal.main_c_16) = constantI Cert.KernelIdeal.S_ 32 1#32) :
    after (((R2 c).drop 236).take 1) (after (((R2 c).drop 8).take 228) (after (((R2 c).drop 7).take 1) (after (((R2 c).drop 0).take 7) B)))
        (Proc.devRef .tc Cert.ReferenceIdeal.main_v97)
      = after hostOps0_5 B' (Proc.devRef .tc Cert.KernelIdeal.main_v59) := by
  rw [after_cut 6 hostOps0_5, after_next 6 1 7 rfl, after_next 7 228 235 rfl]
  have p := num1_parts c B B' hn
  have j := num1_join c _ _ p.1 p.2
  have kk := key_kept1 c B B'
  have f := fold1 c _ _ (kk.1.trans (hk.trans kk.2.symm)) j
  exact fold1_join c _ _ f.1 f.2

/-- The key outlives the rest of the reference's second part. -/
theorem key_far (B : VR) : after ((R1 c).drop 100) B (Proc.devRef .tc Cert.ReferenceIdeal.main_v93) = B (Proc.devRef .tc Cert.ReferenceIdeal.main_v93) := by
  after_reads_simp

/-- The key outlives the kernel's first numbers. -/
theorem key_far' (B' : VK) :
    after hostOps0_4 (after hostOps0_3 (after hostOps0_2 (after hostOps0_1 B'))) (Proc.devRef .tc Cert.KernelIdeal.main_v56)
      = B' (Proc.devRef .tc Cert.KernelIdeal.main_v56) := by
  after_reads_simp

/-- The first uniform numbers are the same. -/
theorem u0_eq (V : VR) (V' : VK) :
    after (mainOps c) V (Proc.devRef .tc Cert.ReferenceIdeal.main_call6_v0) = after kOps V' (Proc.devRef .tc Cert.KernelIdeal.main_v58) := by
  rw [after_two (mainLine0 c).1]
  generalize after (mainLine0 c).1 V = A
  rw [after_two (R1 c), after_cut 99 (R1 c), after_next 99 1 100 rfl, after_next 100 7 107 rfl, after_next 107 1 108 rfl,
    after_next 108 228 336 rfl, after_next 336 1 337 rfl, ← after_two, after_two hostOps0, after_two hostOps0_1]
  refine draw0 c _ _ (fold0_eq c _ _ (key_eq c A V') ?_)
  rw [after_cut 71 hostOps0]
  exact number0 _

/-- The second uniform numbers are the same. -/
theorem u1_eq (V : VR) (V' : VK) :
    after (mainOps c) V (Proc.devRef .tc Cert.ReferenceIdeal.main_call8_v0) = after kOps V' (Proc.devRef .tc Cert.KernelIdeal.main_v60) := by
  rw [after_two (mainLine0 c).1]
  generalize after (mainLine0 c).1 V = A
  rw [after_two (R1 c), after_cut 99 (R1 c), after_next 99 1 100 rfl]
  show after ((R2 c).drop 0) _ _ = _
  rw [after_next 0 7 7 rfl,
    after_next 7 1 8 rfl, after_next 8 228 236 rfl, after_next 236 1 237 rfl,
    after_two hostOps0, after_two hostOps0_1, after_two hostOps0_2, after_two hostOps0_3, after_two hostOps0_4, after_two hostOps0_5]
  exact draw1 c _ _ (fold1_eq c _ _ ((key_far c _).trans ((key_eq c A V').trans (key_far' _).symm)) (number1 _))

end Cert.Proof.Unif
-- ==== Proof.KHost.lean ====
/- What the kernel's region reads, as expressions in the program's arguments: the token indices, the two gated tables, the
   weights and the bias. -/
module

public import proofs.«01_k».proof.Proof.UniformEq

@[expose] public section

set_option maxRecDepth 200000
set_option maxHeartbeats 4000000

noncomputable section

namespace Cert.Proof.KHost

open Cert.KernelIdeal Cert.KernelIdeal.Facts₀ Idealize.ShloMosaic Idealize.ShloMosaic.TcCoe Idealize.ShloMosaic.StableHlo Idealize.SL.Sem
open Cert.Proof.Unif (kOps K4)
open Cert.KernelIdeal.Gen (hostOps0 hostOps0_1 hostOps0_2 hostOps0_3 hostOps0_4 hostOps0_5 hostOps0_6 hostOps0_7 hostOps0_8)
open Cert.Proof.Ref (after_two after_cut)

/-- The feature tokens, each step's moved to its own rows of the table. -/
def seqF (a0 : IVec S16384x3x50 32) : IVec S16384x150 32 :=
  shapeCast S16384x150 (addi a0 (broadcastInDim S16384x3x50 ![0, 1, 2] bcast_S1x3x1_S16384x3x50_0_1_2
    (broadcastInDim S1x3x1 ![1] bcast_S3_S1x3x1_1 (addi (broadcastInDim S3 ![] bcast_S_S3 (constantI S_ 32 0#32))
      (muli (broadcastInDim S3 ![] bcast_S_S3 (constantI S_ 32 11#32)) (iotaInDim S3 32 0)))))) shapeCasts_S16384x3x50_S16384x150

/-- The actions, each step's moved to its own rows of the table. -/
def seqA (a1 : IVec S16384x2 32) : IVec S16384x2 32 :=
  addi a1 (broadcastInDim S16384x2 ![0, 1] bcast_S1x2_S16384x2_0_1
    (broadcastInDim S1x2 ![1] bcast_S2_S1x2_1 (addi (broadcastInDim S2 ![] bcast_S_S2 (constantI S_ 32 33#32))
      (muli (broadcastInDim S2 ![] bcast_S_S2 (constantI S_ 32 4#32)) (iotaInDim S2 32 0)))))

/-- All indices of a row. -/
def idxK (a0 : IVec S16384x3x50 32) (a1 : IVec S16384x2 32) : IVec S16384x152 32 :=
  concatenate S16384x152 1 [⟨S16384x150, seqF a0⟩, ⟨S16384x2, seqA a1⟩] concatenates_S16384x150_S16384x2_S16384x152_d1

/-- The gated rows of the features. -/
def rowsF (a2 : FVec Ideal S11x1024 .f32) (a3 : FVec Ideal S3x1x1024 .f32) : FVec Ideal S33x1024 .f32 :=
  shapeCast S33x1024 (mulf
    (broadcastInDim S3x11x1024 ![0, 1, 2] bcast_S1x11x1024_S3x11x1024_0_1_2 (broadcastInDim S1x11x1024 ![1, 2] bcast_S11x1024_S1x11x1024_1_2 a2))
    (broadcastInDim S3x11x1024 ![0, 1, 2] bcast_S3x1x1024_S3x11x1024_0_1_2 (broadcastInDim S3x1x1024 ![0, 2] bcast_S3x1024_S3x1x1024_0_2
      (Host.divf (broadcastInDim S3x1024 ![] bcast_S_S3x1024 (constant (F := Ideal) S_ .f32 0x3F800000#32))
        (addf (broadcastInDim S3x1024 ![] bcast_S_S3x1024 (constant (F := Ideal) S_ .f32 0x3F800000#32))
          (Host.exp (Host.negf (shapeCast S3x1024 a3 shapeCasts_S3x1x1024_S3x1024)))))))) shapeCasts_S3x11x1024_S33x1024

/-- The gated rows of the actions. -/
def rowsA (a4 : FVec Ideal S4x1024 .f32) (a5 : FVec Ideal S2x1x1024 .f32) : FVec Ideal S8x1024 .f32 :=
  shapeCast S8x1024 (mulf
    (broadcastInDim S2x4x1024 ![0, 1, 2] bcast_S1x4x1024_S2x4x1024_0_1_2 (broadcastInDim S1x4x1024 ![1, 2] bcast_S4x1024_S1x4x1024_1_2 a4))
    (broadcastInDim S2x4x1024 ![0, 1, 2] bcast_S2x1x1024_S2x4x1024_0_1_2 (broadcastInDim S2x1x1024 ![0, 2] bcast_S2x1024_S2x1x1024_0_2
      (Host.divf (broadcastInDim S2x1024 ![] bcast_S_S2x1024 (constant (F := Ideal) S_ .f32 0x3F800000#32))
        (addf (broadcastInDim S2x1024 ![] bcast_S_S2x1024 (constant (F := Ideal) S_ .f32 0x3F800000#32))
          (Host.exp (Host.negf (shapeCast S2x1024 a5 shapeCasts_S2x1x1024_S2x1024)))))))) shapeCasts_S2x4x1024_S8x1024

/-- An empty table. -/
def empty48 : FVec Ideal S48x1024 .f32 := broadcastInDim S48x1024 ![] bcast_S_S48x1024 (constant (F := Ideal) S_ .f32 0x00000000#32)

/-- The table of the features. -/
def tabF (a2 : FVec Ideal S11x1024 .f32) (a3 : FVec Ideal S3x1x1024 .f32) : FVec Ideal S48x1024 .f32 :=
  Host.scatter scatter_S48x1024_S1_S33x1024_01_n_0_0 (fun _ b => b) empty48 (broadcastInDim S1 ![] bcast_S_S1 (constantI S_ 32 0#32)) (rowsF a2 a3)

/-- The table of the actions. -/
def tabA (a4 : FVec Ideal S4x1024 .f32) (a5 : FVec Ideal S2x1x1024 .f32) : FVec Ideal S48x1024 .f32 :=
  Host.scatter scatter_S48x1024_S1_S8x1024_01_n_0_0 (fun _ b => b) empty48 (broadcastInDim S1 ![] bcast_S_S1 (constantI S_ 32 33#32)) (rowsA a4 a5)

attribute [local irreducible] Host.scatter concatenate

variable (V : Valuation τ sig (Elt Ideal))

/-- The indices' two parts. -/
theorem read_parts : after (hostOps0.take 21) V (Proc.devRef .tc main_v16) = seqF (V (Proc.devRef .tc main_arg0))
    ∧ after (hostOps0.take 21) V (Proc.devRef .tc main_v15) = seqA (V (Proc.devRef .tc main_arg1)) := by
  constructor <;> (after_reads_simp; rfl)

/-- The two parts joined. -/
theorem read_join (A : IVec S16384x150 32) (B : IVec S16384x2 32) (h : V (Proc.devRef .tc main_v16) = A) (h' : V (Proc.devRef .tc main_v15) = B) :
    after ((kOps.drop 21).take 1) V (Proc.devRef .tc main_v17)
      = concatenate S16384x152 1 [⟨S16384x150, A⟩, ⟨S16384x2, B⟩] concatenates_S16384x150_S16384x2_S16384x152_d1 := by
  subst h h'
  after_reads_simp
  rfl

/-- The indices stay as they are. -/
theorem read_keep : after (kOps.drop 22) V (Proc.devRef .tc main_v17) = V (Proc.devRef .tc main_v17) := by
  after_reads_simp

/-- The indices. -/
theorem read_idx : after kOps V (Proc.devRef .tc main_v17) = idxK (V (Proc.devRef .tc main_arg0)) (V (Proc.devRef .tc main_arg1)) := by
  rw [after_cut 22, read_keep, show (kOps.take 22) = hostOps0.take 21 ++ (kOps.drop 21).take 1 from rfl, after_two]
  exact read_join _ _ _ (read_parts V).1 (read_parts V).2

/-- The table of the features. -/
theorem read_tabF : after kOps V (Proc.devRef .tc main_v46) = tabF (V (Proc.devRef .tc main_arg2)) (V (Proc.devRef .tc main_arg3)) := by
  after_reads_simp
  rfl

/-- The table of the actions. -/
theorem read_tabA : after kOps V (Proc.devRef .tc main_v49) = tabA (V (Proc.devRef .tc main_arg4)) (V (Proc.devRef .tc main_arg5)) := by
  after_reads_simp
  rfl

/-- The weights. -/
theorem read_w : after kOps V (Proc.devRef .tc main_arg6) = V (Proc.devRef .tc main_arg6) := by
  after_reads_simp

/-- The bias. -/
theorem read_b : after kOps V (Proc.devRef .tc main_v61) = shapeCast S1x1 (V (Proc.devRef .tc main_arg7)) shapeCasts_S1_S1x1 := by
  after_reads_simp
  rfl

/-- The kernel's host operations in one list. -/
theorem all_ops : List.flatten [hostOps0, hostOps0_1, hostOps0_2, hostOps0_3, hostOps0_4, hostOps0_5, hostOps0_6, hostOps0_7, hostOps0_8] = kOps := by
  rfl

end Cert.Proof.KHost
-- ==== Proof.Model.lean ====
/- The arithmetic both programs share: a histogram times a table is the sum of the table's rows at the tokens, and a gate
   passes through a sum. The numbers are extended reals, so a product distributes over a sum only where the terms or the factor
   allow it: the histogram's entries are not negative, and a gate is a real number that is not negative. -/
module

public import proofs.«01_k».proof.Proof.Block

@[expose] public section

noncomputable section

namespace Cert.Proof.Model

open Idealize.ShloMosaic
open Cert.Proof.Block (ind)

/-- An indicator is not negative. -/
theorem ind_nonneg (w : BitVec 32) (k : ℕ) : 0 ≤ ind w k := by
  unfold ind; split <;> simp

/-- A sum of terms that are not negative, times a number. -/
theorem sum_mul_nonneg {ι : Type} (s : Finset ι) (f : ι → EReal) (hf : ∀ i, 0 ≤ f i) (x : EReal) : (∑ i ∈ s, f i) * x = ∑ i ∈ s, f i * x := by
  classical
  induction s using Finset.induction_on with
  | empty => simp
  | insert a s ha ih =>
    rw [Finset.sum_insert ha, Finset.sum_insert ha, EReal.right_distrib_of_nonneg (hf a) (Finset.sum_nonneg fun i _ => hf i), ih]

/-- A sum times a real number that is not negative. -/
theorem sum_mul_real {ι : Type} (s : Finset ι) (f : ι → EReal) (x : EReal) (h0 : 0 ≤ x) (ht : x ≠ ⊤) : (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top h0 ht, ih]

/-- A gate is not negative and not infinite. -/
theorem gate_real (x : EReal) : 0 ≤ Ideal.logistic x ∧ Ideal.logistic x ≠ ⊤ := by
  induction x with
  | bot => rw [Ideal.logistic_bot]; simp
  | top => rw [Ideal.logistic_top]; exact ⟨zero_le_one, EReal.coe_ne_top 1⟩
  | coe r =>
    rw [Ideal.logistic_coe]
    exact ⟨EReal.coe_nonneg.mpr (by positivity), EReal.coe_ne_top _⟩

/-- A histogram times a table: the table's rows at the tokens, summed. -/
theorem hist_mul {n : ℕ} (x : Fin n → BitVec 32) (hx : ∀ l, (x l).toNat < 48) (T : Fin 48 → EReal) :
    ∑ k : Fin 48, (∑ l : Fin n, ind (x l) k.val) * T k = ∑ l : Fin n, T ⟨(x l).toNat, hx l⟩ := by
  simp only [fun k : Fin 48 => sum_mul_nonneg Finset.univ (fun l => ind (x l) k.val) (fun l => ind_nonneg _ _) (T k)]
  rw [Finset.sum_comm]
  refine Finset.sum_congr rfl fun l _ => ?_
  rw [Finset.sum_eq_single (⟨(x l).toNat, hx l⟩ : Fin 48)]
  · simp [ind]
  · intro k _ hk
    have : x l ≠ BitVec.ofNat 32 k.val := by
      intro e
      apply hk
      apply Fin.ext
      show k.val = (x l).toNat
      rw [e, BitVec.toNat_ofNat]
      omega
    simp [ind, this]
  · intro h; exact absurd (Finset.mem_univ _) h

/-- The 152 tokens of a row: three steps of fifty features, then two actions. -/
theorem sum_tokens (f : Fin 152 → EReal) :
    ∑ l : Fin 152, f l = (∑ t : Fin 3, ∑ j : Fin 50, f ⟨j.val + 50 * t.val, by omega⟩) + ∑ t : Fin 2, f ⟨150 + t.val, by omega⟩ := by
  rw [show (∑ l : Fin 152, f l) = ∑ l : Fin (150 + 2), f l from rfl, Fin.sum_univ_add]
  congr 1
  rw [← Fintype.sum_prod_type', ← (finProdFinEquiv (m := 3) (n := 50)).sum_comp]
  rfl

end Cert.Proof.Model
-- ==== Proof.KValue.lean ====
/- What the kernel's region reads, at an index: a token's number is its own plus the first row of its step, the feature table
   holds the gated rows of the features from row 0 on, the action table those of the actions from row 33 on, and the rest of a
   table is zero. -/
module

public import proofs.«01_k».proof.Proof.KHost
public import proofs.«01_k».proof.Proof.Model
public import Idealize.ShloMosaic.Lib.Pointwise
public import Idealize.ShloMosaic.Lib.Routing.OpsSet

@[expose] public section

noncomputable section

namespace Cert.Proof.KHost

open Cert.KernelIdeal Cert.KernelIdeal.Facts₀ Idealize.ShloMosaic Idealize.ShloMosaic.TcCoe Idealize.SL.Sem

/-- A gated row of the features. -/
theorem rowsF_apply (a2 : FVec Ideal S11x1024 .f32) (a3 : FVec Ideal S3x1x1024 .f32) (t : Fin 3) (k : Fin 11) (v : Fin 1024) :
    rowsF a2 a3 (ix2 ⟨k.val + 11 * t.val, by omega⟩ v) = a2 (ix2 k v) * Ideal.logistic (a3 (ix3 t 0 v)) := by
  pointwise [rowsF]
  rfl

/-- A gated row of the actions. -/
theorem rowsA_apply (a4 : FVec Ideal S4x1024 .f32) (a5 : FVec Ideal S2x1x1024 .f32) (t : Fin 2) (k : Fin 4) (v : Fin 1024) :
    rowsA a4 a5 (ix2 ⟨k.val + 4 * t.val, by omega⟩ v) = a4 (ix2 k v) * Ideal.logistic (a5 (ix3 t 0 v)) := by
  pointwise [rowsA]
  rfl

/-- The number of a feature token. -/
theorem idxF_apply (a0 : IVec S16384x3x50 32) (a1 : IVec S16384x2 32) (b : Fin 16384) (t : Fin 3) (j : Fin 50) (h : (a0 (ix3 b t j)).toNat < 11) :
    (idxK a0 a1 (ix2 b ⟨j.val + 50 * t.val, by omega⟩)).toNat = (a0 (ix3 b t j)).toNat + 11 * t.val := by
  pointwise [idxK, seqF]
  rw [dif_pos (by omega)]
  simp only [IntOp.addi, IntOp.muli, BitVec.toNat_add, BitVec.toNat_mul, BitVec.toNat_ofNat]
  omega

/-- The number of an action. -/
theorem idxA_apply (a0 : IVec S16384x3x50 32) (a1 : IVec S16384x2 32) (b : Fin 16384) (t : Fin 2) (h : (a1 (ix2 b t)).toNat < 4) :
    (idxK a0 a1 (ix2 b ⟨150 + t.val, by omega⟩)).toNat = 33 + (a1 (ix2 b t)).toNat + 4 * t.val := by
  pointwise [idxK, seqA]
  simp only [IntOp.addi, IntOp.muli, BitVec.toNat_add, BitVec.toNat_mul, BitVec.toNat_ofNat]
  omega

/-! Where an update of the tables lands. -/

theorem landsF (k : Fin 33) (v : Fin 1024) (r : Fin 48) (v' : Fin 1024) :
    scatter_S48x1024_S1_S33x1024_01_n_0_0.resultIdx? (ix2 k v) (broadcastInDim S1 ![] bcast_S_S1 (constantI S_ 32 0#32)) = some (ix2 r v')
      ↔ k.val = r.val ∧ v.val = v'.val := by
  rw [Routing.resultIdx?_eq_some, Fin.forall_fin_two]
  show (0 : ℤ) + ((k.val : ℕ) : ℤ) = ((r.val : ℕ) : ℤ) ∧ (0 : ℤ) + ((v.val : ℕ) : ℤ) = ((v'.val : ℕ) : ℤ) ↔ _
  omega

theorem landsA (k : Fin 8) (v : Fin 1024) (r : Fin 48) (v' : Fin 1024) :
    scatter_S48x1024_S1_S8x1024_01_n_0_0.resultIdx? (ix2 k v) (broadcastInDim S1 ![] bcast_S_S1 (constantI S_ 32 33#32)) = some (ix2 r v')
      ↔ 33 + k.val = r.val ∧ v.val = v'.val := by
  rw [Routing.resultIdx?_eq_some, Fin.forall_fin_two]
  show (33 : ℤ) + ((k.val : ℕ) : ℤ) = ((r.val : ℕ) : ℤ) ∧ (0 : ℤ) + ((v.val : ℕ) : ℤ) = ((v'.val : ℕ) : ℤ) ↔ _
  omega

/-- An empty table is zero. -/
theorem empty48_apply (r : Fin 48) (v : Fin 1024) : empty48 (ix2 r v) = 0 := by
  pointwise [empty48]

/-- A row of the feature table that holds a gated row. -/
theorem tabF_row (a2 : FVec Ideal S11x1024 .f32) (a3 : FVec Ideal S3x1x1024 .f32) (k : Fin 33) (r : Fin 48) (v : Fin 1024) (h : k.val = r.val) :
    tabF a2 a3 (ix2 r v) = rowsF a2 a3 (ix2 k v) := by
  unfold tabF
  refine Routing.scatter_set_hit _ _ _ _ _ _ (fun j hj => ?_) (ix2 k v) ((landsF k v r v).mpr ⟨h, rfl⟩)
  rw [eq_ix2 j] at hj ⊢
  obtain ⟨e, e'⟩ := (landsF _ _ r v).mp hj
  rw [Fin.ext (e.trans h.symm), Fin.ext e']

/-- A row of the feature table past the gated rows. -/
theorem tabF_rest (a2 : FVec Ideal S11x1024 .f32) (a3 : FVec Ideal S3x1x1024 .f32) (r : Fin 48) (v : Fin 1024) (h : 33 ≤ r.val) :
    tabF a2 a3 (ix2 r v) = 0 := by
  unfold tabF
  rw [Routing.scatter_set_miss _ _ _ _ _ (fun j hj => ?_), empty48_apply]
  rw [eq_ix2 j] at hj
  have e := ((landsF _ _ r v).mp hj).1
  have := (j 0).isLt
  change (j 0).val < 33 at this
  omega

/-- A row of the action table that holds a gated row. -/
theorem tabA_row (a4 : FVec Ideal S4x1024 .f32) (a5 : FVec Ideal S2x1x1024 .f32) (k : Fin 8) (r : Fin 48) (v : Fin 1024) (h : 33 + k.val = r.val) :
    tabA a4 a5 (ix2 r v) = rowsA a4 a5 (ix2 k v) := by
  unfold tabA
  refine Routing.scatter_set_hit _ _ _ _ _ _ (fun j hj => ?_) (ix2 k v) ((landsA k v r v).mpr ⟨h, rfl⟩)
  rw [eq_ix2 j] at hj ⊢
  obtain ⟨e, e'⟩ := (landsA _ _ r v).mp hj
  rw [Fin.ext (Nat.add_left_cancel (e.trans h.symm)), Fin.ext e']

/-- A row of the action table before the gated rows. -/
theorem tabA_rest (a4 : FVec Ideal S4x1024 .f32) (a5 : FVec Ideal S2x1x1024 .f32) (r : Fin 48) (v : Fin 1024) (h : r.val < 33) :
    tabA a4 a5 (ix2 r v) = 0 := by
  unfold tabA
  rw [Routing.scatter_set_miss _ _ _ _ _ (fun j hj => ?_), empty48_apply]
  rw [eq_ix2 j] at hj
  have e := ((landsA _ _ r v).mp hj).1
  omega

end Cert.Proof.KHost
-- ==== Proof.RefValue.lean ====
/- The reference's results at an index: every token names a row of its table, so no row is out of range, and a step is the sum
   of the rows its tokens name, times its gate. -/
module

public import proofs.«01_k».proof.Proof.RefRead
public import Idealize.ShloMosaic.Lib.Pointwise
public import Idealize.ShloMosaic.Lib.Routing.OpsPair
public import Idealize.ShloMosaic.Lib.StableHlo.Predicate

@[expose] public section

noncomputable section

namespace Cert.Proof.Ref

open Cert.ReferenceIdeal Cert.ReferenceIdeal.Facts₀ Idealize.ShloMosaic Idealize.ShloMosaic.TcCoe

/-- The row of the feature table a token names. -/
def rowF (w : BitVec 32) : Fin 11 := ⟨w.toNat % 11, Nat.mod_lt _ (by decide)⟩

/-- The row of the action table an action names. -/
def rowA (w : BitVec 32) : Fin 4 := ⟨w.toNat % 4, Nat.mod_lt _ (by decide)⟩

/-- A token below the table's length is in the range the reference asks for. -/
theorem in_range (w : BitVec 32) (n : ℕ) (hn : n < 2 ^ 31) (h : w.toNat ≤ n) :
    IntOp.andi (1#1) (IntOp.andi (IntOp.cmpi .sge w 0#32) (IntOp.cmpi .sle w (BitVec.ofNat 32 n))) = 1#1 := by
  have e : (BitVec.ofNat 32 n).toNat = n := by rw [BitVec.toNat_ofNat]; omega
  have h0 : IntOp.cmpi .sge w 0#32 = 1#1 := (StableHlo.Predicate.sge_iff_toNat (by omega) (by decide)).mpr (Nat.zero_le _)
  have h1 : IntOp.cmpi .sle w (BitVec.ofNat 32 n) = 1#1 := (StableHlo.Predicate.sle_iff_toNat (by omega) (by omega)).mpr (by omega)
  rw [h0, h1]
  rfl

/-- A token in range is not wrapped. -/
theorem wrapF_apply (x : IVec S16384x50 32) (b : Fin 16384) (l : Fin 50) (h : (x (ix2 b l)).toNat < 11) :
    wrapF x (ix2 b l) = x (ix2 b l) := by
  pointwise [wrapF]
  exact Routing.wrap_of_lt _ _ (by omega)

/-- An action in range is not wrapped. -/
theorem wrapA_apply (x : IVec S16384 32) (b : Fin 16384) (h : (x (ix1 b)).toNat < 4) : wrapA x (ix1 b) = x (ix1 b) := by
  pointwise [wrapA]
  exact Routing.wrap_of_lt _ _ (by omega)

/-- The wrapped token behind its unit axis. -/
theorem idF_apply (x : IVec S16384x50 32) (b : Fin 16384) (l : Fin 50) (h : (x (ix2 b l)).toNat < 11) : idF x (ix3 b l 0) = x (ix2 b l) := by
  rw [← wrapF_apply x b l h]
  pointwise [idF]

/-- The wrapped action behind its unit axis. -/
theorem idA_apply (x : IVec S16384 32) (b : Fin 16384) (h : (x (ix1 b)).toNat < 4) : idA x (ix2 b 0) = x (ix1 b) := by
  rw [← wrapA_apply x b h]
  pointwise [idA]

/-- A token in range is found in range. -/
theorem okF_apply (x : IVec S16384x50 32) (b : Fin 16384) (l : Fin 50) (h : (x (ix2 b l)).toNat < 11) : okF x (ix2 b l) = 1#1 := by
  pointwise [okF]
  rw [Finset.univ_unique, Finset.fold_singleton, show (default : Fin 1) = 0 from rfl, idF_apply x b l h]
  have := in_range (x (ix2 b l)) 10 (by decide) (by omega)
  exact (BitVec.and_comm _ _).trans this

/-- An action in range is found in range. -/
theorem okA_apply (x : IVec S16384 32) (b : Fin 16384) (h : (x (ix1 b)).toNat < 4) : okA x (ix1 b) = 1#1 := by
  pointwise [okA]
  rw [Finset.univ_unique, Finset.fold_singleton, show (default : Fin 1) = 0 from rfl, idA_apply x b h]
  have := in_range (x (ix1 b)) 3 (by decide) (by omega)
  exact (BitVec.and_comm _ _).trans this

/-- A row read from the feature table. -/
theorem gatherF (tab : FVec Ideal S11x1024 .f32) (y : IVec S16384x50x1 32) (b : Fin 16384) (l : Fin 50) (v : Fin 1024) (h : (y (ix3 b l 0)).toNat < 11) :
    Host.gather gather_S11x1024_S16384x50x1_S16384x50x1024_2_0_n_n_0_2_11024 tab y (ix3 b l v) = tab (ix2 (rowF (y (ix3 b l 0))) v) := by
  unfold Host.gather
  congr 1
  funext a
  apply Fin.ext
  match a with
  | ⟨0, _⟩ =>
    have hs : gather_S11x1024_S16384x50x1_S16384x50x1024_2_0_n_n_0_2_11024.siIdx (ix3 b l v) ⟨0, by decide⟩ = ix3 b l 0 := by
      funext a
      match a with
      | ⟨0, _⟩ => rfl
      | ⟨1, _⟩ => rfl
      | ⟨2, _⟩ => rfl
    show min (y (gather_S11x1024_S16384x50x1_S16384x50x1024_2_0_n_n_0_2_11024.siIdx (ix3 b l v) ⟨0, _⟩)).toInt.toNat 10 + 0 + 0
      = (y (ix3 b l 0)).toNat % 11
    rw [hs, StableHlo.Predicate.toInt_eq_toNat_of_lt (by omega)]
    omega
  | ⟨1, _⟩ =>
    show 0 + 0 + v.val = v.val
    omega

/-- A row read from the action table. -/
theorem gatherA (tab : FVec Ideal S4x1024 .f32) (y : IVec S16384x1 32) (b : Fin 16384) (v : Fin 1024) (h : (y (ix2 b 0)).toNat < 4) :
    Host.gather gather_S4x1024_S16384x1_S16384x1024_1_0_n_n_0_1_11024 tab y (ix2 b v) = tab (ix2 (rowA (y (ix2 b 0))) v) := by
  unfold Host.gather
  congr 1
  funext a
  apply Fin.ext
  match a with
  | ⟨0, _⟩ =>
    have hs : gather_S4x1024_S16384x1_S16384x1024_1_0_n_n_0_1_11024.siIdx (ix2 b v) ⟨0, by decide⟩ = ix2 b 0 := by
      funext a
      match a with
      | ⟨0, _⟩ => rfl
      | ⟨1, _⟩ => rfl
    show min (y (gather_S4x1024_S16384x1_S16384x1024_1_0_n_n_0_1_11024.siIdx (ix2 b v) ⟨0, _⟩)).toInt.toNat 3 + 0 + 0
      = (y (ix2 b 0)).toNat % 4
    rw [hs, StableHlo.Predicate.toInt_eq_toNat_of_lt (by omega)]
    omega
  | ⟨1, _⟩ =>
    show 0 + 0 + v.val = v.val
    omega

/-- The row of a feature token. -/
theorem takeF_apply (tab : FVec Ideal S11x1024 .f32) (x : IVec S16384x50 32) (b : Fin 16384) (l : Fin 50) (v : Fin 1024) (h : (x (ix2 b l)).toNat < 11) :
    takeF tab x (ix3 b l v) = tab (ix2 (rowF (x (ix2 b l))) v) := by
  pointwise [takeF]
  rw [okF_apply x b l h, gatherF tab (idF x) b l v (by rw [idF_apply x b l h]; exact h), idF_apply x b l h]
  rfl

/-- The row of an action. -/
theorem takeA_apply (tab : FVec Ideal S4x1024 .f32) (x : IVec S16384 32) (b : Fin 16384) (v : Fin 1024) (h : (x (ix1 b)).toNat < 4) :
    takeA tab x (ix2 b v) = tab (ix2 (rowA (x (ix1 b))) v) := by
  pointwise [takeA]
  rw [okA_apply x b h, gatherA tab (idA x) b v (by rw [idA_apply x b h]; exact h), idA_apply x b h]
  rfl

/-- A gate at an index. -/
theorem gateRow_apply (g : FVec Ideal S1x1x1024 .f32) (b : Fin 16384) (v : Fin 1024) : gateRow g (ix2 b v) = Ideal.logistic (g (ix3 0 0 v)) := by
  pointwise [gateRow]
  rfl

/-- A step of the features: the rows its tokens name summed, times its gate. -/
theorem stepF_apply (tab : FVec Ideal S11x1024 .f32) (x : IVec S16384x1x50 32) (g : FVec Ideal S1x1x1024 .f32) (b : Fin 16384) (v : Fin 1024)
    (h : ∀ l : Fin 50, (x (ix3 b 0 l)).toNat < 11) :
    stepF tab x g (ix2 b v) = (∑ l : Fin 50, tab (ix2 (rowF (x (ix3 b 0 l))) v)) * Ideal.logistic (g (ix3 0 0 v)) := by
  have e : ∀ l : Fin 50, shapeCast S16384x50 x shapeCasts_S16384x1x50_S16384x50 (ix2 b l) = x (ix3 b 0 l) := fun l => by pointwise []
  have e' : ∀ l : Fin 50, takeF tab (shapeCast S16384x50 x shapeCasts_S16384x1x50_S16384x50) (ix3 b l v) = tab (ix2 (rowF (x (ix3 b 0 l))) v) :=
    fun l => by rw [takeF_apply _ _ b l v (by rw [e]; exact h l), e]
  pointwise [stepF]
  rw [gateRow_apply]
  simp only [e']

/-- A step of the actions: the row its action names, times its gate. -/
theorem stepA_apply (tab : FVec Ideal S4x1024 .f32) (x : IVec S16384x1 32) (g : FVec Ideal S1x1x1024 .f32) (b : Fin 16384) (v : Fin 1024)
    (h : (x (ix2 b 0)).toNat < 4) :
    stepA tab x g (ix2 b v) = tab (ix2 (rowA (x (ix2 b 0))) v) * Ideal.logistic (g (ix3 0 0 v)) := by
  have e : shapeCast S16384 x shapeCasts_S16384x1_S16384 (ix1 b) = x (ix2 b 0) := by pointwise []
  pointwise [stepA]
  rw [gateRow_apply, takeA_apply _ _ b v (by rw [e]; exact h), e]

/-- The feature embeddings: three gated steps. -/
theorem featR_apply (a0 : IVec S16384x3x50 32) (a2 : FVec Ideal S11x1024 .f32) (a3 : FVec Ideal S3x1x1024 .f32) (b : Fin 16384) (v : Fin 1024)
    (h : ∀ (t : Fin 3) (l : Fin 50), (a0 (ix3 b t l)).toNat < 11) :
    featR a0 a2 a3 (ix2 b v) = ∑ t : Fin 3, (∑ l : Fin 50, a2 (ix2 (rowF (a0 (ix3 b t l))) v)) * Ideal.logistic (a3 (ix3 t 0 v)) := by
  have e0 : ∀ l : Fin 50, extractStridedSlice S16384x1x50 ![0, 0, 0] a0 slices_S16384x3x50_S16384x1x50_0_0_0 (ix3 b 0 l) = a0 (ix3 b 0 l) :=
    fun l => by pointwise []
  have e1 : ∀ l : Fin 50, extractStridedSlice S16384x1x50 ![0, 1, 0] a0 slices_S16384x3x50_S16384x1x50_0_1_0 (ix3 b 0 l) = a0 (ix3 b 1 l) :=
    fun l => by pointwise []
  have e2 : ∀ l : Fin 50, extractStridedSlice S16384x1x50 ![0, 2, 0] a0 slices_S16384x3x50_S16384x1x50_0_2_0 (ix3 b 0 l) = a0 (ix3 b 2 l) :=
    fun l => by pointwise []
  pointwise [featR, zeros]
  rw [stepF_apply _ _ _ b v (fun l => by rw [e0]; exact h 0 l), stepF_apply _ _ _ b v (fun l => by rw [e1]; exact h 1 l),
    stepF_apply _ _ _ b v (fun l => by rw [e2]; exact h 2 l), Fin.sum_univ_three]
  simp only [e0, e1, e2]
  pointwise []

/-- The action embeddings: two gated steps. -/
theorem actR_apply (a1 : IVec S16384x2 32) (a4 : FVec Ideal S4x1024 .f32) (a5 : FVec Ideal S2x1x1024 .f32) (b : Fin 16384) (v : Fin 1024)
    (h : ∀ t : Fin 2, (a1 (ix2 b t)).toNat < 4) :
    actR a1 a4 a5 (ix2 b v) = ∑ t : Fin 2, a4 (ix2 (rowA (a1 (ix2 b t))) v) * Ideal.logistic (a5 (ix3 t 0 v)) := by
  have e0 : extractStridedSlice S16384x1 ![0, 0] a1 slices_S16384x2_S16384x1_0_0 (ix2 b 0) = a1 (ix2 b 0) := by pointwise []
  have e1 : extractStridedSlice S16384x1 ![0, 1] a1 slices_S16384x2_S16384x1_0_1 (ix2 b 0) = a1 (ix2 b 1) := by pointwise []
  pointwise [actR, zeros]
  rw [stepA_apply _ _ _ b v (by rw [e0]; exact h 0), stepA_apply _ _ _ b v (by rw [e1]; exact h 1), Fin.sum_univ_two, e0, e1]
  pointwise []

/-- A probability at an index. -/
theorem probR_apply (x : FVec Ideal S16384x1024 .f32) (b : Fin 16384) (v : Fin 1024) : probR x (ix2 b v) = Ideal.logistic (x (ix2 b v)) := by
  pointwise [probR]
  rfl

/-- A message at an index. -/
theorem msgR_apply (u p : FVec Ideal S16384x1024 .f32) (b : Fin 16384) (v : Fin 1024) :
    msgR u p (ix2 b v) = if u (ix2 b v) < p (ix2 b v) then 1 else 0 := by
  pointwise [msgR]
  by_cases h : u (ix2 b v) < p (ix2 b v)
  · simp only [h, decide_true, if_true]
    show (((1#1 : BitVec 1).toNat : ℝ) : EReal) = 1
    simp
  · simp only [h, decide_false, if_false]
    show (((0#1 : BitVec 1).toNat : ℝ) : EReal) = 0
    simp

/-- A value at an index. -/
theorem valR_apply (f a : FVec Ideal S16384x1024 .f32) (w : FVec Ideal S2048x1 .f32) (b : FVec Ideal S1 .f32) (r : Fin 16384) :
    valR f a w b (ix2 r 0) = (∑ v : Fin 1024, f (ix2 r v) * w (ix2 (v.castLE (by decide)) 0))
      + (∑ v : Fin 1024, a (ix2 r v) * w (ix2 (v.natAdd 1024) 0)) + b (ix1 0) := by
  pointwise [valR]
  rfl

end Cert.Proof.Ref
-- ==== Proof.Equal.lean ====
/- The two programs' embeddings are equal: the histogram times the gated table is the sum of the gated rows the tokens name. -/
module

public import proofs.«01_k».proof.Proof.Arrays
public import proofs.«01_k».proof.Proof.KValue
public import proofs.«01_k».proof.Proof.RefValue

@[expose] public section

noncomputable section

namespace Cert.Proof.Equal

open Cert.KernelIdeal Idealize.ShloMosaic Idealize.ShloMosaic.TcCoe
open Cert.Proof.Arrays (embG probG msgG valG)
open Cert.Proof.KHost (idxK tabF tabA idxF_apply idxA_apply)
open Cert.Proof.Ref (featR actR probR msgR valR rowF rowA)
open Cert.Proof.Model (hist_mul sum_tokens sum_mul_real gate_real)

variable (a0 : IVec S16384x3x50 32) (a1 : IVec S16384x2 32) (a2 : FVec Ideal S11x1024 .f32) (a3 : FVec Ideal S3x1x1024 .f32)
  (a4 : FVec Ideal S4x1024 .f32) (a5 : FVec Ideal S2x1x1024 .f32) (w : FVec Ideal S2048x1 .f32) (bv : FVec Ideal S1 .f32) (u : FVec Ideal S16384x1024 .f32)
  (h0 : ∀ i, (a0 i).toNat < 11) (h1 : ∀ i, (a1 i).toNat < 4) (b : Fin 16384) (v : Fin 1024)

include h0 h1

/-- Every index of a row is below 48. -/
theorem idx_lt (l : Fin 152) : (idxK a0 a1 (ix2 b l)).toNat < 48 := by
  by_cases hl : l.val < 150
  · have e := idxF_apply a0 a1 b ⟨l.val / 50, by omega⟩ ⟨l.val % 50, by omega⟩ (h0 _)
    have hh := h0 (ix3 b ⟨l.val / 50, by omega⟩ ⟨l.val % 50, by omega⟩)
    rw [show (⟨l.val % 50 + 50 * (l.val / 50), _⟩ : Fin 152) = l from Fin.ext (Nat.mod_add_div _ _)] at e
    rw [e]
    show _ + 11 * (l.val / 50) < 48
    omega
  · have e := idxA_apply a0 a1 b ⟨l.val - 150, by omega⟩ (h1 _)
    have hh := h1 (ix2 b ⟨l.val - 150, by omega⟩)
    rw [show (⟨150 + (l.val - 150), _⟩ : Fin 152) = l from Fin.ext (by show 150 + (l.val - 150) = l.val; omega)] at e
    rw [e]
    show _ + 4 * (l.val - 150) < 48
    omega

/-- The feature embedding. -/
theorem feat_eq : embG (idxK a0 a1) (tabF a2 a3) b v = featR a0 a2 a3 (ix2 b v) := by
  unfold embG
  rw [Cert.Proof.Ref.featR_apply a0 a2 a3 b v (fun t l => h0 _), hist_mul (fun l => idxK a0 a1 (ix2 b l)) (idx_lt a0 a1 h0 h1 b) (fun k => tabF a2 a3 (ix2 k v)),
    sum_tokens]
  have hA : ∑ t : Fin 2, tabF a2 a3 (ix2 ⟨(idxK a0 a1 (ix2 b ⟨150 + t.val, by omega⟩)).toNat, idx_lt a0 a1 h0 h1 b _⟩ v) = 0 :=
    Finset.sum_eq_zero fun t _ => KHost.tabF_rest a2 a3 _ v (by
      show 33 ≤ (idxK a0 a1 (ix2 b ⟨150 + t.val, _⟩)).toNat
      rw [idxA_apply a0 a1 b t (h1 _)]; omega)
  rw [hA, add_zero]
  refine Finset.sum_congr rfl fun t _ => ?_
  rw [sum_mul_real _ _ _ (gate_real _).1 (gate_real _).2]
  refine Finset.sum_congr rfl fun j _ => ?_
  have hh := h0 (ix3 b t j)
  rw [← KHost.rowsF_apply a2 a3 t (rowF (a0 (ix3 b t j))) v]
  refine KHost.tabF_row a2 a3 _ _ v ?_
  show (a0 (ix3 b t j)).toNat % 11 + 11 * t.val = (idxK a0 a1 (ix2 b ⟨j.val + 50 * t.val, _⟩)).toNat
  rw [idxF_apply a0 a1 b t j hh]
  omega

/-- The action embedding. -/
theorem act_eq : embG (idxK a0 a1) (tabA a4 a5) b v = actR a1 a4 a5 (ix2 b v) := by
  unfold embG
  rw [Cert.Proof.Ref.actR_apply a1 a4 a5 b v (fun t => h1 _), hist_mul (fun l => idxK a0 a1 (ix2 b l)) (idx_lt a0 a1 h0 h1 b) (fun k => tabA a4 a5 (ix2 k v)),
    sum_tokens]
  have hF : ∑ t : Fin 3, ∑ j : Fin 50, tabA a4 a5 (ix2 ⟨(idxK a0 a1 (ix2 b ⟨j.val + 50 * t.val, by omega⟩)).toNat, idx_lt a0 a1 h0 h1 b _⟩ v) = 0 :=
    Finset.sum_eq_zero fun t _ => Finset.sum_eq_zero fun j _ => KHost.tabA_rest a4 a5 _ v (by
      have hh := h0 (ix3 b t j)
      show (idxK a0 a1 (ix2 b ⟨j.val + 50 * t.val, _⟩)).toNat < 33
      rw [idxF_apply a0 a1 b t j hh]; omega)
  rw [hF, zero_add]
  refine Finset.sum_congr rfl fun t _ => ?_
  have hh := h1 (ix2 b t)
  rw [← KHost.rowsA_apply a4 a5 t (rowA (a1 (ix2 b t))) v]
  refine KHost.tabA_row a4 a5 _ _ v ?_
  show 33 + ((a1 (ix2 b t)).toNat % 4 + 4 * t.val) = (idxK a0 a1 (ix2 b ⟨150 + t.val, _⟩)).toNat
  rw [idxA_apply a0 a1 b t hh]
  omega

omit h0 h1 in
/-- Equal embeddings have equal probabilities. -/
theorem prob_of (X : IVec S16384x152 32) (T : FVec Ideal S48x1024 .f32) (f : FVec Ideal S16384x1024 .f32) (h : ∀ b v, embG X T b v = f (ix2 b v)) :
    probG X T = probR f := by
  funext i
  obtain ⟨b, v, rfl⟩ : ∃ (b : Fin 16384) (v : Fin 1024), i = ix2 b v := ⟨i 0, i 1, eq_ix2 i⟩
  rw [Cert.Proof.Ref.probR_apply, ← h]
  rfl

omit h0 h1 in
/-- Equal embeddings have equal messages. -/
theorem msg_of (X : IVec S16384x152 32) (T : FVec Ideal S48x1024 .f32) (f : FVec Ideal S16384x1024 .f32) (h : ∀ b v, embG X T b v = f (ix2 b v)) :
    msgG X T u = msgR u (probR f) := by
  funext i
  obtain ⟨b, v, rfl⟩ : ∃ (b : Fin 16384) (v : Fin 1024), i = ix2 b v := ⟨i 0, i 1, eq_ix2 i⟩
  rw [Cert.Proof.Ref.msgR_apply, Cert.Proof.Ref.probR_apply, ← h]
  rfl

omit h0 h1 in
/-- Equal embeddings have equal values. -/
theorem val_of (X : IVec S16384x152 32) (T T' : FVec Ideal S48x1024 .f32) (f f' : FVec Ideal S16384x1024 .f32)
    (h : ∀ b v, embG X T b v = f (ix2 b v)) (h' : ∀ b v, embG X T' b v = f' (ix2 b v)) (e : S1.ShapeCasts S1x1) :
    valG X T T' w (shapeCast S1x1 bv e) = valR f f' w bv := by
  funext i
  have hb : shapeCast S1x1 bv e (ix2 0 0) = bv (ix1 0) := by pointwise []
  obtain ⟨b, z, rfl⟩ : ∃ (b : Fin 16384) (z : Fin 1), i = ix2 b z := ⟨i 0, i 1, eq_ix2 i⟩
  rw [show z = 0 from Subsingleton.elim _ _, Cert.Proof.Ref.valR_apply]
  have hv : valG X T T' w (shapeCast S1x1 bv e) (ix2 b 0) = (∑ v : Fin 1024, embG X T b v * w (ix2 (v.castLE (by decide)) 0))
      + (∑ v : Fin 1024, embG X T' b v * w (ix2 (v.natAdd 1024) 0)) + shapeCast S1x1 bv e (ix2 0 0) := rfl
  rw [hv, hb]
  simp only [h, h']

end Cert.Proof.Equal
-- ==== Proof.RefRun.lean ====
/- The reference's run: every final state has each buffer at what the line of operations leaves in it, and the
   arguments as they were. -/
module

public import proofs.«01_k».proof.Proof.RefRead
public import proofs.«01_k».proof.Defs
public import Idealize.ShloMosaic.Adequacy
public import Idealize.ShloMosaic.Lib.Quiescent

@[expose] public section

set_option maxRecDepth 20000

noncomputable section

namespace Cert.Proof.Ref

open Cert.ReferenceIdeal Cert.ReferenceIdeal.Facts₀ Idealize.ShloMosaic Idealize.ShloMosaic.TcCoe Idealize.ShloMosaic.StableHlo Idealize.SL.Sem

/-- The run, every buffer named. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = after (mainOps d) (launchContents m d) (Proc.devRef .tc b) :=
  run_seq (by decide) (by decide) defs main (fun d => mainOps d) (fun d => (mainLine d).seq)
    (fun d => List.forall_iff_forall_mem.2 fun o ho => ((mainLine d).tame o ho).sub) m ρ
    (fun d o ho => ((mainLine d).tame o ho).fresh)

/-- The reference leaves its arguments and its counters as they were. -/
theorem frame : Cert.quiescent_ReferenceIdeal := by
  intro m ρ _
  refine (θ_run _ _ _).mono (fun r h => ⟨fun c => ?_, sem_eq_zero_of_no_sems (by decide) r.2⟩) (run_all m ρ)
  obtain ⟨h0, h1, h2, h3, h4, h5, h6, h7⟩ := read_args (c := c) (V := launchContents m c)
  exact ⟨(h c _).trans h0, (h c _).trans h1, (h c _).trans h2, (h c _).trans h3, (h c _).trans h4, (h c _).trans h5,
    (h c _).trans h6, (h c _).trans h7⟩

end Cert.Proof.Ref
-- ==== Proof.Results.lean ====
/- The five results of the two programs, from memories that agree on the arguments: what the kernel ends with is what the
   reference ends with. -/
module

public import proofs.«01_k».proof.Proof.Equal
public import proofs.«01_k».proof.Proof.RefRun

@[expose] public section

set_option maxRecDepth 16384

noncomputable section

namespace Cert.Proof.Results

open Idealize.ShloMosaic Idealize.ShloMosaic.TcCoe Idealize.ShloMosaic.StableHlo Idealize.SL.Sem
open Cert.Proof.Arrays (probG msgG valG)
open Cert.Proof.KHost (idxK tabF tabA all_ops)
open Cert.Proof.Ref (featR actR probR msgR valR mainOps)
open Cert.KernelIdeal (main_arg0 main_arg1 main_arg2 main_arg3 main_arg4 main_arg5 main_arg6 main_arg7)

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

/-- The memory's contents of a buffer on a device. -/
abbrev at_ (b : Ref Cert.KernelIdeal.sig .tc) : Buf (Elt Ideal) ((c : Thread Cert.KernelIdeal.nD Cert.KernelIdeal.τ).loc b) :=
  m ((c : Thread Cert.KernelIdeal.nD Cert.KernelIdeal.τ).loc b)

/-! What the region reads, from the memory at launch. -/

theorem x_eq : Arrays.X m c = idxK (at_ m c main_arg0) (at_ m c main_arg1) := by
  unfold Arrays.X Cert.KernelIdeal.Gen.V; rw [all_ops]; exact KHost.read_idx _

theorem tf_eq : Arrays.TF m c = tabF (at_ m c main_arg2) (at_ m c main_arg3) := by
  unfold Arrays.TF Cert.KernelIdeal.Gen.V; rw [all_ops]; exact KHost.read_tabF _

theorem ta_eq : Arrays.TA m c = tabA (at_ m c main_arg4) (at_ m c main_arg5) := by
  unfold Arrays.TA Cert.KernelIdeal.Gen.V; rw [all_ops]; exact KHost.read_tabA _

theorem w_eq : Arrays.W m c = at_ m c main_arg6 := by
  unfold Arrays.W Cert.KernelIdeal.Gen.V; rw [all_ops]; exact KHost.read_w _

theorem b_eq : Arrays.B m c = shapeCast Cert.KernelIdeal.S1x1 (at_ m c main_arg7) Cert.KernelIdeal.Facts₀.shapeCasts_S1_S1x1 := by
  unfold Arrays.B Cert.KernelIdeal.Gen.V; rw [all_ops]; exact KHost.read_b _

variable (L : Unif.VR)

theorem uf_eq : Arrays.UF m c = after (mainOps c) L (Proc.devRef .tc Cert.ReferenceIdeal.main_call6_v0) := by
  unfold Arrays.UF Cert.KernelIdeal.Gen.V; rw [all_ops]; exact (Unif.u0_eq c L _).symm

theorem ua_eq : Arrays.UA m c = after (mainOps c) L (Proc.devRef .tc Cert.ReferenceIdeal.main_call8_v0) := by
  unfold Arrays.UA Cert.KernelIdeal.Gen.V; rw [all_ops]; exact (Unif.u1_eq c L _).symm

/-- Contents of the reference's buffers that agree with the kernel's memory on the arguments. -/
def Agree : Prop :=
  L (Proc.devRef .tc Cert.ReferenceIdeal.main_arg0) = at_ m c main_arg0
  ∧ L (Proc.devRef .tc Cert.ReferenceIdeal.main_arg1) = at_ m c main_arg1
  ∧ L (Proc.devRef .tc Cert.ReferenceIdeal.main_arg2) = at_ m c main_arg2
  ∧ L (Proc.devRef .tc Cert.ReferenceIdeal.main_arg3) = at_ m c main_arg3
  ∧ L (Proc.devRef .tc Cert.ReferenceIdeal.main_arg4) = at_ m c main_arg4
  ∧ L (Proc.devRef .tc Cert.ReferenceIdeal.main_arg5) = at_ m c main_arg5
  ∧ L (Proc.devRef .tc Cert.ReferenceIdeal.main_arg6) = at_ m c main_arg6
  ∧ L (Proc.devRef .tc Cert.ReferenceIdeal.main_arg7) = at_ m c main_arg7

variable (hL : Agree m c L)
  (h0 : ∀ i, ((at_ m c main_arg0 : IVec Cert.KernelIdeal.S16384x3x50 32) i).toNat < 11)
  (h1 : ∀ i, ((at_ m c main_arg1 : IVec Cert.KernelIdeal.S16384x2 32) i).toNat < 4)

include hL h0 h1

/-- The feature embeddings agree. -/
theorem feat (b : Fin 16384) (v : Fin 1024) :
    Arrays.embG (Arrays.X m c) (Arrays.TF m c) b v
      = (after (mainOps c) L (Proc.devRef .tc Cert.ReferenceIdeal.main_v45) : FVec Ideal Cert.KernelIdeal.S16384x1024 .f32) (ix2 b v) := by
  obtain ⟨e0, e1, e2, e3, e4, e5, e6, e7⟩ := hL
  rw [Ref.read_feat, e0, e2, e3, x_eq, tf_eq]
  exact Equal.feat_eq _ _ _ _ h0 h1 b v

/-- The action embeddings agree. -/
theorem act (b : Fin 16384) (v : Fin 1024) :
    Arrays.embG (Arrays.X m c) (Arrays.TA m c) b v
      = (after (mainOps c) L (Proc.devRef .tc Cert.ReferenceIdeal.main_v74) : FVec Ideal Cert.KernelIdeal.S16384x1024 .f32) (ix2 b v) := by
  obtain ⟨e0, e1, e2, e3, e4, e5, e6, e7⟩ := hL
  rw [Ref.read_act, e1, e4, e5, x_eq, ta_eq]
  exact Equal.act_eq _ _ _ _ h0 h1 b v

/-- The feature probabilities. -/
theorem fprob : after (mainOps c) L (Proc.devRef .tc Cert.ReferenceIdeal.main_v80) = probG (Arrays.X m c) (Arrays.TF m c) :=
  (Ref.read_fprob c L).trans (Equal.prob_of _ _ _ (feat m c L hL h0 h1)).symm

/-- The action probabilities. -/
theorem aprob : after (mainOps c) L (Proc.devRef .tc Cert.ReferenceIdeal.main_v86) = probG (Arrays.X m c) (Arrays.TA m c) :=
  (Ref.read_aprob c L).trans (Equal.prob_of _ _ _ (act m c L hL h0 h1)).symm

/-- The feature messages. -/
theorem fmsg : after (mainOps c) L (Proc.devRef .tc Cert.ReferenceIdeal.main_v96) = msgG (Arrays.X m c) (Arrays.TF m c) (Arrays.UF m c) := by
  rw [Ref.read_fmsg, Ref.read_fprob, uf_eq m c L]
  exact (Equal.msg_of _ _ _ _ (feat m c L hL h0 h1)).symm

/-- The action messages. -/
theorem amsg : after (mainOps c) L (Proc.devRef .tc Cert.ReferenceIdeal.main_v99) = msgG (Arrays.X m c) (Arrays.TA m c) (Arrays.UA m c) := by
  rw [Ref.read_amsg, Ref.read_aprob, ua_eq m c L]
  exact (Equal.msg_of _ _ _ _ (act m c L hL h0 h1)).symm

/-- The values. -/
theorem val : after (mainOps c) L (Proc.devRef .tc Cert.ReferenceIdeal.main_v104)
    = valG (Arrays.X m c) (Arrays.TF m c) (Arrays.TA m c) (Arrays.W m c) (Arrays.B m c) := by
  have hf := feat m c L hL h0 h1
  have ha := act m c L hL h0 h1
  obtain ⟨e0, e1, e2, e3, e4, e5, e6, e7⟩ := hL
  obtain ⟨k0, k1, k2, k3, k4, k5, k6, k7⟩ := Ref.read_args c L
  rw [Ref.read_val, k6, k7, e6, e7, w_eq, b_eq]
  exact (Equal.val_of _ _ _ _ _ _ _ hf ha _).symm

end Cert.Proof.Results
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_tokens_in_range
public import proofs.«01_k».proof.Proof.PreRead
public import proofs.«01_k».proof.Proof.Results
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The kernel and the reference end with the same results. -/
theorem algebraic : Cert.algebraic_KernelIdeal_ReferenceIdeal_pre_tokens_in_range := by
  intro m g m' g' hpre hargs
  have hr := fun c => PreRead.ranges _ _ _ _ _ _ _ _ (hpre c)
  have hL : ∀ c, Results.Agree m c (launchContents m' c) := fun c => hargs c
  refine ⟨fun c => Arrays.msgG (Arrays.X m c) (Arrays.TF m c) (Arrays.UF m c), fun c => Arrays.msgG (Arrays.X m c) (Arrays.TA m c) (Arrays.UA m c),
    fun c => Arrays.probG (Arrays.X m c) (Arrays.TF m c), fun c => Arrays.probG (Arrays.X m c) (Arrays.TA m c),
    fun c => Arrays.valG (Arrays.X m c) (Arrays.TF m c) (Arrays.TA m c) (Arrays.W m c) (Arrays.B m c), ?_, ?_⟩
  · refine (θ_run _ _ _).mono (fun r h c => ?_) (Cert.KernelIdeal.Value.run_blocks m g)
    obtain ⟨h0, h1, h2, h3, h4, ha⟩ := h c
    exact ⟨h0.trans (Arrays.final7 m c), h1.trans (Arrays.final8 m c), h2.trans (Arrays.final9 m c), h3.trans (Arrays.final10 m c),
      h4.trans (Arrays.final11 m c), ha⟩
  · refine (θ_run _ _ _).mono (fun r h c => ?_) (Ref.run_all m' g')
    obtain ⟨k0, k1, k2, k3, k4, k5, k6, k7⟩ := Ref.read_args c (launchContents m' c)
    have q := hL c
    have p := (hr c).1
    have p' := (hr c).2
    exact ⟨(h c _).trans (Results.fmsg m c _ q p p'), (h c _).trans (Results.amsg m c _ q p p'), (h c _).trans (Results.fprob m c _ q p p'),
      (h c _).trans (Results.aprob m c _ q p p'), (h c _).trans (Results.val m c _ q p p'), (h c _).trans k0, (h c _).trans k1, (h c _).trans k2,
      (h c _).trans k3, (h c _).trans k4, (h c _).trans k5, (h c _).trans k6, (h c _).trans k7⟩

/-- The claims, all of them. -/
theorem claim : Cert.Claim := ⟨Cert.Kernel.Gen.facts, Cert.KernelIdeal.Gen.facts, Cert.ReferenceIdeal.Gen.facts, Cert.Pre_tokens_in_range.Gen.facts,
  fun m ρ _ => Cert.Kernel.Gen.frame m ρ, fun m ρ _ => Cert.KernelIdeal.Gen.frame m ρ, fun m ρ _ => Cert.KernelIdeal.Gen.frame m ρ,
  Ref.frame, fun m ρ _ => Ref.frame m ρ trivial, trivial, algebraic⟩

end Cert.Proof

end
